-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs [hPre_finite_inputs : Cert.Pre_finite_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs [hPre_finite_inputs : Cert.Pre_finite_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_inputs [hKernel5Ideal : Cert.Kernel5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_inputs [hReference5Ideal : Cert.Reference5Ideal.Facts] [hPre_finite_inputs : Cert.Pre_finite_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_v58) = v3 c
          ∧ r.2.mem ((c.tc : Thread Cert.Reference4Ideal.nD Cert.Reference4Ideal.τ).loc Cert.Reference4Ideal.main_v60) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_inputs [hKernel5Ideal : Cert.Kernel5Ideal.Facts] [hReference5Ideal : Cert.Reference5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v161) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs (hKernel5Ideal := hKernel5Ideal) (hPre_finite_inputs := hPre_finite_inputs)
    ∧ quiescent_Reference5Ideal (hReference5Ideal := hReference5Ideal)
    ∧ quiescent_Reference5Ideal_pre_finite_inputs (hReference5Ideal := hReference5Ideal) (hPre_finite_inputs := hPre_finite_inputs)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs (hKernel5Ideal := hKernel5Ideal) (hReference5Ideal := hReference5Ideal) (hPre_finite_inputs := hPre_finite_inputs)
-- ==== Pre_finite_inputs.lean ====
abbrev S8x4096x1024 : Shape := ⟨3, ![8, 4096, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x512 : Shape := ⟨2, ![1024, 512]⟩
abbrev S_ : Shape := ⟨0, ![]⟩

class Facts : Prop where
  slices_S1024x2048_S1024x512_0_1536 : S1024x2048.Slices ![0, 1536] S1024x512
  bcast_S_S1024 : S_.BroadcastsInDim S1024 (![] : Fin 0 → Fin S1024.rank)
  bcast_S_S1024x512 : S_.BroadcastsInDim S1024x512 (![] : Fin 0 → Fin S1024x512.rank)

variable [Facts]

def fn {F : FTy → Type} [FloatOps F] (main_arg0 : FVec F S8x4096x1024 .f32) (main_arg1 : FVec F S1024 .f32) (main_arg2 : FVec F S1024x2048 .f32) (main_arg3 : FVec F S3x512 .f32) (main_arg4 : FVec F S4x128x128 .f32) (main_arg5 : FVec F S512 .f32) : IVec S1024 1 × IVec S1024x512 1 :=
  let main_v0 : FVec F S1024x512 .f32 := (extractStridedSlice S1024x512 ![0, 1536] · slices_S1024x2048_S1024x512_0_1536) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x512 .f32 := Host.absf main_v0
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  (main_v3, main_v6)
-- ==== Kernel.lean ====
abbrev S8x4096x256 : Shape := ⟨3, ![8, 4096, 256]⟩
abbrev S8x4096x512 : Shape := ⟨3, ![8, 4096, 512]⟩
abbrev S8x4096x16 : Shape := ⟨3, ![8, 4096, 16]⟩
abbrev S16x256 : Shape := ⟨2, ![16, 256]⟩
abbrev S256 : Shape := ⟨1, ![256]⟩
abbrev S128 : Shape := ⟨1, ![128]⟩
abbrev S_ : Shape := ⟨0, ![]⟩
abbrev S8x4096x128 : Shape := ⟨3, ![8, 4096, 128]⟩
abbrev S8x4096x1152 : Shape := ⟨3, ![8, 4096, 1152]⟩
abbrev S32768x1152 : Shape := ⟨2, ![32768, 1152]⟩
abbrev S128x256 : Shape := ⟨2, ![128, 256]⟩
abbrev S32768x512 : Shape := ⟨2, ![32768, 512]⟩
abbrev S1x256 : Shape := ⟨2, ![1, 256]⟩
abbrev S1x128 : Shape := ⟨2, ![1, 128]⟩
abbrev S256x256 : Shape := ⟨2, ![256, 256]⟩
abbrev S1024x1152 : Shape := ⟨2, ![1024, 1152]⟩
abbrev S1024x512 : Shape := ⟨2, ![1024, 512]⟩
abbrev S4x128x128 : Shape := ⟨3, ![4, 128, 128]⟩
abbrev S256x128 : Shape := ⟨2, ![256, 128]⟩
abbrev S256x512 : Shape := ⟨2, ![256, 512]⟩
abbrev S64x256 : Shape := ⟨2, ![64, 256]⟩
abbrev S64x128 : Shape := ⟨2, ![64, 128]⟩
abbrev S128x128 : Shape := ⟨2, ![128, 128]⟩
abbrev S1x128x128 : Shape := ⟨3, ![1, 128, 128]⟩
abbrev S256x1 : Shape := ⟨2, ![256, 1]⟩

abbrev nBuf : Space → Nat
  | .hbm => 65
  | .vmem => 11
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x512, .f32⟩
  | .hbm, ⟨3, _⟩ => ⟨S8x4096x512, .f32⟩
  | .hbm, ⟨4, _⟩ => ⟨S8x4096x16, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S_, .i32⟩
  | .hbm, ⟨9, _⟩ => ⟨S_, .f32⟩
  | .hbm, ⟨10, _⟩ => ⟨S8x4096x128, .f32⟩
  | .hbm, ⟨11, _⟩ => ⟨S8x4096x1152, .f32⟩
  | .hbm, ⟨12, _⟩ => ⟨S32768x1152, .f32⟩
  | .hbm, ⟨13, _⟩ => ⟨S_, .i32⟩
  | .hbm, ⟨14, _⟩ => ⟨S_, .f32⟩
  | .hbm, ⟨15, _⟩ => ⟨S128x256, .f32⟩
  | .hbm, ⟨16, _⟩ => ⟨S128x256, .bf16⟩
  | .hbm, ⟨17, _⟩ => ⟨S32768x512, .f32⟩
  | .hbm, ⟨18, _⟩ => ⟨S32768x512, .bf16⟩
  | .hbm, ⟨19, _⟩ => ⟨S1x256, .f32⟩
  | .hbm, ⟨20, _⟩ => ⟨S1x128, .f32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i1⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i1⟩
  | .hbm, ⟨36, _⟩ => ⟨S256x256, .i1⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S_, .i32⟩
  | .hbm, ⟨42, _⟩ => ⟨S_, .i32⟩
  | .hbm, ⟨43, _⟩ => ⟨S256x256, .i32⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S256x256, .i32⟩
  | .hbm, ⟨48, _⟩ => ⟨S256x256, .i1⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S256x256, .i32⟩
  | .hbm, ⟨53, _⟩ => ⟨S256x256, .i1⟩
  | .hbm, ⟨54, _⟩ => ⟨S256x256, .i1⟩
  | .hbm, ⟨55, _⟩ => ⟨S_, .i32⟩
  | .hbm, ⟨56, _⟩ => ⟨S256x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .i1⟩
  | .hbm, ⟨61, _⟩ => ⟨S256x256, .i1⟩
  | .hbm, ⟨62, _⟩ => ⟨S256x256, .f32⟩
  | .hbm, ⟨63, _⟩ => ⟨S256x256, .bf16⟩
  | .hbm, ⟨64, _⟩ => ⟨S32768x512, .bf16⟩
  | .local _ .vmem, ⟨0, _⟩ => ⟨S1024x1152, .f32⟩
  | .local _ .vmem, ⟨1, _⟩ => ⟨S1024x1152, .f32⟩
  | .local _ .vmem, ⟨2, _⟩ => ⟨S1024x512, .bf16⟩
  | .local _ .vmem, ⟨3, _⟩ => ⟨S1024x512, .bf16⟩
  | .local _ .vmem, ⟨4, _⟩ => ⟨S128x256, .bf16⟩
  | .local _ .vmem, ⟨5, _⟩ => ⟨S1x256, .f32⟩
  | .local _ .vmem, ⟨6, _⟩ => ⟨S1x128, .f32⟩
  | .local _ .vmem, ⟨7, _⟩ => ⟨S256x256, .bf16⟩
  | .local _ .vmem, ⟨8, _⟩ => ⟨S1024x512, .bf16⟩
  | .local _ .vmem, ⟨9, _⟩ => ⟨S1024x512, .bf16⟩
  | .local _ .vmem, ⟨10, _⟩ => ⟨S4x128x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v11 : Ref sig .tc := ⟨.hbm, 40, rfl⟩
abbrev main_c_2 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_c : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_0 : Ref sig .tc := ⟨.hbm, 55, rfl⟩
abbrev main_call3_v12 : Ref sig .tc := ⟨.hbm, 56, rfl⟩
abbrev main_call3_v13 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x256 : Shape := ⟨3, ![8, 4096, 256]⟩
abbrev S8x4096x512 : Shape := ⟨3, ![8, 4096, 512]⟩
abbrev S8x4096x16 : Shape := ⟨3, ![8, 4096, 16]⟩
abbrev S16x256 : Shape := ⟨2, ![16, 256]⟩
abbrev S256 : Shape := ⟨1, ![256]⟩
abbrev S128 : Shape := ⟨1, ![128]⟩
abbrev S1x1x256 : Shape := ⟨3, ![1, 1, 256]⟩
abbrev S_ : Shape := ⟨0, ![]⟩
abbrev S8x4096x4x64 : Shape := ⟨4, ![8, 4096, 4, 64]⟩
abbrev S8x4096x4x128 : Shape := ⟨4, ![8, 4096, 4, 128]⟩
abbrev S8x64x64x4x64 : Shape := ⟨5, ![8, 64, 64, 4, 64]⟩
abbrev S8x4x64x64x64 : Shape := ⟨5, ![8, 4, 64, 64, 64]⟩
abbrev S8x64x64x4x128 : Shape := ⟨5, ![8, 64, 64, 4, 128]⟩
abbrev S8x4x64x64x128 : Shape := ⟨5, ![8, 4, 64, 64, 128]⟩
abbrev S64x64 : Shape := ⟨2, ![64, 64]⟩
abbrev S8x4x64x1x64 : Shape := ⟨5, ![8, 4, 64, 1, 64]⟩
abbrev S8x4x64x64 : Shape := ⟨4, ![8, 4, 64, 64]⟩
abbrev S8x4x64x128 : Shape := ⟨4, ![8, 4, 64, 128]⟩
abbrev S64x8x4x64 : Shape := ⟨4, ![64, 8, 4, 64]⟩
abbrev S64x8x4x64x128 : Shape := ⟨5, ![64, 8, 4, 64, 128]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 151
  | .vmem => 0
  | .smem => 0
  | _ => 0

abbrev hbmTy0_0 (i : Nat) : BufTy := match i % 128 with
  | 0 => ⟨S8x4096x256, .f32⟩
  | 1 => ⟨S8x4096x256, .f32⟩
  | 2 => ⟨S8x4096x512, .f32⟩
  | 3 => ⟨S8x4096x512, .f32⟩
  | 4 => ⟨S8x4096x16, .f32⟩
  | 5 => ⟨S16x256, .f32⟩
  | 6 => ⟨S256, .f32⟩
  | 7 => ⟨S128, .f32⟩
  | 8 => ⟨S8x4096x256, .f32⟩
  | 9 => ⟨S1x1x256, .f32⟩
  | 10 => ⟨S8x4096x256, .f32⟩
  | 11 => ⟨S8x4096x256, .f32⟩
  | 12 => ⟨S8x4096x256, .f32⟩
  | 13 => ⟨S_, .f32⟩
  | 14 => ⟨S8x4096x256, .f32⟩
  | 15 => ⟨S8x4096x256, .f32⟩
  | 16 => ⟨S8x4096x256, .f32⟩
  | 17 => ⟨S8x4096x256, .f32⟩
  | 18 => ⟨S8x4096x256, .i1⟩
  | 19 => ⟨S8x4096x256, .f32⟩
  | 20 => ⟨S8x4096x256, .f32⟩
  | 21 => ⟨S8x4096x256, .f32⟩
  | 22 => ⟨S8x4096x256, .f32⟩
  | 23 => ⟨S8x4096x256, .f32⟩
  | 24 => ⟨S8x4096x256, .f32⟩
  | 25 => ⟨S8x4096x256, .f32⟩
  | 26 => ⟨S8x4096x256, .f32⟩
  | 27 => ⟨S8x4096x256, .f32⟩
  | 28 => ⟨S_, .f32⟩
  | 29 => ⟨S8x4096x256, .f32⟩
  | 30 => ⟨S8x4096x256, .f32⟩
  | 31 => ⟨S8x4096x4x64, .f32⟩
  | 32 => ⟨S8x4096x4x64, .f32⟩
  | 33 => ⟨S8x4096x4x128, .f32⟩
  | 34 => ⟨S8x4096x4x64, .f32⟩
  | 35 => ⟨S8x64x64x4x64, .f32⟩
  | 36 => ⟨S8x4x64x64x64, .f32⟩
  | 37 => ⟨S_, .f32⟩
  | 38 => ⟨S8x4x64x64x64, .f32⟩
  | 39 => ⟨S8x4x64x64x64, .f32⟩
  | 40 => ⟨S8x64x64x4x64, .f32⟩
  | 41 => ⟨S8x4x64x64x64, .f32⟩
  | 42 => ⟨S8x64x64x4x128, .f32⟩
  | 43 => ⟨S8x4x64x64x128, .f32⟩
  | 44 => ⟨S8x64x64x4x64, .f32⟩
  | 45 => ⟨S8x4x64x64x64, .f32⟩
  | 46 => ⟨S_, .f32⟩
  | 47 => ⟨S_, .f32⟩
  | 48 => ⟨S8x4x64x64x64, .f32⟩
  | 49 => ⟨S8x4x64x64x64, .f32⟩
  | 50 => ⟨S8x4x64x64x64, .f32⟩
  | 51 => ⟨S8x4x64x64x64, .f32⟩
  | 52 => ⟨S8x4x64x64x64, .f32⟩
  | 53 => ⟨S8x4x64x64x64, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S8x4x64x64x64, .f32⟩
  | 66 => ⟨S_, .f32⟩
  | 67 => ⟨S_, .f32⟩
  | 68 => ⟨S8x4x64x64x64, .i1⟩
  | 69 => ⟨S8x4x64x64x64, .f32⟩
  | 70 => ⟨S8x4x64x64x64, .f32⟩
  | 71 => ⟨S8x4x64x64x128, .f32⟩
  | 72 => ⟨S8x4x64x1x64, .f32⟩
  | 73 => ⟨S8x4x64x64x64, .f32⟩
  | 74 => ⟨S8x4x64x64x64, .f32⟩
  | 75 => ⟨S8x4x64x64x64, .f32⟩
  | 76 => ⟨S8x4x64x64x64, .f32⟩
  | 77 => ⟨S8x4x64x64x128, .f32⟩
  | 78 => ⟨S8x4x64x64, .f32⟩
  | 79 => ⟨S8x4x64x64, .f32⟩
  | 80 => ⟨S_, .f32⟩
  | 81 => ⟨S8x4x64x128, .f32⟩
  | 82 => ⟨S64x8x4x64, .f32⟩
  | 83 => ⟨S64x8x4x64x128, .f32⟩
  | 84 => ⟨S_, .f32⟩
  | 85 => ⟨S64x8x4x64x128, .f32⟩
  | 86 => ⟨S_, .i32⟩
  | 87 => ⟨S64x8x4x64, .f32⟩
  | 88 => ⟨S64x8x4x64x128, .f32⟩
  | 89 => ⟨S_, .i32⟩
  | 90 => ⟨S8x4x64x128, .f32⟩
  | 91 => ⟨S64x8x4x64x128, .f32⟩
  | 92 => ⟨S_, .i32⟩
  | 93 => ⟨S_, .i1⟩
  | 94 => ⟨S_, .i32⟩
  | 95 => ⟨S_, .i32⟩
  | 96 => ⟨S_, .i32⟩
  | 97 => ⟨S1x8x4x64, .f32⟩
  | 98 => ⟨S8x4x64, .f32⟩
  | 99 => ⟨S_, .i32⟩
  | 100 => ⟨S_, .i32⟩
  | 101 => ⟨S_, .i32⟩
  | 102 => ⟨S_, .i32⟩
  | 103 => ⟨S1x8x4x64x128, .f32⟩
  | 104 => ⟨S8x4x64x128, .f32⟩
  | 105 => ⟨S8x4x64x1, .f32⟩
  | 106 => ⟨S8x4x64x128, .f32⟩
  | 107 => ⟨S8x4x64x128, .f32⟩
  | 108 => ⟨S8x4x64x128, .f32⟩
  | 109 => ⟨S1x8x4x64x128, .f32⟩
  | 110 => ⟨S_, .i32⟩
  | 111 => ⟨S_, .i32⟩
  | 112 => ⟨S_, .i32⟩
  | 113 => ⟨S_, .i32⟩
  | 114 => ⟨S64x8x4x64x128, .f32⟩
  | 115 => ⟨S_, .i32⟩
  | 116 => ⟨S_, .i32⟩
  | 117 => ⟨S8x4x64x64x128, .f32⟩
  | 118 => ⟨S8x4x64x64x128, .f32⟩
  | 119 => ⟨S8x4x64x64x128, .f32⟩
  | 120 => ⟨S8x64x64x4x128, .f32⟩
  | 121 => ⟨S8x4096x4x128, .f32⟩
  | 122 => ⟨S8x4096x4x128, .f32⟩
  | 123 => ⟨S_, .f32⟩
  | 124 => ⟨S8x4096x4, .f32⟩
  | 125 => ⟨S8x4096x4x1, .f32⟩
  | 126 => ⟨S_, .f32⟩
  | 127 => ⟨S8x4096x4x1, .f32⟩
  | _ => ⟨S8x4096x256, .f32⟩

abbrev hbmTy0_1 (i : Nat) : BufTy := match i % 128 with
  | 0 => ⟨S8x4096x4x1, .f32⟩
  | 1 => ⟨S_, .f32⟩
  | 2 => ⟨S8x4096x4x1, .f32⟩
  | 3 => ⟨S8x4096x4x1, .f32⟩
  | 4 => ⟨S8x4096x4x1, .f32⟩
  | 5 => ⟨S8x4096x4x128, .f32⟩
  | 6 => ⟨S8x4096x4x128, .f32⟩
  | 7 => ⟨S1x1x1x128, .f32⟩
  | 8 => ⟨S8x4096x4x128, .f32⟩
  | 9 => ⟨S8x4096x4x128, .f32⟩
  | 10 => ⟨S8x4096x512, .f32⟩
  | 11 => ⟨S8x4096x512, .f32⟩
  | 12 => ⟨S8x4096x512, .f32⟩
  | 13 => ⟨S_, .f32⟩
  | 14 => ⟨S8x4096x512, .f32⟩
  | 15 => ⟨S8x4096x512, .f32⟩
  | 16 => ⟨S_, .f32⟩
  | 17 => ⟨S8x4096x512, .f32⟩
  | 18 => ⟨S8x4096x512, .f32⟩
  | 19 => ⟨S8x4096x512, .f32⟩
  | 20 => ⟨S8x4096x512, .f32⟩
  | 21 => ⟨S32768x512, .f32⟩
  | 22 => ⟨S32768x512, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_call0_cst : Ref sig .tc := ⟨.hbm, 46, rfl⟩
abbrev main_call1_call0_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_v27 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_0 : Ref sig .tc := ⟨.hbm, 62, rfl⟩
abbrev main_call2_v5 : Ref sig .tc := ⟨.hbm, 63, rfl⟩
abbrev main_v28 : Ref sig .tc := ⟨.hbm, 64, rfl⟩
abbrev main_v29 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_2 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_3 : Ref sig .tc := ⟨.hbm, 84, rfl⟩
abbrev main_v43 : Ref sig .tc := ⟨.hbm, 85, rfl⟩
abbrev main_c_4 : Ref sig .tc := ⟨.hbm, 86, rfl⟩
abbrev main_v44_0 : Ref sig .tc := ⟨.hbm, 87, rfl⟩
abbrev main_v44_1 : Ref sig .tc := ⟨.hbm, 88, rfl⟩
abbrev main_v44_2 : Ref sig .tc := ⟨.hbm, 89, rfl⟩
abbrev main_v44_3 : Ref sig .tc := ⟨.hbm, 90, rfl⟩
abbrev main_v44_4 : Ref sig .tc := ⟨.hbm, 91, rfl⟩
abbrev main_while0c_c_12 : Ref sig .tc := ⟨.hbm, 92, rfl⟩
abbrev main_while0c_v68 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_v0 : Ref sig .tc := ⟨.hbm, 97, rfl⟩
abbrev main_while0b_v68 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_c_2 : Ref sig .tc := ⟨.hbm, 102, rfl⟩
abbrev main_while0b_call5_v0 : Ref sig .tc := ⟨.hbm, 103, rfl⟩
abbrev main_while0b_v69 : Ref sig .tc := ⟨.hbm, 104, rfl⟩
abbrev main_while0b_v70 : Ref sig .tc := ⟨.hbm, 105, rfl⟩
abbrev main_while0b_v71 : Ref sig .tc := ⟨.hbm, 106, rfl⟩
abbrev main_while0b_v72 : Ref sig .tc := ⟨.hbm, 107, rfl⟩
abbrev main_while0b_v73 : Ref sig .tc := ⟨.hbm, 108, rfl⟩
abbrev main_while0b_call6_v0 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_v74 : Ref sig .tc := ⟨.hbm, 114, rfl⟩
abbrev main_while0b_c_12 : Ref sig .tc := ⟨.hbm, 115, rfl⟩
abbrev main_while0b_v75 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_5 : Ref sig .tc := ⟨.hbm, 123, rfl⟩
abbrev main_v51 : Ref sig .tc := ⟨.hbm, 124, rfl⟩
abbrev main_v52 : Ref sig .tc := ⟨.hbm, 125, rfl⟩
abbrev main_cst_6 : Ref sig .tc := ⟨.hbm, 126, rfl⟩
abbrev main_v53 : Ref sig .tc := ⟨.hbm, 127, rfl⟩
abbrev main_v54 : Ref sig .tc := ⟨.hbm, 128, rfl⟩
abbrev main_cst_7 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_call7_v0 : Ref sig .tc := ⟨.hbm, 139, rfl⟩
abbrev main_call7_v1 : Ref sig .tc := ⟨.hbm, 140, rfl⟩
abbrev main_call7_cst : Ref sig .tc := ⟨.hbm, 141, rfl⟩
abbrev main_call7_v2 : Ref sig .tc := ⟨.hbm, 142, rfl⟩
abbrev main_call7_v3 : Ref sig .tc := ⟨.hbm, 143, rfl⟩
abbrev main_call7_cst_0 : Ref sig .tc := ⟨.hbm, 144, rfl⟩
abbrev main_call7_v4 : Ref sig .tc := ⟨.hbm, 145, rfl⟩
abbrev main_call7_v5 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1 : Shape := ⟨2, ![1024, 1]⟩
abbrev S1024x512 : Shape := ⟨2, ![1024, 512]⟩

abbrev nBuf : Space → Nat
  | .hbm => 14
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S32768x1024, .f32⟩
  | .hbm, ⟨7, _⟩ => ⟨S32768x1024, .f32⟩
  | .hbm, ⟨8, _⟩ => ⟨S32768x1024, .bf16⟩
  | .hbm, ⟨9, _⟩ => ⟨S1024x1024, .bf16⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x1024, .f32⟩
  | .hbm, ⟨30, _⟩ => ⟨S8x4096x1024, .f32⟩
  | .hbm, ⟨31, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x512 : Shape := ⟨2, ![32768, 512]⟩
abbrev S32768x1024 : Shape := ⟨2, ![32768, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x512, .f32⟩
  | .hbm, ⟨8, _⟩ => ⟨S32768x512, .bf16⟩
  | .hbm, ⟨9, _⟩ => ⟨S32768x512, .f32⟩
  | .hbm, ⟨10, _⟩ => ⟨S32768x512, .bf16⟩
  | .hbm, ⟨11, _⟩ => ⟨S32768x1024, .f32⟩
  | .hbm, ⟨12, _⟩ => ⟨S1024x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x1024, .f32⟩
  | .hbm, ⟨32, _⟩ => ⟨S8x4096x1024, .f32⟩
  | .hbm, ⟨33, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x3088 : Shape := ⟨2, ![1024, 3088]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x1024 : Shape := ⟨2, ![32768, 1024]⟩
abbrev S1x1024 : Shape := ⟨2, ![1, 1024]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S512x512 : Shape := ⟨2, ![512, 512]⟩
abbrev S32768x1152 : Shape := ⟨2, ![32768, 1152]⟩
abbrev S32768x512 : Shape := ⟨2, ![32768, 512]⟩
abbrev S1024x1024 : Shape := ⟨2, ![1024, 1024]⟩
abbrev S1024x1152 : Shape := ⟨2, ![1024, 1152]⟩
abbrev S512x1024 : Shape := ⟨2, ![512, 1024]⟩
abbrev S512x1 : Shape := ⟨2, ![512, 1]⟩
abbrev S512x1152 : Shape := ⟨2, ![512, 1152]⟩

abbrev nBuf : Space → Nat
  | .hbm => 47
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3088, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S32768x1024, .f32⟩
  | .hbm, ⟨14, _⟩ => ⟨S1x1024, .f32⟩
  | .hbm, ⟨15, _⟩ => ⟨S1024x256, .f32⟩
  | .hbm, ⟨16, _⟩ => ⟨S1024x256, .f32⟩
  | .hbm, ⟨17, _⟩ => ⟨S1024x512, .f32⟩
  | .hbm, ⟨18, _⟩ => ⟨S1024x512, .f32⟩
  | .hbm, ⟨19, _⟩ => ⟨S1024x16, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x3200, .f32⟩
  | .hbm, ⟨27, _⟩ => ⟨S1024x3200, .bf16⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .bf16⟩
  | .hbm, ⟨42, _⟩ => ⟨S32768x1152, .f32⟩
  | .hbm, ⟨43, _⟩ => ⟨S32768x512, .bf16⟩
  | .hbm, ⟨44, _⟩ => ⟨S32768x512, .bf16⟩
  | .hbm, ⟨45, _⟩ => ⟨S32768x512, .bf16⟩
  | .hbm, ⟨46, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S1024x1152, .f32⟩
  | .local _ .vmem, ⟨8, _⟩ => ⟨S1024x1152, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x4096x1024 : Shape := ⟨3, ![8, 4096, 1024]⟩
abbrev S1024 : Shape := ⟨1, ![1024]⟩
abbrev S1024x3088 : Shape := ⟨2, ![1024, 3088]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3088 : Shape := ⟨3, ![8, 4096, 3088]⟩
abbrev S8x4096x256 : Shape := ⟨3, ![8, 4096, 256]⟩
abbrev S8x4096x512 : Shape := ⟨3, ![8, 4096, 512]⟩
abbrev S8x4096x16 : Shape := ⟨3, ![8, 4096, 16]⟩
abbrev S8x4096x1040 : Shape := ⟨3, ![8, 4096, 1040]⟩
abbrev S8x4096x1152 : Shape := ⟨3, ![8, 4096, 1152]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S32768x1152 : Shape := ⟨2, ![32768, 1152]⟩
abbrev S32768x512 : Shape := ⟨2, ![32768, 512]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3088, .f32⟩
  | .hbm, ⟨3, _⟩ => ⟨S64, .f32⟩
  | .hbm, ⟨4, _⟩ => ⟨S64, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3088, .f32⟩
  | .hbm, ⟨22, _⟩ => ⟨S8x4096x256, .f32⟩
  | .hbm, ⟨23, _⟩ => ⟨S8x4096x256, .f32⟩
  | .hbm, ⟨24, _⟩ => ⟨S8x4096x512, .f32⟩
  | .hbm, ⟨25, _⟩ => ⟨S8x4096x512, .f32⟩
  | .hbm, ⟨26, _⟩ => ⟨S8x4096x16, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x1040, .f32⟩
  | .hbm, ⟨31, _⟩ => ⟨S_, .i32⟩
  | .hbm, ⟨32, _⟩ => ⟨S_, .f32⟩
  | .hbm, ⟨33, _⟩ => ⟨S8x4096x1152, .f32⟩
  | .hbm, ⟨34, _⟩ => ⟨S8x4096x8x64, .f32⟩
  | .hbm, ⟨35, _⟩ => ⟨S8x4096x8x64, .f32⟩
  | .hbm, ⟨36, _⟩ => ⟨S_, .f32⟩
  | .hbm, ⟨37, _⟩ => ⟨S8x4096x8, .f32⟩
  | .hbm, ⟨38, _⟩ => ⟨S8x4096x8x1, .f32⟩
  | .hbm, ⟨39, _⟩ => ⟨S_, .f32⟩
  | .hbm, ⟨40, _⟩ => ⟨S8x4096x8x1, .f32⟩
  | .hbm, ⟨41, _⟩ => ⟨S8x4096x8x1, .f32⟩
  | .hbm, ⟨42, _⟩ => ⟨S_, .f32⟩
  | .hbm, ⟨43, _⟩ => ⟨S8x4096x8x1, .f32⟩
  | .hbm, ⟨44, _⟩ => ⟨S8x4096x8x1, .f32⟩
  | .hbm, ⟨45, _⟩ => ⟨S8x4096x8x1, .f32⟩
  | .hbm, ⟨46, _⟩ => ⟨S8x4096x8x64, .f32⟩
  | .hbm, ⟨47, _⟩ => ⟨S8x4096x8x64, .f32⟩
  | .hbm, ⟨48, _⟩ => ⟨S1x1x1x64, .f32⟩
  | .hbm, ⟨49, _⟩ => ⟨S8x4096x8x64, .f32⟩
  | .hbm, ⟨50, _⟩ => ⟨S8x4096x8x64, .f32⟩
  | .hbm, ⟨51, _⟩ => ⟨S8x4096x8x64, .f32⟩
  | .hbm, ⟨52, _⟩ => ⟨S8x4096x8x64, .f32⟩
  | .hbm, ⟨53, _⟩ => ⟨S_, .f32⟩
  | .hbm, ⟨54, _⟩ => ⟨S8x4096x8, .f32⟩
  | .hbm, ⟨55, _⟩ => ⟨S8x4096x8x1, .f32⟩
  | .hbm, ⟨56, _⟩ => ⟨S_, .f32⟩
  | .hbm, ⟨57, _⟩ => ⟨S8x4096x8x1, .f32⟩
  | .hbm, ⟨58, _⟩ => ⟨S8x4096x8x1, .f32⟩
  | .hbm, ⟨59, _⟩ => ⟨S_, .f32⟩
  | .hbm, ⟨60, _⟩ => ⟨S8x4096x8x1, .f32⟩
  | .hbm, ⟨61, _⟩ => ⟨S8x4096x8x1, .f32⟩
  | .hbm, ⟨62, _⟩ => ⟨S8x4096x8x1, .f32⟩
  | .hbm, ⟨63, _⟩ => ⟨S8x4096x8x64, .f32⟩
  | .hbm, ⟨64, _⟩ => ⟨S8x4096x8x64, .f32⟩
  | .hbm, ⟨65, _⟩ => ⟨S1x1x1x64, .f32⟩
  | .hbm, ⟨66, _⟩ => ⟨S8x4096x8x64, .f32⟩
  | .hbm, ⟨67, _⟩ => ⟨S8x4096x8x64, .f32⟩
  | .hbm, ⟨68, _⟩ => ⟨S32768x1152, .f32⟩
  | .hbm, ⟨69, _⟩ => ⟨S32768x512, .f32⟩
  | .hbm, ⟨70, _⟩ => ⟨S32768x512, .bf16⟩
  | .hbm, ⟨71, _⟩ => ⟨S32768x512, .f32⟩
  | .hbm, ⟨72, _⟩ => ⟨S32768x512, .bf16⟩
  | .hbm, ⟨73, _⟩ => ⟨S32768x512, .f32⟩
  | .hbm, ⟨74, _⟩ => ⟨S32768x512, .bf16⟩
  | .hbm, ⟨75, _⟩ => ⟨S32768x512, .f32⟩
  | .hbm, ⟨76, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S32768x1024 : Shape := ⟨2, ![32768, 1024]⟩
abbrev S1x1024 : Shape := ⟨2, ![1, 1024]⟩
abbrev S1x512 : Shape := ⟨2, ![1, 512]⟩
abbrev S1024x1024 : Shape := ⟨2, ![1024, 1024]⟩
abbrev S1040x512 : Shape := ⟨2, ![1040, 512]⟩
abbrev S16x512 : Shape := ⟨2, ![16, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S512, .f32⟩
  | .hbm, ⟨6, _⟩ => ⟨S32768x1024, .f32⟩
  | .hbm, ⟨7, _⟩ => ⟨S1x1024, .f32⟩
  | .hbm, ⟨8, _⟩ => ⟨S1024x2048, .bf16⟩
  | .hbm, ⟨9, _⟩ => ⟨S4x128x128, .bf16⟩
  | .hbm, ⟨10, _⟩ => ⟨S1x512, .f32⟩
  | .hbm, ⟨11, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S3x512, .f32⟩
  | .local _ .vmem, ⟨5, _⟩ => ⟨S4x128x128, .bf16⟩
  | .local _ .vmem, ⟨6, _⟩ => ⟨S1x512, .f32⟩
  | .local _ .vmem, ⟨7, _⟩ => ⟨S1024x1024, .bf16⟩
  | .local _ .vmem, ⟨8, _⟩ => ⟨S1024x1024, .bf16⟩
  | .local _ .vmem, ⟨9, _⟩ => ⟨S1040x512, .f32⟩
  | .local _ .vmem, ⟨10, _⟩ => ⟨S1040x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4096x1024 : Shape := ⟨3, ![8, 4096, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x512 : Shape := ⟨3, ![8, 4096, 512]⟩
abbrev S8x4098x512 : Shape := ⟨3, ![8, 4098, 512]⟩
abbrev S1x512 : Shape := ⟨2, ![1, 512]⟩
abbrev S1x1x512 : Shape := ⟨3, ![1, 1, 512]⟩
abbrev S8x4097x512 : Shape := ⟨3, ![8, 4097, 512]⟩
abbrev S4096 : Shape := ⟨1, ![4096]⟩
abbrev S1x4096x1 : Shape := ⟨3, ![1, 4096, 1]⟩
abbrev S8x4096x128 : Shape := ⟨3, ![8, 4096, 128]⟩
abbrev S4096x1 : Shape := ⟨2, ![4096, 1]⟩
abbrev S4096x2 : Shape := ⟨2, ![4096, 2]⟩
abbrev S8x4096x1x128 : Shape := ⟨4, ![8, 4096, 1, 128]⟩
abbrev S8x4096x4x128 : Shape := ⟨4, ![8, 4096, 4, 128]⟩
abbrev S4x128x8x4096 : Shape := ⟨4, ![4, 128, 8, 4096]⟩
abbrev S32768x1024 : Shape := ⟨2, ![32768, 1024]⟩

abbrev nBuf : Space → Nat
  | .hbm => 205
  | .vmem => 0
  | .smem => 0
  | _ => 0

abbrev hbmTy0_0 (i : Nat) : BufTy := match i % 128 with
  | 0 => ⟨S8x4096x1024, .f32⟩
  | 1 => ⟨S1024, .f32⟩
  | 2 => ⟨S1024x2048, .f32⟩
  | 3 => ⟨S3x512, .f32⟩
  | 4 => ⟨S4x128x128, .f32⟩
  | 5 => ⟨S512, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S8x4096x2048, .f32⟩
  | 23 => ⟨S8x4096x512, .f32⟩
  | 24 => ⟨S8x4096x512, .f32⟩
  | 25 => ⟨S8x4096x512, .f32⟩
  | 26 => ⟨S8x4096x512, .f32⟩
  | 27 => ⟨S8x4096x512, .f32⟩
  | 28 => ⟨S_, .i32⟩
  | 29 => ⟨S_, .f32⟩
  | 30 => ⟨S8x4098x512, .f32⟩
  | 31 => ⟨S8x4096x512, .f32⟩
  | 32 => ⟨S1x512, .f32⟩
  | 33 => ⟨S512, .f32⟩
  | 34 => ⟨S1x1x512, .f32⟩
  | 35 => ⟨S8x4096x512, .f32⟩
  | 36 => ⟨S8x4096x512, .f32⟩
  | 37 => ⟨S8x4096x512, .f32⟩
  | 38 => ⟨S1x512, .f32⟩
  | 39 => ⟨S512, .f32⟩
  | 40 => ⟨S1x1x512, .f32⟩
  | 41 => ⟨S8x4096x512, .f32⟩
  | 42 => ⟨S8x4096x512, .f32⟩
  | 43 => ⟨S8x4096x512, .f32⟩
  | 44 => ⟨S8x4096x512, .f32⟩
  | 45 => ⟨S1x512, .f32⟩
  | 46 => ⟨S512, .f32⟩
  | 47 => ⟨S1x1x512, .f32⟩
  | 48 => ⟨S8x4096x512, .f32⟩
  | 49 => ⟨S8x4096x512, .f32⟩
  | 50 => ⟨S8x4096x512, .f32⟩
  | 51 => ⟨S8x4096x512, .f32⟩
  | 52 => ⟨S_, .f32⟩
  | 53 => ⟨S_, .f32⟩
  | 54 => ⟨S8x4096x512, .f32⟩
  | 55 => ⟨S_, .i32⟩
  | 56 => ⟨S_, .f32⟩
  | 57 => ⟨S8x4097x512, .f32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .i32⟩
  | 72 => ⟨S4096, .f32⟩
  | 73 => ⟨S1x4096x1, .f32⟩
  | 74 => ⟨S8x4096x128, .f32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S_, .i32⟩
  | 84 => ⟨S4096x1, .i32⟩
  | 85 => ⟨S4096x2, .i32⟩
  | 86 => ⟨S8x4096x128, .f32⟩
  | 87 => ⟨S8x4096x128, .f32⟩
  | 88 => ⟨S8x4096x128, .f32⟩
  | 89 => ⟨S8x4096x128, .f32⟩
  | 90 => ⟨S8x4096x128, .f32⟩
  | 91 => ⟨S8x4096x128, .f32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S4096, .i32⟩
  | 105 => ⟨S4096, .f32⟩
  | 106 => ⟨S1x4096x1, .f32⟩
  | 107 => ⟨S8x4096x128, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S_, .i32⟩
  | 117 => ⟨S4096x1, .i32⟩
  | 118 => ⟨S4096x2, .i32⟩
  | 119 => ⟨S8x4096x128, .f32⟩
  | 120 => ⟨S8x4096x128, .f32⟩
  | 121 => ⟨S8x4096x128, .f32⟩
  | 122 => ⟨S8x4096x128, .f32⟩
  | 123 => ⟨S8x4096x128, .f32⟩
  | 124 => ⟨S8x4096x128, .f32⟩
  | 125 => ⟨S_, .i32⟩
  | 126 => ⟨S4096, .i32⟩
  | 127 => ⟨S4096, .i32⟩
  | _ => ⟨S8x4096x1024, .f32⟩

abbrev hbmTy0_1 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S4096, .i32⟩
  | 10 => ⟨S4096, .f32⟩
  | 11 => ⟨S1x4096x1, .f32⟩
  | 12 => ⟨S8x4096x128, .f32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S_, .i32⟩
  | 22 => ⟨S4096x1, .i32⟩
  | 23 => ⟨S4096x2, .i32⟩
  | 24 => ⟨S8x4096x128, .f32⟩
  | 25 => ⟨S8x4096x128, .f32⟩
  | 26 => ⟨S8x4096x128, .f32⟩
  | 27 => ⟨S8x4096x128, .f32⟩
  | 28 => ⟨S8x4096x128, .f32⟩
  | 29 => ⟨S8x4096x128, .f32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .i32⟩
  | 43 => ⟨S4096, .f32⟩
  | 44 => ⟨S1x4096x1, .f32⟩
  | 45 => ⟨S8x4096x128, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S_, .i32⟩
  | 55 => ⟨S4096x1, .i32⟩
  | 56 => ⟨S4096x2, .i32⟩
  | 57 => ⟨S8x4096x128, .f32⟩
  | 58 => ⟨S8x4096x128, .f32⟩
  | 59 => ⟨S8x4096x128, .f32⟩
  | 60 => ⟨S8x4096x128, .f32⟩
  | 61 => ⟨S8x4096x128, .f32⟩
  | 62 => ⟨S8x4096x128, .f32⟩
  | 63 => ⟨S8x4096x1x128, .f32⟩
  | 64 => ⟨S8x4096x1x128, .f32⟩
  | 65 => ⟨S8x4096x1x128, .f32⟩
  | 66 => ⟨S8x4096x1x128, .f32⟩
  | 67 => ⟨S8x4096x4x128, .f32⟩
  | 68 => ⟨S4x128x8x4096, .f32⟩
  | 69 => ⟨S8x4096x4x128, .f32⟩
  | 70 => ⟨S8x4096x512, .f32⟩
  | 71 => ⟨S1x1x512, .f32⟩
  | 72 => ⟨S8x4096x512, .f32⟩
  | 73 => ⟨S8x4096x512, .f32⟩
  | 74 => ⟨S8x4096x1024, .f32⟩
  | 75 => ⟨S32768x1024, .f32⟩
  | 76 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_call0_cst : Ref sig .tc := ⟨.hbm, 52, rfl⟩
abbrev main_call1_call0_v0 : Ref sig .tc := ⟨.hbm, 53, rfl⟩
abbrev main_v41 : Ref sig .tc := ⟨.hbm, 54, rfl⟩
abbrev main_c_2 : Ref sig .tc := ⟨.hbm, 55, rfl⟩
abbrev main_call2_v0 : Ref sig .tc := ⟨.hbm, 56, rfl⟩
abbrev main_v42 : Ref sig .tc := ⟨.hbm, 57, rfl⟩
abbrev main_v43 : Ref sig .tc := ⟨.hbm, 58, rfl⟩
abbrev main_c_3 : Ref sig .tc := ⟨.hbm, 59, rfl⟩
abbrev main_v44 : Ref sig .tc := ⟨.hbm, 60, rfl⟩
abbrev main_v45 : Ref sig .tc := ⟨.hbm, 61, rfl⟩
abbrev main_c_4 : Ref sig .tc := ⟨.hbm, 62, rfl⟩
abbrev main_v46 : Ref sig .tc := ⟨.hbm, 63, rfl⟩
abbrev main_v47 : Ref sig .tc := ⟨.hbm, 64, rfl⟩
abbrev main_c_5 : Ref sig .tc := ⟨.hbm, 65, rfl⟩
abbrev main_v48 : Ref sig .tc := ⟨.hbm, 66, rfl⟩
abbrev main_v49 : Ref sig .tc := ⟨.hbm, 67, rfl⟩
abbrev main_c_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_7 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_10 : Ref sig .tc := ⟨.hbm, 92, rfl⟩
abbrev main_v70 : Ref sig .tc := ⟨.hbm, 93, rfl⟩
abbrev main_v71 : Ref sig .tc := ⟨.hbm, 94, rfl⟩
abbrev main_c_11 : Ref sig .tc := ⟨.hbm, 95, rfl⟩
abbrev main_v72 : Ref sig .tc := ⟨.hbm, 96, rfl⟩
abbrev main_v73 : Ref sig .tc := ⟨.hbm, 97, rfl⟩
abbrev main_c_12 : Ref sig .tc := ⟨.hbm, 98, rfl⟩
abbrev main_v74 : Ref sig .tc := ⟨.hbm, 99, rfl⟩
abbrev main_v75 : Ref sig .tc := ⟨.hbm, 100, rfl⟩
abbrev main_c_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_14 : Ref sig .tc := ⟨.hbm, 108, rfl⟩
abbrev main_v82 : Ref sig .tc := ⟨.hbm, 109, rfl⟩
abbrev main_v83 : Ref sig .tc := ⟨.hbm, 110, rfl⟩
abbrev main_c_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_17 : Ref sig .tc := ⟨.hbm, 125, rfl⟩
abbrev main_v96 : Ref sig .tc := ⟨.hbm, 126, rfl⟩
abbrev main_v97 : Ref sig .tc := ⟨.hbm, 127, rfl⟩
abbrev main_c_18 : Ref sig .tc := ⟨.hbm, 128, rfl⟩
abbrev main_v98 : Ref sig .tc := ⟨.hbm, 129, rfl⟩
abbrev main_v99 : Ref sig .tc := ⟨.hbm, 130, rfl⟩
abbrev main_c_19 : Ref sig .tc := ⟨.hbm, 131, rfl⟩
abbrev main_v100 : Ref sig .tc := ⟨.hbm, 132, rfl⟩
abbrev main_v101 : Ref sig .tc := ⟨.hbm, 133, rfl⟩
abbrev main_c_20 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_21 : Ref sig .tc := ⟨.hbm, 141, rfl⟩
abbrev main_v108 : Ref sig .tc := ⟨.hbm, 142, rfl⟩
abbrev main_v109 : Ref sig .tc := ⟨.hbm, 143, rfl⟩
abbrev main_c_22 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_23 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_24 : Ref sig .tc := ⟨.hbm, 158, rfl⟩
abbrev main_v122 : Ref sig .tc := ⟨.hbm, 159, rfl⟩
abbrev main_v123 : Ref sig .tc := ⟨.hbm, 160, rfl⟩
abbrev main_c_25 : Ref sig .tc := ⟨.hbm, 161, rfl⟩
abbrev main_v124 : Ref sig .tc := ⟨.hbm, 162, rfl⟩
abbrev main_v125 : Ref sig .tc := ⟨.hbm, 163, rfl⟩
abbrev main_c_26 : Ref sig .tc := ⟨.hbm, 164, rfl⟩
abbrev main_v126 : Ref sig .tc := ⟨.hbm, 165, rfl⟩
abbrev main_v127 : Ref sig .tc := ⟨.hbm, 166, rfl⟩
abbrev main_c_27 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_c_28 : Ref sig .tc := ⟨.hbm, 174, rfl⟩
abbrev main_v134 : Ref sig .tc := ⟨.hbm, 175, rfl⟩
abbrev main_v135 : Ref sig .tc := ⟨.hbm, 176, rfl⟩
abbrev main_c_29 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_30 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩

abbrev nD : Nat := 1
abbrev τ : Topo := Topo.v7x

variable {F : FTy → Type} [FloatOps F]
-- ==== Proof.OddBody.lean ====
/-
  One grid point of the odd layers' mixing call: its loads, the values it computes and the stores it makes,
  in one form for the four parts of a tile.
-/
module

public import proofs.«01_k».proof.Proof.Gen.Kernel5Ideal.Value

@[expose] public section

set_option maxRecDepth 16384

noncomputable section

open Idealize.ShloMosaic Idealize.ShloMosaic.TcCoe Idealize.SL.Sem

namespace Cert.Kernel5Ideal.Odd

open Cert.Kernel5Ideal Cert.Kernel5Ideal.Gen

variable {F : FTy → Type} [FloatOps F]

theorem in_x (s : Fin 4) : ∀ a, (![256 * s.val, 0] : Fin 2 → Nat) a + S256x1024.size a ≤ S1024x1024.size a := by
  revert s; decide
theorem in_w (q : Fin 4) : ∀ a, (![0, 512 * q.val] : Fin 2 → Nat) a + S1024x512.size a ≤ S1024x2048.size a := by
  revert q; decide
theorem in_cw (k : Fin 3) : ∀ a, (![k.val, 0] : Fin 2 → Nat) a + S1x512.size a ≤ S3x512.size a := by
  revert k; decide
theorem in_pw (g : Fin 4) : ∀ a, (![g.val, 0, 0] : Fin 3 → Nat) a + S1x128x128.size a ≤ S4x128x128.size a := by
  revert g; decide
theorem in_ps (g : Fin 4) : ∀ a, (![0, 128 * g.val] : Fin 2 → Nat) a + S1x128.size a ≤ S1x512.size a := by
  revert g; decide
theorem in_z (s : Fin 4) (k : ℕ) : ∀ a, (![16 + 256 * s.val - k, 0] : Fin 2 → Nat) a + S256x512.size a ≤ S1040x512.size a := by
  intro a
  match a with
  | 0 => show 16 + 256 * s.val - k + 256 ≤ 1040; omega
  | 1 => exact le_rfl
theorem in_u (s g : Fin 4) (k : ℕ) : ∀ a, (![16 + 256 * s.val - k, 128 * g.val] : Fin 2 → Nat) a + S256x128.size a ≤ S1040x512.size a := by
  intro a
  match a with
  | 0 => show 16 + 256 * s.val - k + 256 ≤ 1040; omega
  | 1 => show 128 * g.val + 128 ≤ 512; omega
theorem in_mix (s : Fin 4) : ∀ a, (![256 * s.val, 0] : Fin 2 → Nat) a + S256x512.size a ≤ S1024x1024.size a := by
  revert s; decide
theorem in_mixg (s g : Fin 4) : ∀ a, (![256 * s.val, 512 + 128 * g.val] : Fin 2 → Nat) a + S256x128.size a ≤ S1024x1024.size a := by
  revert s g; decide
theorem slices_u (g : Fin 4) : S256x512.Slices ![0, 128 * g.val] S256x128 := by
  revert g; decide

/-- The loads of a run of the body. -/
structure Loads (F : FTy → Type) [FloatOps F] where
  /-- A part's rows. -/
  x : Fin 4 → Vec F S256x1024 .f32
  g : Vec F S1x1024 .f32
  /-- The weight's four column blocks. -/
  w : Fin 4 → Vec F S1024x512 .bf16
  /-- The convolution's taps. -/
  cw : Fin 3 → Vec F S1x512 .f32
  pw : Fin 4 → Vec F S1x128x128 .bf16
  ps : Fin 4 → Vec F S1x128 .f32
  /-- The grid's second coordinate. -/
  t : BitVec 32

/-- A part's projection by a column block. -/
def prj (L : Loads F) (s q : Fin 4) : FVec F S256x512 .f32 := k0_pay7 (L.x s) L.g (L.w q)

/-- The convolution's input. -/
def zAt (L : Loads F) (s : Fin 4) : FVec F S256x512 .f32 := mulf (prj L s 1) (prj L s 2)

/-- The pooling's input. -/
def uAt (L : Loads F) (s : Fin 4) : FVec F S256x512 .f32 := prj L s 3

/-- The gated convolution of a part, over the rows one and two before. -/
def convOut (L : Loads F) (s : Fin 4) (z2 z1 : Vec F S256x512 .f32) : FVec F S256x512 .bf16 :=
  truncf .bf16 (mulf (prj L s 0) (addf (addf (mulf (zAt L s) (broadcastTo S256x512 (L.cw 2) broadcasts_S1x512_S256x512))
    (mulf z2 (broadcastTo S256x512 (L.cw 0) broadcasts_S1x512_S256x512)))
    (mulf z1 (broadcastTo S256x512 (L.cw 1) broadcasts_S1x512_S256x512)))) bitsLt_bf16_f32

/-- The pooling's input on a group's lanes. -/
def uG (L : Loads F) (s g : Fin 4) : FVec F S256x128 .f32 := extractStridedSlice S256x128 ![0, 128 * g.val] (uAt L s) (slices_u g)

/-- The rows' sum with the `n` rows before. -/
def tot (u : FVec F S256x128 .f32) (R : ℕ → Vec F S256x128 .f32) : ℕ → FVec F S256x128 .f32
  | 0 => u
  | n + 1 => addf (tot u R n) (R (n + 1))

/-- How many rows a window of `b` holds. -/
def cnt (L : Loads F) (s : Fin 4) (b : BitVec 32) : IVec S256x128 32 :=
  minsi (addi (addi (iota .tc S256x128 32 [0] iota_S256x128_d0_w32)
    (broadcast S256x128 (Scalar.addi (Scalar.muli L.t 1024#32) (BitVec.ofNat 32 (256 * s.val))))) (broadcast S256x128 1#32)) (broadcast S256x128 b)

/-- The window's mean less the row, over `n + 1` rows. -/
def pooled (L : Loads F) (s g : Fin 4) (R : ℕ → Vec F S256x128 .f32) (n : ℕ) (b : BitVec 32) : FVec F S256x128 .f32 :=
  subf (divf (tot (uG L s g) R n) (sitofp .f32 (cnt L s b))) (uG L s g)

/-- A group's pooled rows by the group's matrix and scale. -/
def poolOut (L : Loads F) (s g : Fin 4) (R : ℕ → Vec F S256x128 .f32) (n : ℕ) (b : BitVec 32) : FVec F S256x128 .bf16 :=
  truncf .bf16 (mulf (matmul dot_S256x128_S128x128_S256x128_1_0_0_1_n_n none (truncf .bf16 (pooled L s g R n b) bitsLt_bf16_f32)
      (shapeCast S128x128 (L.pw g) shapeCasts_S1x128x128_S128x128) (constant S256x128 .f32 0x00000000#32))
    (broadcastTo S256x128 (shapeCast S1x128 (L.ps g) shapeCasts_S1x128_S1x128) broadcasts_S1x128_S256x128)) bitsLt_bf16_f32

/-- The store of a part of the convolution's input. -/
def zPc (L : Loads F) (s : Fin 4) : View.Piece (Elt F) S1040x512 .f32 :=
  ⟨Rect.unit ![16 + 256 * s.val - 0, 0] S256x512.size (in_z s 0), shapeCast S256x512 (zAt L s) shapeCasts_S256x512_S256x512⟩

/-- The store of a part of the pooling's input. -/
def uPc (L : Loads F) (s : Fin 4) : View.Piece (Elt F) S1040x512 .f32 :=
  ⟨Rect.unit ![16 + 256 * s.val - 0, 0] S256x512.size (in_z s 0), shapeCast S256x512 (uAt L s) shapeCasts_S256x512_S256x512⟩

/-- The store of zero rows before a sequence. -/
def zeroPc : View.Piece (Elt F) S1040x512 .f32 :=
  ⟨Rect.unit ![0, 0] S16x512.size inb_S1040x512_S16x512_0_0,
    shapeCast S16x512 (broadcast S16x512 (Scalar.ofBits .f32 0x00000000#32) : FVec F S16x512 .f32) shapeCasts_S16x512_S16x512⟩

/-- The stores of a scratch up to part `s`, last first, over the stores `T` before. -/
def upTo (P : Fin 4 → View.Piece (Elt F) S1040x512 .f32) (T : List (View.Piece (Elt F) S1040x512 .f32)) : Fin 4 → List (View.Piece (Elt F) S1040x512 .f32)
  | 0 => P 0 :: T
  | 1 => P 1 :: P 0 :: T
  | 2 => P 2 :: P 1 :: P 0 :: T
  | 3 => P 3 :: P 2 :: P 1 :: P 0 :: T

section
variable (m : Memref sig .tc .vmem S1040x512 .f32)

/-- What a scratch holds as part `s` reads it: the stores over `f` for the first part, the others' reads all being of stored rows. -/
def heldAt (f : m.view.ty.Contents (Elt F)) (P : Fin 4 → View.Piece (Elt F) S1040x512 .f32) (T : List (View.Piece (Elt F) S1040x512 .f32)) : Fin 4 → m.view.ty.Contents (Elt F)
  | 0 => m.view.writes (Elt F) f (upTo P T 0)
  | 1 => m.view.writes (Elt F) m.view.junk (upTo P T 1)
  | 2 => m.view.writes (Elt F) m.view.junk (upTo P T 2)
  | 3 => m.view.writes (Elt F) m.view.junk (upTo P T 3)

/-- A part's rows, `k` rows before. -/
def zRead (f : m.view.ty.Contents (Elt F)) (P : Fin 4 → View.Piece (Elt F) S1040x512 .f32) (T : List (View.Piece (Elt F) S1040x512 .f32)) (s : Fin 4) (k : ℕ) : Vec F S256x512 .f32 :=
  View.readAt (Elt F) m.view (Rect.unit (s := S1040x512) ![16 + 256 * s.val - k, 0] S256x512.size (in_z s k)).toLoadRect (heldAt m f P T s)

/-- A part's rows on a group's lanes, `k` rows before. -/
def uRead (f : m.view.ty.Contents (Elt F)) (P : Fin 4 → View.Piece (Elt F) S1040x512 .f32) (T : List (View.Piece (Elt F) S1040x512 .f32)) (s g : Fin 4) (k : ℕ) : Vec F S256x128 .f32 :=
  View.readAt (Elt F) m.view (Rect.unit (s := S1040x512) ![16 + 256 * s.val - k, 128 * g.val] S256x128.size (in_u s g k)).toLoadRect (heldAt m f P T s)

/-- The stores of a scratch by the whole body: the last sixteen rows copied to the front at the end. -/
def scPieces (P : Fin 4 → View.Piece (Elt F) S1040x512 .f32) (T : List (View.Piece (Elt F) S1040x512 .f32)) : List (View.Piece (Elt F) S1040x512 .f32) :=
  ⟨Rect.unit ![0, 0] S16x512.size inb_S1040x512_S16x512_0_0,
    shapeCast S16x512 (View.readAt (Elt F) m.view (Rect.unit (s := S1040x512) ![1024, 0] S16x512.size inb_S1040x512_S16x512_1024_0).toLoadRect
      (m.view.writes (Elt F) m.view.junk (upTo P T 3))) shapeCasts_S16x512_S16x512⟩ :: upTo P T 3
end

/-- A part's stores of the output's block, last first. -/
def outPart (L : Loads F) (Z : Fin 4 → ℕ → Vec F S256x512 .f32) (U : Fin 4 → Fin 4 → ℕ → Vec F S256x128 .f32) (s : Fin 4)
    (T : List (View.Piece (Elt F) S1024x1024 .bf16)) : List (View.Piece (Elt F) S1024x1024 .bf16) :=
  ⟨Rect.unit ![256 * s.val, 512 + 128 * (3 : Fin 4).val] S256x128.size (in_mixg s 3), poolOut L s 3 (U s 3) 15 16#32⟩ ::
  ⟨Rect.unit ![256 * s.val, 512 + 128 * (2 : Fin 4).val] S256x128.size (in_mixg s 2), poolOut L s 2 (U s 2) 7 8#32⟩ ::
  ⟨Rect.unit ![256 * s.val, 512 + 128 * (1 : Fin 4).val] S256x128.size (in_mixg s 1), poolOut L s 1 (U s 1) 3 4#32⟩ ::
  ⟨Rect.unit ![256 * s.val, 512 + 128 * (0 : Fin 4).val] S256x128.size (in_mixg s 0), poolOut L s 0 (U s 0) 1 2#32⟩ ::
  ⟨Rect.unit ![256 * s.val, 0] S256x512.size (in_mix s), convOut L s (Z s 2) (Z s 1)⟩ :: T

/-- The stores of the output's block, last first. -/
def outPieces (L : Loads F) (Z : Fin 4 → ℕ → Vec F S256x512 .f32) (U : Fin 4 → Fin 4 → ℕ → Vec F S256x128 .f32) : List (View.Piece (Elt F) S1024x1024 .bf16) :=
  outPart L Z U 3 (outPart L Z U 2 (outPart L Z U 1 (outPart L Z U 0 [])))

/-- The loads of a run of the body on the blocks `x0 … x5`. -/
def loads (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole)
    (x0 : Vec F S1024x1024 .f32) (x1 : Vec F S1x1024 .f32) (x2 : Vec F S1024x2048 .bf16) (x3 : Vec F S3x512 .f32) (x4 : Vec F S4x128x128 .bf16) (x5 : Vec F S1x512 .f32) : Loads F where
  x s := View.readAt (Elt F) arg2.view (Rect.unit (s := S1024x1024) ![256 * s.val, 0] S256x1024.size (in_x s)).toLoadRect (harg2.unread x0)
  g := View.readAt (Elt F) arg3.view (Rect.unit (s := S1x1024) ![0, 0] S1x1024.size inb_S1x1024_S1x1024_0_0).toLoadRect (harg3.unread x1)
  w q := View.readAt (Elt F) arg4.view (Rect.unit (s := S1024x2048) ![0, 512 * q.val] S1024x512.size (in_w q)).toLoadRect (harg4.unread x2)
  cw k := View.readAt (Elt F) arg5.view (Rect.unit (s := S3x512) ![k.val, 0] S1x512.size (in_cw k)).toLoadRect (harg5.unread x3)
  pw g := View.readAt (Elt F) arg6.view (Rect.unit (s := S4x128x128) ![g.val, 0, 0] S1x128x128.size (in_pw g)).toLoadRect (harg6.unread x4)
  ps g := View.readAt (Elt F) arg7.view (Rect.unit (s := S1x512) ![0, 128 * g.val] S1x128.size (in_ps g)).toLoadRect (harg7.unread x5)
  t := BitVec.ofNat 32 (i 1).val

end Cert.Kernel5Ideal.Odd

end
-- ==== Proof.PostSpec.lean ====
/-
  What a layer does with one row after its mixer, over the extended reals: the row is scaled by the
  reciprocal root of its mean square and by the norm weight, goes through the squared-relu layer, and is
  added to what that gives.
-/
module

public import Idealize.ShloMosaic.Lib.Pointwise

@[expose] public section

noncomputable section

namespace Cert.Post

open Idealize.ShloMosaic

/-- The mean square of a row. -/
def meanSq (u : Fin 1024 → EReal) : EReal :=
  Ideal.div (∑ l, u l * u l) (Ideal.ofBits .f32 0x44800000#32)

/-- The normed row. -/
def normed (u g : Fin 1024 → EReal) (l : Fin 1024) : EReal :=
  u l * Ideal.rsqrt (meanSq u + Ideal.ofBits .f32 0x358637BD#32) * g l

/-- A hidden unit. -/
def hidden (u g : Fin 1024 → EReal) (w1 : Fin 1024 → Fin 4096 → EReal) (f : Fin 4096) : EReal :=
  max (∑ l, normed u g l * w1 l f) 0

/-- The row the layer gives. -/
def row (u g : Fin 1024 → EReal) (w1 : Fin 1024 → Fin 4096 → EReal) (w2 : Fin 4096 → Fin 1024 → EReal) (l : Fin 1024) : EReal :=
  u l + ∑ f, hidden u g w1 f * hidden u g w1 f * w2 f l

/-- Equal rows and weights give equal rows. -/
theorem row_congr {u u' g g' : Fin 1024 → EReal} {w1 w1' : Fin 1024 → Fin 4096 → EReal} {w2 w2' : Fin 4096 → Fin 1024 → EReal}
    (hu : ∀ l, u l = u' l) (hg : ∀ l, g l = g' l) (h1 : ∀ l f, w1 l f = w1' l f) (h2 : ∀ f l, w2 f l = w2' f l) (l : Fin 1024) :
    row u g w1 w2 l = row u' g' w1' w2' l := by
  rw [show u = u' from funext hu, show g = g' from funext hg, show w1 = w1' from funext fun l => funext (h1 l),
    show w2 = w2' from funext fun f => funext (h2 f)]

/-- The residual row `n` of sequence `B` after a mixer of one part. -/
def residual1 (x mx : (⟨3, ![8, 4096, 1024]⟩ : Shape).Idx → EReal) (wo : (⟨2, ![1024, 1024]⟩ : Shape).Idx → EReal) (B : Fin 8) (n : Fin 4096) :
    Fin 1024 → EReal :=
  fun l => x (ix3 B n l) + ∑ k : Fin 1024, mx (ix3 B n k) * wo (ix2 k l)

/-- The residual row `n` of sequence `B` after a mixer of two parts. -/
def residual2 (x : (⟨3, ![8, 4096, 1024]⟩ : Shape).Idx → EReal) (oa ob : (⟨3, ![8, 4096, 512]⟩ : Shape).Idx → EReal)
    (wo : (⟨2, ![1024, 1024]⟩ : Shape).Idx → EReal) (B : Fin 8) (n : Fin 4096) : Fin 1024 → EReal :=
  fun l => x (ix3 B n l) + ∑ k : Fin 512, oa (ix3 B n k) * wo (ix2 ⟨k.val, by omega⟩ l) + ∑ k : Fin 512, ob (ix3 B n k) * wo (ix2 ⟨512 + k.val, by omega⟩ l)

/-- Row `i` of the layer's output, the sequences' rows one after another, from the residual rows. -/
def rows (u : Fin 8 → Fin 4096 → Fin 1024 → EReal) (g : (⟨1, ![1024]⟩ : Shape).Idx → EReal) (w1 : (⟨2, ![1024, 4096]⟩ : Shape).Idx → EReal)
    (w2 : (⟨2, ![4096, 1024]⟩ : Shape).Idx → EReal) (i : Fin 32768) (l : Fin 1024) : EReal :=
  row (u ⟨i.val / 4096, by omega⟩ ⟨i.val % 4096, by omega⟩) (fun l => g (ix1 l)) (fun l f => w1 (ix2 l f)) (fun f l => w2 (ix2 f l)) l

end Cert.Post

end
-- ==== Proof.ProjSpec.lean ====
/-
  The input projection of an even layer, over the extended reals: the normed row times a column of the
  weight, and the norm of a head of 64 lanes of such products.
-/
module

public import proofs.«01_k».proof.Proof.PostSpec
public import Idealize.ShloMosaic.Lib.IdealHost
public import Idealize.ShloMosaic.Lib.Pointwise

@[expose] public section

noncomputable section

namespace Cert.Proj

open Idealize.ShloMosaic Cert.Post

/-- The normed row times one column. -/
def entry (u g : Fin 1024 → EReal) (w : Fin 1024 → EReal) : EReal := ∑ k, normed u g k * w k

/-- The small constant of the norms. -/
def eps : EReal := Ideal.ofBits .f32 0x358637BD#32

/-- The number of lanes of a head. -/
def width : EReal := Ideal.ofBits .f32 0x42800000#32

/-- The sum of the squares of the head lane `l` is in. -/
def headSq (y : Fin 512 → EReal) (l : Fin 512) : EReal :=
  ∑ d : Fin 64, y ⟨l.val / 64 * 64 + d.val, by omega⟩ * y ⟨l.val / 64 * 64 + d.val, by omega⟩

/-- Lane `l`, its head normed. -/
def headNorm (y : Fin 512 → EReal) (gain : Fin 64 → EReal) (l : Fin 512) : EReal :=
  y l * Ideal.rsqrt (Ideal.div (headSq y l) width + eps) * gain ⟨l.val % 64, by omega⟩

theorem width_eq : width = ((64 : ℝ) : EReal) := by
  simp [width, Ideal.ofBits, Ideal.ieee]; norm_num; rw [← EReal.coe_mul]; norm_num

theorem width_ne : width ≠ 0 := by
  rw [width_eq]
  exact EReal.coe_ne_zero.mpr (by norm_num)

theorem sq_nonneg (x : EReal) : 0 ≤ x * x := by
  induction x with
  | bot => simp
  | top => simp
  | coe r => rw [← EReal.coe_mul]; exact EReal.coe_nonneg.mpr (mul_self_nonneg r)

/-- A common factor of a sum of terms that are not negative. -/
theorem sum_mul {ι : Type} (s : Finset ι) (f : ι → EReal) (hf : ∀ i, 0 ≤ f i) (x : EReal) :
    ∑ i ∈ s, f i * x = (∑ i ∈ s, f i) * x := by
  classical
  induction s using Finset.induction_on with
  | empty => simp
  | insert i s hi ih =>
    rw [Finset.sum_insert hi, Finset.sum_insert hi, ih,
      EReal.right_distrib_of_nonneg (hf i) (Finset.sum_nonneg fun k _ => hf k)]

/-- A product with the table of heads is the mean over one head. -/
theorem table_mean (y : Fin 512 → EReal) (l : Fin 512) :
    (∑ k : Fin 512, y k * y k * Ideal.div (if k.val / 64 = l.val / 64 then (1 : EReal) else 0) width) = Ideal.div (headSq y l) width := by
  have hd : ∀ x, Ideal.div x width = x * width⁻¹ := fun x => if_neg width_ne
  simp only [hd]
  rw [Fin.sum_univ_tiles 8 64 rfl]
  have hl : l.val / 64 < 8 := by omega
  rw [Finset.sum_eq_single (⟨l.val / 64, hl⟩ : Fin 8)]
  · unfold headSq
    rw [← sum_mul _ _ fun _ => sq_nonneg _]
    refine Finset.sum_congr rfl fun d _ => ?_
    rw [if_pos (by simp only; omega), one_mul]
  · intro j _ hj
    refine Finset.sum_eq_zero fun t _ => ?_
    rw [if_neg (fun h => hj (Fin.ext (by simp only at h ⊢; omega))), zero_mul, mul_zero]
  · exact fun h => absurd (Finset.mem_univ _) h

/-- Column `l` of the weight as the call's first output has it: queries, keys, output gates, gate inputs, and zeros. -/
def packed (w : (⟨2, ![1024, 3088]⟩ : Shape).Idx → EReal) (l : Fin 1152) (k : Fin 1024) : EReal :=
  if l.val < 512 then w (ix2 k ⟨l.val, by omega⟩) else if h : l.val < 1040 then w (ix2 k ⟨l.val + 512, by omega⟩) else 0

/-- Row `i` of the residual stream, the sequences' rows one after another. -/
def rowOf (x : (⟨3, ![8, 4096, 1024]⟩ : Shape).Idx → EReal) (i : Fin 32768) (l : Fin 1024) : EReal :=
  x (ix3 ⟨i.val / 4096, by omega⟩ ⟨i.val % 4096, by omega⟩ l)

/-- The first output. -/
def outIn (x : (⟨3, ![8, 4096, 1024]⟩ : Shape).Idx → EReal) (g : (⟨1, ![1024]⟩ : Shape).Idx → EReal) (w : (⟨2, ![1024, 3088]⟩ : Shape).Idx → EReal)
    (i : Fin 32768) (l : Fin 1152) : EReal :=
  entry (rowOf x i) (fun l => g (ix1 l)) (packed w l)

/-- The 512 columns from `o`. -/
def outAt (o : ℕ) (ho : o + 512 ≤ 3088) (x : (⟨3, ![8, 4096, 1024]⟩ : Shape).Idx → EReal) (g : (⟨1, ![1024]⟩ : Shape).Idx → EReal)
    (w : (⟨2, ![1024, 3088]⟩ : Shape).Idx → EReal) (i : Fin 32768) (l : Fin 512) : EReal :=
  entry (rowOf x i) (fun l => g (ix1 l)) fun k => w (ix2 k ⟨o + l.val, by omega⟩)

/-- The 512 columns from `o`, every head normed. -/
def outHead (o : ℕ) (ho : o + 512 ≤ 3088) (x : (⟨3, ![8, 4096, 1024]⟩ : Shape).Idx → EReal) (g : (⟨1, ![1024]⟩ : Shape).Idx → EReal)
    (w : (⟨2, ![1024, 3088]⟩ : Shape).Idx → EReal) (gain : (⟨1, ![64]⟩ : Shape).Idx → EReal) (i : Fin 32768) (l : Fin 512) : EReal :=
  headNorm (outAt o ho x g w i) (fun d => gain (ix1 d)) l

end Cert.Proj

end
-- ==== Proof.OddSpec.lean ====
/-
  The odd layers' mixing of one sequence, over the extended reals: a gated causal convolution of three taps
  on the first 512 lanes, and on the others, in four groups, a causal windowed mean less the row itself,
  by the group's matrix and scale.
-/
module

public import proofs.«01_k».proof.Proof.ProjSpec

@[expose] public section

noncomputable section

namespace Cert.Odd

open Idealize.ShloMosaic Cert.Post Cert.Proj

/-- One sequence: its four projections, the taps, the groups' matrices and their scale. -/
structure Seq where
  p : ℕ → ℕ → ℕ → EReal
  cw : ℕ → ℕ → EReal
  pw : ℕ → ℕ → ℕ → EReal
  ps : ℕ → EReal

namespace Seq

variable (D : Seq)

/-- The convolution's input. -/
def z (n l : ℕ) : EReal := D.p 1 n l * D.p 2 n l

/-- The convolution's input after sixteen rows of zero. -/
def zp (n l : ℕ) : EReal := if n < 16 then 0 else D.z (n - 16) l

/-- The pooling's input after sixteen rows of zero. -/
def up (n l : ℕ) : EReal := if n < 16 then 0 else D.p 3 (n - 16) l

/-- The gated convolution. -/
def conv (n l : ℕ) : EReal :=
  D.p 0 n l * (D.z n l * D.cw 2 l + D.zp (n + 14) l * D.cw 0 l + D.zp (n + 15) l * D.cw 1 l)

/-- The sum of a row and the `k` before it. -/
def tot (n l : ℕ) : ℕ → EReal
  | 0 => D.p 3 n l
  | k + 1 => tot n l k + D.up (16 + n - (k + 1)) l

/-- The windowed mean less the row. -/
def dev (n l k : ℕ) : EReal := Ideal.div (D.tot n l k) (((min (n + 1) (k + 1) : ℕ) : ℝ) : EReal) - D.p 3 n l

/-- The pooled row, group `g` over a window of `k + 1` rows. -/
def pool (n g e k : ℕ) : EReal := (∑ x : Fin 128, D.dev n (128 * g + x.val) k * D.pw g x.val e) * D.ps (128 * g + e)

/-- One row less than group `g`'s window. -/
def span (g : ℕ) : ℕ := 2 ^ (g + 1) - 1

/-- The output. -/
def y (n l : ℕ) : EReal :=
  if l < 512 then D.conv n l else D.pool n ((l - 512) / 128) ((l - 512) % 128) (span ((l - 512) / 128))

end Seq

/-- Sequence `B` of the arguments. -/
def Seq.ofArrays (x : (⟨3, ![8, 4096, 1024]⟩ : Shape).Idx → EReal) (g : (⟨1, ![1024]⟩ : Shape).Idx → EReal)
    (w : (⟨2, ![1024, 2048]⟩ : Shape).Idx → EReal) (cw : (⟨2, ![3, 512]⟩ : Shape).Idx → EReal)
    (pw : (⟨3, ![4, 128, 128]⟩ : Shape).Idx → EReal) (ps : (⟨1, ![512]⟩ : Shape).Idx → EReal) (B : Fin 8) : Seq where
  p q n l := entry (fun k => x (ix3 B ⟨n % 4096, Nat.mod_lt _ (by decide)⟩ k)) (fun k => g (ix1 k))
    fun k => w (ix2 k ⟨(512 * q + l) % 2048, Nat.mod_lt _ (by decide)⟩)
  cw k l := cw (ix2 ⟨k % 3, Nat.mod_lt _ (by decide)⟩ ⟨l % 512, Nat.mod_lt _ (by decide)⟩)
  pw g k e := pw (ix3 ⟨g % 4, Nat.mod_lt _ (by decide)⟩ ⟨k % 128, Nat.mod_lt _ (by decide)⟩ ⟨e % 128, Nat.mod_lt _ (by decide)⟩)
  ps l := ps (ix1 ⟨l % 512, Nat.mod_lt _ (by decide)⟩)

/-! ## Real rows -/

/-- A value that is a real number. -/
def Re (x : EReal) : Prop := ∃ r : ℝ, x = (r : EReal)

theorem Re.mul {x y : EReal} : Re x → Re y → Re (x * y) := by
  rintro ⟨a, rfl⟩ ⟨b, rfl⟩
  exact ⟨a * b, (EReal.coe_mul a b).symm⟩

theorem re_sum {ι : Type} (s : Finset ι) (f : ι → EReal) (hf : ∀ i, Re (f i)) : Re (∑ i ∈ s, f i) := by
  choose r hr using hf
  refine ⟨∑ i ∈ s, r i, ?_⟩
  classical
  induction s using Finset.induction_on with
  | empty => simp
  | insert i s hi ih => rw [Finset.sum_insert hi, Finset.sum_insert hi, ih, hr, EReal.coe_add]

theorem norm_width : Ideal.ofBits .f32 0x44800000#32 = ((1024 : ℝ) : EReal) := by
  simp [Ideal.ofBits, Ideal.ieee]; norm_num; rw [← EReal.coe_mul]; norm_num

theorem norm_eps : ∃ e : ℝ, 0 < e ∧ Ideal.ofBits .f32 0x358637BD#32 = (e : EReal) := by
  simp only [Ideal.ofBits, Ideal.ieee]
  norm_num
  refine ⟨_, ?_, (EReal.coe_mul _ _).symm⟩
  positivity

/-- A row of real numbers, normed with a real weight, is real. -/
theorem re_normed_real (u g : Fin 1024 → EReal) (hu : ∀ l, Re (u l)) (hg : ∀ l, Re (g l)) (l : Fin 1024) : Re (normed u g l) := by
  choose a ha using hu
  refine Re.mul (Re.mul ⟨a l, ha l⟩ ?_) (hg l)
  have hs : ∑ l, u l * u l = ((∑ l, a l * a l : ℝ) : EReal) := by
    rw [show (∑ l, u l * u l) = ∑ l, ((a l * a l : ℝ) : EReal) from Finset.sum_congr rfl fun i _ => by rw [ha, EReal.coe_mul]]
    generalize (Finset.univ : Finset (Fin 1024)) = s
    induction s using Finset.induction_on with
    | empty => simp
    | insert i s hi ih => rw [Finset.sum_insert hi, Finset.sum_insert hi, ih, EReal.coe_add]
  obtain ⟨e, he, h⟩ := norm_eps
  have hm : meanSq u + Ideal.ofBits .f32 0x358637BD#32 = (((∑ l, a l * a l) * (1024 : ℝ)⁻¹ + e : ℝ) : EReal) := by
    rw [meanSq, hs, norm_width, h, Ideal.div, if_neg (EReal.coe_ne_zero.mpr (by norm_num)), EReal.coe_add, EReal.coe_mul, EReal.coe_inv]
  have hp : 0 < (∑ l, a l * a l) * (1024 : ℝ)⁻¹ + e := by
    have : 0 ≤ ∑ l, a l * a l := Finset.sum_nonneg fun i _ => mul_self_nonneg _
    positivity
  rw [hm]
  refine ⟨(Real.sqrt ((∑ l, a l * a l) * (1024 : ℝ)⁻¹ + e))⁻¹, ?_⟩
  show (if _ < 0 then ⊥ else if _ = 0 then ⊤ else _) = _
  rw [if_neg (not_lt.mpr hp.le), if_neg hp.ne']

theorem sq_of_not_re (x : EReal) (h : ¬Re x) : x * x = ⊤ := by
  induction x with
  | bot => simp
  | top => simp
  | coe r => exact absurd ⟨r, rfl⟩ h

/-- A row normed with a real weight is real: where a lane is infinite, every lane is zero. -/
theorem re_normed (u g : Fin 1024 → EReal) (hg : ∀ l, Re (g l)) (l : Fin 1024) : Re (normed u g l) := by
  by_cases hu : ∀ l, Re (u l)
  · exact re_normed_real u g hu hg l
  · obtain ⟨i, hi⟩ := not_forall.1 hu
    have hs : ∑ l, u l * u l = ⊤ :=
      top_le_iff.1 ((sq_of_not_re _ hi).symm.le.trans (Finset.single_le_sum (f := fun l => u l * u l) (fun l _ => sq_nonneg (u l)) (Finset.mem_univ i)))
    obtain ⟨e, he, h⟩ := norm_eps
    have hm : meanSq u + Ideal.ofBits .f32 0x358637BD#32 = ⊤ := by
      rw [meanSq, hs, norm_width, h, Ideal.div, if_neg (EReal.coe_ne_zero.mpr (by norm_num)), ← EReal.coe_inv,
        EReal.top_mul_coe_of_pos (by norm_num), EReal.top_add_coe]
    refine ⟨0, ?_⟩
    show u l * Ideal.rsqrt (meanSq u + Ideal.ofBits .f32 0x358637BD#32) * g l = _
    rw [hm, Ideal.rsqrt_top, mul_zero, zero_mul]
    rfl

/-- A window's sum is the difference of two running sums, the rows being real. -/
theorem tot_eq (D : Seq) (l : ℕ) (a : ℕ → ℝ) (n : ℕ) (ha : ∀ j, j ≤ n → D.p 3 j l = (a j : EReal)) (k : ℕ) (hk : k < 16) :
    D.tot n l k = (((∑ j ∈ Finset.range (n + 1), a j) - ∑ j ∈ Finset.range (n - k), a j : ℝ) : EReal) := by
  induction k with
  | zero =>
    rw [Seq.tot, ha n le_rfl, Finset.sum_range_succ]
    congr 1
    simp
  | succ k ih =>
    rw [Seq.tot, ih (by omega), Seq.up]
    by_cases h : n < k + 1
    · rw [if_pos (by omega), add_zero, show n - k = n - (k + 1) by omega]
    · rw [if_neg (by omega), ha _ (by omega), ← EReal.coe_add, show n - k = n - (k + 1) + 1 by omega, Finset.sum_range_succ a (n - (k + 1)),
        show 16 + n - (k + 1) - 16 = n - (k + 1) by omega]
      congr 1
      ring

end Cert.Odd

end
-- ==== Proof.OddRead.lean ====
/-
  The body's values read at an index over the extended reals: each is the sequence's value at the row
  the tile, the part and the row within the part name.
-/
module

public import proofs.«01_k».proof.Proof.OddBody
public import proofs.«01_k».proof.Proof.OddSpec

@[expose] public section

set_option maxRecDepth 16384

noncomputable section

open Idealize.ShloMosaic Idealize.ShloMosaic.TcCoe Idealize.SL.Sem

namespace Cert.Kernel5Ideal.Odd

open Cert.Kernel5Ideal Cert.Kernel5Ideal.Gen Cert.Odd Cert.Post Cert.Proj

/-- The loads of tile `t` hold the sequence `D`. -/
structure Reads (L : Loads Ideal) (D : Seq) (t : ℕ) : Prop where
  p : ∀ (s q : Fin 4) (i : Fin 256) (l : Fin 512), prj L s q (ix2 i l) = D.p q.val (1024 * t + 256 * s.val + i.val) l.val
  cw : ∀ (k : Fin 3) (l : Fin 512), L.cw k (ix2 0 l) = D.cw k.val l.val
  pw : ∀ (g : Fin 4) (k e : Fin 128), L.pw g (ix3 0 k e) = D.pw g.val k.val e.val
  ps : ∀ (g : Fin 4) (e : Fin 128), L.ps g (ix2 0 e) = D.ps (128 * g.val + e.val)
  lt : t < 4
  t : L.t = BitVec.ofNat 32 t

/-- A projection's entry. -/
theorem prj_apply (L : Loads Ideal) (s q : Fin 4) (i : Fin 256) (l : Fin 512) :
    prj L s q (ix2 i l) = entry (fun k => L.x s (ix2 i k)) (fun k => L.g (ix2 0 k)) fun k => L.w q (ix2 k l) := by
  pointwise [prj, k0_pay7, k0_pay6]
  rfl

/-- A window's count as a word. -/
theorem cnt_word (g : Fin 4) : ∀ n : Fin 4096, IntOp.minsi (BitVec.ofNat 32 n.val + 1#32) (BitVec.ofNat 32 (Seq.span g.val + 1))
    = BitVec.ofNat 32 (min (n.val + 1) (Seq.span g.val + 1)) := by
  revert g
  decide +kernel

theorem span_lt : ∀ g : Fin 4, Seq.span g.val < 16 := by decide

theorem toInt_small (n : ℕ) (h : n < 65536) : (BitVec.ofNat 32 n).toInt = (n : ℤ) := by
  rw [BitVec.toInt_eq_toNat_of_lt (by rw [BitVec.toNat_ofNat]; omega), BitVec.toNat_ofNat, Nat.mod_eq_of_lt (by omega)]

variable {L : Loads Ideal} {D : Seq} {t : ℕ} (R : Reads L D t)

include R

theorem zAt_apply (s : Fin 4) (i : Fin 256) (l : Fin 512) : zAt L s (ix2 i l) = D.z (1024 * t + 256 * s.val + i.val) l.val := by
  pointwise [zAt]
  rw [R.p, R.p]
  rfl

theorem uAt_apply (s : Fin 4) (i : Fin 256) (l : Fin 512) : uAt L s (ix2 i l) = D.p 3 (1024 * t + 256 * s.val + i.val) l.val :=
  R.p s 3 i l

theorem convOut_apply (s : Fin 4) (z2 z1 : Vec Ideal S256x512 .f32)
    (h2 : ∀ (i : Fin 256) (l : Fin 512), z2 (ix2 i l) = D.zp (1024 * t + 256 * s.val + i.val + 14) l.val)
    (h1 : ∀ (i : Fin 256) (l : Fin 512), z1 (ix2 i l) = D.zp (1024 * t + 256 * s.val + i.val + 15) l.val) (i : Fin 256) (l : Fin 512) :
    convOut L s z2 z1 (ix2 i l) = D.conv (1024 * t + 256 * s.val + i.val) l.val := by
  pointwise [convOut]
  rw [R.p, zAt_apply R, R.cw, R.cw, R.cw, h2, h1]
  rfl

theorem cnt_apply (s g : Fin 4) (i : Fin 256) (e : Fin 128) :
    sitofp (F := Ideal) .f32 (cnt L s (BitVec.ofNat 32 (Seq.span g.val + 1))) (ix2 i e)
      = (((min (1024 * t + 256 * s.val + i.val + 1) (Seq.span g.val + 1) : ℕ) : ℝ) : EReal) := by
  have hlt := R.lt
  have e1 : cnt L s (BitVec.ofNat 32 (Seq.span g.val + 1)) (ix2 i e)
      = BitVec.ofNat 32 (min (1024 * t + 256 * s.val + i.val + 1) (Seq.span g.val + 1)) := by
    rw [← cnt_word g ⟨1024 * t + 256 * s.val + i.val, by omega⟩]
    pointwise [cnt]
    rw [R.t]
    refine congrArg (fun w => IntOp.minsi (w + 1#32) _) ?_
    show BitVec.ofNat 32 i.val + (BitVec.ofNat 32 t * 1024#32 + BitVec.ofNat 32 (256 * s.val)) = _
    rw [← BitVec.ofNat_mul, ← BitVec.ofNat_add, ← BitVec.ofNat_add]
    exact congrArg (BitVec.ofNat 32) (by omega)
  show (((cnt L s (BitVec.ofNat 32 (Seq.span g.val + 1)) (ix2 i e)).toInt : ℝ) : EReal) = _
  rw [e1, toInt_small _ (by omega)]
  simp

theorem up_apply (s g : Fin 4) (i : Fin 256) (e : Fin 128) : prj L s 3 (ix2 i ⟨128 * g.val + e.val, by omega⟩)
    = D.p 3 (1024 * t + 256 * s.val + i.val) (128 * g.val + e.val) :=
  R.p s 3 i _

theorem tot_apply (s g : Fin 4) (U : ℕ → Vec Ideal S256x128 .f32)
    (hU : ∀ (k : ℕ), k < 16 → ∀ (i : Fin 256) (e : Fin 128), U k (ix2 i e) = D.up (16 + (1024 * t + 256 * s.val + i.val) - k) (128 * g.val + e.val))
    (k : ℕ) (hk : k < 16) (i : Fin 256) (e : Fin 128) :
    tot (uG L s g) U k (ix2 i e) = D.tot (1024 * t + 256 * s.val + i.val) (128 * g.val + e.val) k := by
  induction k with
  | zero =>
    refine Eq.trans ?_ (up_apply R s g i e)
    pointwise [tot, uG, uAt]
  | succ k ih =>
    rw [Seq.tot, ← ih (by omega), ← hU (k + 1) hk]
    pointwise [tot]

theorem pooled_apply (s g : Fin 4) (U : ℕ → Vec Ideal S256x128 .f32)
    (hU : ∀ (k : ℕ), k < 16 → ∀ (i : Fin 256) (e : Fin 128), U k (ix2 i e) = D.up (16 + (1024 * t + 256 * s.val + i.val) - k) (128 * g.val + e.val))
    (i : Fin 256) (e : Fin 128) :
    pooled L s g U (Seq.span g.val) (BitVec.ofNat 32 (Seq.span g.val + 1)) (ix2 i e)
      = D.dev (1024 * t + 256 * s.val + i.val) (128 * g.val + e.val) (Seq.span g.val) := by
  have hs := span_lt g
  rw [Seq.dev, ← tot_apply R s g U hU _ hs, ← cnt_apply R s g i e, ← up_apply R s g i e]
  pointwise [pooled, uG, uAt]

theorem poolOut_apply (s g : Fin 4) (U : ℕ → Vec Ideal S256x128 .f32)
    (hU : ∀ (k : ℕ), k < 16 → ∀ (i : Fin 256) (e : Fin 128), U k (ix2 i e) = D.up (16 + (1024 * t + 256 * s.val + i.val) - k) (128 * g.val + e.val))
    (i : Fin 256) (e : Fin 128) :
    poolOut L s g U (Seq.span g.val) (BitVec.ofNat 32 (Seq.span g.val + 1)) (ix2 i e)
      = D.pool (1024 * t + 256 * s.val + i.val) g.val e.val (Seq.span g.val) := by
  pointwise [poolOut]
  simp only [pooled_apply R s g U hU, R.pw, R.ps]
  rfl

end Cert.Kernel5Ideal.Odd

end
-- ==== Proof.OddPieces.lean ====
/-
  The stores of one run of the body are those of `Odd.outPieces` and `Odd.scPieces`.
-/
module

public import proofs.«01_k».proof.Proof.OddBody

@[expose] public section

set_option maxRecDepth 16384

noncomputable section

open Idealize.ShloMosaic Idealize.ShloMosaic.TcCoe Idealize.SL.Sem

namespace Cert.Kernel5Ideal.Odd

open Cert.Kernel5Ideal Cert.Kernel5Ideal.Gen

variable {F : FTy → Type} [FloatOps F]

theorem spieces0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole) (hc0 : ¬cond0_0 i)
    (x0 : Vec F S1024x1024 .f32) (x1 : Vec F S1x1024 .f32) (x2 : Vec F S1024x2048 .bf16) (x3 : Vec F S3x512 .f32) (x4 : Vec F S4x128x128 .bf16) (x5 : Vec F S1x512 .f32) (xs0 : Vec F S1040x512 .f32) (xs1 : Vec F S1040x512 .f32) :
    (kernelRun0_B c i arg2 harg2 arg3 harg3 arg4 harg4 arg5 harg5 arg6 harg6 arg7 harg7 arg8 harg8 arg9 harg9 arg10 harg10 hc0 x0 x1 x2 x3 x4 x5 xs0 xs1).2.1 = scPieces arg9 (zPc (loads i arg2 harg2 arg3 harg3 arg4 harg4 arg5 harg5 arg6 harg6 arg7 harg7 x0 x1 x2 x3 x4 x5)) [] := by
  sl_kernel_rfl

theorem spieces1_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole) (hc0 : ¬cond0_0 i)
    (x0 : Vec F S1024x1024 .f32) (x1 : Vec F S1x1024 .f32) (x2 : Vec F S1024x2048 .bf16) (x3 : Vec F S3x512 .f32) (x4 : Vec F S4x128x128 .bf16) (x5 : Vec F S1x512 .f32) (xs0 : Vec F S1040x512 .f32) (xs1 : Vec F S1040x512 .f32) :
    (kernelRun0_B c i arg2 harg2 arg3 harg3 arg4 harg4 arg5 harg5 arg6 harg6 arg7 harg7 arg8 harg8 arg9 harg9 arg10 harg10 hc0 x0 x1 x2 x3 x4 x5 xs0 xs1).2.2.1 = scPieces arg10 (uPc (loads i arg2 harg2 arg3 harg3 arg4 harg4 arg5 harg5 arg6 harg6 arg7 harg7 x0 x1 x2 x3 x4 x5)) [] := by
  sl_kernel_rfl

theorem pieces_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole) (hc0 : ¬cond0_0 i)
    (x0 : Vec F S1024x1024 .f32) (x1 : Vec F S1x1024 .f32) (x2 : Vec F S1024x2048 .bf16) (x3 : Vec F S3x512 .f32) (x4 : Vec F S4x128x128 .bf16) (x5 : Vec F S1x512 .f32) (xs0 : Vec F S1040x512 .f32) (xs1 : Vec F S1040x512 .f32) :
    (kernelRun0_B c i arg2 harg2 arg3 harg3 arg4 harg4 arg5 harg5 arg6 harg6 arg7 harg7 arg8 harg8 arg9 harg9 arg10 harg10 hc0 x0 x1 x2 x3 x4 x5 xs0 xs1).1 = outPieces (loads i arg2 harg2 arg3 harg3 arg4 harg4 arg5 harg5 arg6 harg6 arg7 harg7 x0 x1 x2 x3 x4 x5)
      (zRead arg9 (harg9.unread xs0) (zPc (loads i arg2 harg2 arg3 harg3 arg4 harg4 arg5 harg5 arg6 harg6 arg7 harg7 x0 x1 x2 x3 x4 x5)) [])
      (uRead arg10 (harg10.unread xs1) (uPc (loads i arg2 harg2 arg3 harg3 arg4 harg4 arg5 harg5 arg6 harg6 arg7 harg7 x0 x1 x2 x3 x4 x5)) []) := by
  sl_kernel_rfl

theorem spieces0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole) (hc0 : cond0_0 i)
    (x0 : Vec F S1024x1024 .f32) (x1 : Vec F S1x1024 .f32) (x2 : Vec F S1024x2048 .bf16) (x3 : Vec F S3x512 .f32) (x4 : Vec F S4x128x128 .bf16) (x5 : Vec F S1x512 .f32) :
    (kernelRun0_A c i arg2 harg2 arg3 harg3 arg4 harg4 arg5 harg5 arg6 harg6 arg7 harg7 arg8 harg8 arg9 harg9 arg10 harg10 hc0 x0 x1 x2 x3 x4 x5).2.1 = scPieces arg9 (zPc (loads i arg2 harg2 arg3 harg3 arg4 harg4 arg5 harg5 arg6 harg6 arg7 harg7 x0 x1 x2 x3 x4 x5)) [zeroPc] := by
  sl_kernel_rfl

theorem spieces1_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole) (hc0 : cond0_0 i)
    (x0 : Vec F S1024x1024 .f32) (x1 : Vec F S1x1024 .f32) (x2 : Vec F S1024x2048 .bf16) (x3 : Vec F S3x512 .f32) (x4 : Vec F S4x128x128 .bf16) (x5 : Vec F S1x512 .f32) :
    (kernelRun0_A c i arg2 harg2 arg3 harg3 arg4 harg4 arg5 harg5 arg6 harg6 arg7 harg7 arg8 harg8 arg9 harg9 arg10 harg10 hc0 x0 x1 x2 x3 x4 x5).2.2.1 = scPieces arg10 (uPc (loads i arg2 harg2 arg3 harg3 arg4 harg4 arg5 harg5 arg6 harg6 arg7 harg7 x0 x1 x2 x3 x4 x5)) [zeroPc] := by
  sl_kernel_rfl

theorem pieces_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole) (hc0 : cond0_0 i)
    (x0 : Vec F S1024x1024 .f32) (x1 : Vec F S1x1024 .f32) (x2 : Vec F S1024x2048 .bf16) (x3 : Vec F S3x512 .f32) (x4 : Vec F S4x128x128 .bf16) (x5 : Vec F S1x512 .f32) :
    (kernelRun0_A c i arg2 harg2 arg3 harg3 arg4 harg4 arg5 harg5 arg6 harg6 arg7 harg7 arg8 harg8 arg9 harg9 arg10 harg10 hc0 x0 x1 x2 x3 x4 x5).1 = outPieces (loads i arg2 harg2 arg3 harg3 arg4 harg4 arg5 harg5 arg6 harg6 arg7 harg7 x0 x1 x2 x3 x4 x5)
      (zRead arg9 arg9.view.junk (zPc (loads i arg2 harg2 arg3 harg3 arg4 harg4 arg5 harg5 arg6 harg6 arg7 harg7 x0 x1 x2 x3 x4 x5)) [zeroPc])
      (uRead arg10 arg10.view.junk (uPc (loads i arg2 harg2 arg3 harg3 arg4 harg4 arg5 harg5 arg6 harg6 arg7 harg7 x0 x1 x2 x3 x4 x5)) [zeroPc]) := by
  sl_kernel_rfl

end Cert.Kernel5Ideal.Odd

end
-- ==== Proof.OddPoint.lean ====
/-
  One grid point: what it leaves in the output's block and in the carried rows, index by index, when its
  blocks hold the tile's rows of the sequence and the rows carried from before it are the sequence's.
-/
module

public import proofs.«01_k».proof.Proof.OddRead
public import proofs.«01_k».proof.Proof.OddPieces
public import Idealize.ShloMosaic.Lib.Pipeline.ReadBack

@[expose] public section

set_option maxRecDepth 16384

noncomputable section

open Idealize.ShloMosaic Idealize.ShloMosaic.TcCoe Idealize.SL.Sem

namespace Cert.Kernel5Ideal.Odd

open Cert.Kernel5Ideal Cert.Kernel5Ideal.Gen Cert.Odd Cert.Post Cert.Proj

/-- The blocks of tile `t` hold the sequence `D`. -/
structure BlockReads (x0 : Vec Ideal S1024x1024 .f32) (x1 : Vec Ideal S1x1024 .f32) (x2 : Vec Ideal S1024x2048 .bf16) (x3 : Vec Ideal S3x512 .f32) (x4 : Vec Ideal S4x128x128 .bf16) (x5 : Vec Ideal S1x512 .f32) (D : Seq) (t : ℕ) : Prop where
  p : ∀ (q : Fin 4) (i : Fin 1024) (l : Fin 512),
    entry (fun k => x0 (ix2 i k)) (fun k => x1 (ix2 0 k)) (fun k => x2 (ix2 k ⟨512 * q.val + l.val, by omega⟩)) = D.p q.val (1024 * t + i.val) l.val
  cw : ∀ (k : Fin 3) (l : Fin 512), x3 (ix2 k l) = D.cw k.val l.val
  pw : ∀ (g : Fin 4) (k e : Fin 128), x4 (ix3 g k e) = D.pw g.val k.val e.val
  ps : ∀ l : Fin 512, x5 (ix2 0 l) = D.ps l.val
  lt : t < 4

/-- The carried rows are the sixteen before row `n` of `f`, zeros before the first. -/
def CarryIs (xs : Vec Ideal S1040x512 .f32) (f : ℕ → ℕ → EReal) (n : ℕ) : Prop :=
  ∀ (r : Fin 1040) (l : Fin 512), r.val < 16 → xs (ix2 r l) = f (n + r.val) l.val

variable (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S3x512 .f32) (harg5 : arg5.IsWhole) (arg6 : Memref sig .tc .vmem S4x128x128 .bf16) (harg6 : arg6.IsWhole) (arg7 : Memref sig .tc .vmem S1x512 .f32) (harg7 : arg7.IsWhole)
  (x0 : Vec Ideal S1024x1024 .f32) (x1 : Vec Ideal S1x1024 .f32) (x2 : Vec Ideal S1024x2048 .bf16) (x3 : Vec Ideal S3x512 .f32) (x4 : Vec Ideal S4x128x128 .bf16) (x5 : Vec Ideal S1x512 .f32) {D : Seq} {t : ℕ}

theorem reads_of (hi : (i 1).val = t) (B : BlockReads x0 x1 x2 x3 x4 x5 D t) :
    Reads (loads i arg2 harg2 arg3 harg3 arg4 harg4 arg5 harg5 arg6 harg6 arg7 harg7 x0 x1 x2 x3 x4 x5) D t where
  p s q r l := by
    rw [prj_apply, Nat.add_assoc, ← B.p q ⟨256 * s.val + r.val, by omega⟩ l]
    simp only [loads, View.readAt_eq_ld, harg2.read_unread, harg3.read_unread, harg4.read_unread]
    pointwise []
  cw k l := by
    rw [← B.cw k l]
    simp only [loads, View.readAt_eq_ld, harg5.read_unread]
    pointwise []
  pw g k e := by
    rw [← B.pw g k e]
    simp only [loads, View.readAt_eq_ld, harg6.read_unread]
    pointwise []
  ps g e := by
    rw [← B.ps ⟨128 * g.val + e.val, by omega⟩]
    simp only [loads, View.readAt_eq_ld, harg7.read_unread]
    pointwise []
  lt := B.lt
  t := congrArg (BitVec.ofNat 32) hi

/-! ## The scratch rows -/

/-- Rows `r` of a scratch at tile `t`. -/
def rowsOf (f : ℕ → ℕ → EReal) (t : ℕ) : S1040x512.Idx → EReal := fun y => f (1024 * t + (y 0).val) (y 1).val

/-- A part's stored rows are blocks of the scratch's rows. -/
theorem pc_rows {f : ℕ → ℕ → EReal} (x : Fin 4 → FVec Ideal S256x512 .f32)
    (hx : ∀ (s : Fin 4) (r : Fin 256) (l : Fin 512), x s (ix2 r l) = f (1024 * t + (16 + 256 * s.val + r.val)) l.val) (s : Fin 4)
    (y : (Rect.unit (s := S1040x512) ![16 + 256 * s.val - 0, 0] S256x512.size (in_z s 0)).shape.Idx) :
    shapeCast S256x512 (x s) shapeCasts_S256x512_S256x512 y
      = rowsOf f t ((Rect.unit (s := S1040x512) ![16 + 256 * s.val - 0, 0] S256x512.size (in_z s 0)).emb y) := by
  have key : ∀ (y : S256x512.Idx) (w : S1040x512.Idx), (w 0).val = 16 + 256 * s.val + (y 0).val → (w 1).val = (y 1).val →
      shapeCast S256x512 (x s) shapeCasts_S256x512_S256x512 y = rowsOf f t w := by
    intro y w h0 h1
    idx_vars y
    rw [rowsOf, h0, h1, ← hx s y0 y1]
    pointwise []
  exact key y _ (by show 16 + 256 * s.val - 0 + 1 * (y 0).val = 16 + 256 * s.val + (y 0).val; omega) (by show 0 + 1 * (y 1).val = (y 1).val; omega)

/-- The zero rows are blocks of the scratch's rows before a sequence. -/
theorem zero_rows {f : ℕ → ℕ → EReal} (hf : ∀ r l, r < 16 → f r l = 0)
    (y : (zeroPc (F := Ideal)).1.shape.Idx) : (zeroPc (F := Ideal)).2 y = rowsOf f 0 ((zeroPc (F := Ideal)).1.emb y) := by
  have key : ∀ (y : S16x512.Idx) (w : S1040x512.Idx), (w 0).val = (y 0).val → (zeroPc (F := Ideal)).2 y = rowsOf f 0 w := by
    intro y w h0
    have hy : (y 0).val < 16 := (y 0).isLt
    rw [rowsOf, hf _ _ (by omega)]
    idx_vars y
    show shapeCast S16x512 (broadcast S16x512 (Scalar.ofBits .f32 0x00000000#32) : FVec Ideal S16x512 .f32) shapeCasts_S16x512_S16x512 (ix2 y0 y1) = _
    pointwise []
  exact key y _ (by show 0 + 1 * (y 0).val = (y 0).val; omega)

section
variable (m : Memref sig .tc .vmem S1040x512 .f32) (P : Fin 4 → View.Piece (Elt Ideal) S1040x512 .f32) (T : List (View.Piece (Elt Ideal) S1040x512 .f32))

/-- A piece is a block of the scratch's rows. -/
def IsBlock (G : S1040x512.Idx → EReal) (p : View.Piece (Elt Ideal) S1040x512 .f32) : Prop := ∀ x : p.1.shape.Idx, p.2 x = G (p.1.emb x)

theorem mem_upTo (s : Fin 4) (p : View.Piece (Elt Ideal) S1040x512 .f32) :
    p ∈ upTo P T s ↔ (∃ s' : Fin 4, s' ≤ s ∧ p = P s') ∨ p ∈ T := by
  have : ∀ s : Fin 4, p ∈ upTo P T s ↔ (∃ s' : Fin 4, s' ≤ s ∧ p = P s') ∨ p ∈ T := by
    intro s
    match s with
    | 0 => simp [upTo, Fin.exists_fin_succ]
    | 1 => simp [upTo, Fin.exists_fin_succ]; tauto
    | 2 => simp [upTo, Fin.exists_fin_succ]; tauto
    | 3 => simp [upTo, Fin.exists_fin_succ]; tauto
  exact this s

/-- Where a store or the contents before give the scratch's rows, so does the scratch after the stores. -/
theorem read_upTo {G : S1040x512.Idx → EReal} (hP : ∀ s, IsBlock G (P s)) (hT : ∀ p ∈ T, IsBlock G p) (f : m.view.ty.Contents (Elt Ideal)) (s : Fin 4)
    (y : S1040x512.Idx) (h : (∃ p ∈ upTo P T s, y ∈ p.1.set) ∨ m.view.read (Elt Ideal) f y = G y) :
    m.view.read (Elt Ideal) (m.view.writes (Elt Ideal) f (upTo P T s)) y = G y := by
  by_cases hc : ∃ p ∈ upTo P T s, y ∈ p.1.set
  · refine View.read_writes_apply_of_pieces m.view f G _ (fun p hp => ?_) y hc
    rcases (mem_upTo P T s p).1 hp with ⟨s', _, rfl⟩ | hp
    · exact hP s'
    · exact hT p hp
  · rw [View.read_writes_apply_of_forall_not_mem m.view f y _ (fun p hp hy => hc ⟨p, hp, hy⟩)]
    exact h.resolve_left hc

/-- Row `r ≥ 16` of the first `s + 1` parts is stored. -/
theorem cover_upTo (hP : ∀ s, (P s).1 = Rect.unit (s := S1040x512) ![16 + 256 * s.val - 0, 0] S256x512.size (in_z s 0)) (s : Fin 4) (y : S1040x512.Idx)
    (h0 : 16 ≤ (y 0).val) (h1 : (y 0).val < 272 + 256 * s.val) : ∃ p ∈ upTo P T s, y ∈ p.1.set := by
  have hy : (y 1).val < 512 := (y 1).isLt
  refine ⟨P ⟨((y 0).val - 16) / 256, by omega⟩, (mem_upTo P T s _).2 (Or.inl ⟨_, ?_, rfl⟩), ?_⟩
  · show ((y 0).val - 16) / 256 ≤ s.val
    omega
  · rw [hP]
    refine Rect.mem_set_unit.2 fun a => ?_
    match a with
    | ⟨0, _⟩ => show 16 + 256 * (((y 0).val - 16) / 256) - 0 ≤ (y 0).val ∧ (y 0).val < 16 + 256 * (((y 0).val - 16) / 256) - 0 + 256; omega
    | ⟨1, _⟩ => show 0 ≤ (y 1).val ∧ (y 1).val < 0 + 512; omega

/-- The rows a part reads are the scratch's rows. -/
theorem held_rows {G : S1040x512.Idx → EReal} (hP : ∀ s, IsBlock G (P s)) (hT : ∀ p ∈ T, IsBlock G p)
    (hr : ∀ s, (P s).1 = Rect.unit (s := S1040x512) ![16 + 256 * s.val - 0, 0] S256x512.size (in_z s 0)) (f : m.view.ty.Contents (Elt Ideal))
    (hf : ∀ y : S1040x512.Idx, (y 0).val < 16 → (∃ p ∈ T, y ∈ p.1.set) ∨ m.view.read (Elt Ideal) f y = G y) (s : Fin 4) (y : S1040x512.Idx)
    (h0 : 1 + 256 * s.val ≤ (y 0).val) (h1 : (y 0).val < 272 + 256 * s.val) :
    m.view.read (Elt Ideal) (heldAt m f P T s) y = G y := by
  match s with
  | 0 =>
    refine read_upTo m P T hP hT f 0 y ?_
    by_cases h : 16 ≤ (y 0).val
    · exact Or.inl (cover_upTo P T hr 0 y h h1)
    · rcases hf y (by omega) with ⟨p, hp, hy⟩ | h'
      · exact Or.inl ⟨p, (mem_upTo P T 0 p).2 (Or.inr hp), hy⟩
      · exact Or.inr h'
  | 1 => exact read_upTo m P T hP hT _ 1 y (Or.inl (cover_upTo P T hr 1 y (by change 1 + 256 * 1 ≤ _ at h0; omega) h1))
  | 2 => exact read_upTo m P T hP hT _ 2 y (Or.inl (cover_upTo P T hr 2 y (by change 1 + 256 * 2 ≤ _ at h0; omega) h1))
  | 3 => exact read_upTo m P T hP hT _ 3 y (Or.inl (cover_upTo P T hr 3 y (by change 1 + 256 * 3 ≤ _ at h0; omega) h1))

/-- The rows carried on are the tile's last sixteen. -/
theorem canon_sc {f : ℕ → ℕ → EReal} (hP : ∀ s, IsBlock (rowsOf f t) (P s)) (hT : ∀ p ∈ T, IsBlock (rowsOf f t) p)
    (hr : ∀ s, (P s).1 = Rect.unit (s := S1040x512) ![16 + 256 * s.val - 0, 0] S256x512.size (in_z s 0)) :
    CarryIs (View.canon (scPieces m P T)) f (1024 * (t + 1)) := by
  intro r l hrl
  have hp : View.PiecesOf (fun y : S1040x512.Idx => f (1024 * (t + 1) + (y 0).val) (y 1).val)
      ([⟨Rect.unit ![0, 0] S16x512.size inb_S1040x512_S16x512_0_0,
        shapeCast S16x512 (View.readAt (Elt Ideal) m.view (Rect.unit (s := S1040x512) ![1024, 0] S16x512.size inb_S1040x512_S16x512_1024_0).toLoadRect
          (m.view.writes (Elt Ideal) m.view.junk (upTo P T 3))) shapeCasts_S16x512_S16x512⟩] : List (View.Piece (Elt Ideal) S1040x512 .f32)) := by
    have key : ∀ (x : S16x512.Idx) (y : S1040x512.Idx), (y 0).val = (x 0).val → (y 1).val = (x 1).val →
        shapeCast S16x512 (View.readAt (Elt Ideal) m.view (Rect.unit (s := S1040x512) ![1024, 0] S16x512.size inb_S1040x512_S16x512_1024_0).toLoadRect
          (m.view.writes (Elt Ideal) m.view.junk (upTo P T 3))) shapeCasts_S16x512_S16x512 x = f (1024 * (t + 1) + (y 0).val) (y 1).val := by
      intro x y h0 h1
      idx_vars x
      have hx0 : x0.val < 16 := x0.isLt
      rw [h0, h1]
      rw [View.readAt_eq_ld]
      have e := read_upTo m P T hP hT m.view.junk 3 (ix2 ⟨1024 + x0.val, by omega⟩ x1 : S1040x512.Idx)
        (Or.inl (cover_upTo P T hr 3 _ (by show 16 ≤ 1024 + x0.val; omega) (by show 1024 + x0.val < 272 + 256 * 3; omega)))
      refine Eq.trans ?_ (e.trans ?_)
      · pointwise []
      · show f (1024 * t + (1024 + x0.val)) x1.val = f (1024 * (t + 1) + x0.val) x1.val
        rw [show 1024 * t + (1024 + x0.val) = 1024 * (t + 1) + x0.val by omega]
    exact ⟨fun x => key x _ (by show 0 + 1 * (x 0).val = (x 0).val; omega) (by show 0 + 1 * (x 1).val = (x 1).val; omega), trivial⟩
  have hm : (ix2 r l : S1040x512.Idx) ∈ (Rect.unit (s := S1040x512) ![0, 0] S16x512.size inb_S1040x512_S16x512_0_0).set := by
    refine Rect.mem_set_unit.2 fun a => ?_
    match a with
    | ⟨0, _⟩ => show 0 ≤ r.val ∧ r.val < 0 + 16; omega
    | ⟨1, _⟩ => show 0 ≤ l.val ∧ l.val < 0 + 512; omega
  exact View.canon_append_of_piecesOf _ (upTo P T 3) _ hp (ix2 r l) ⟨_, List.mem_singleton_self _, hm⟩

theorem zRead_rows {f : ℕ → ℕ → EReal} (s : Fin 4) (k : ℕ) (hk : k < 16) (c : m.view.ty.Contents (Elt Ideal))
    (h : ∀ y : S1040x512.Idx, 1 + 256 * s.val ≤ (y 0).val → (y 0).val < 272 + 256 * s.val → m.view.read (Elt Ideal) (heldAt m c P T s) y = rowsOf f t y)
    (i : Fin 256) (l : Fin 512) : zRead m c P T s k (ix2 i l) = f (1024 * t + (16 + 256 * s.val - k + i.val)) l.val := by
  refine Eq.trans ?_ (h (ix2 ⟨16 + 256 * s.val - k + i.val, by omega⟩ l) (by show 1 + 256 * s.val ≤ 16 + 256 * s.val - k + i.val; omega)
    (by show 16 + 256 * s.val - k + i.val < 272 + 256 * s.val; omega))
  rw [zRead, View.readAt_eq_ld]
  pointwise []

theorem uRead_rows {f : ℕ → ℕ → EReal} (s g : Fin 4) (k : ℕ) (hk : k < 16) (c : m.view.ty.Contents (Elt Ideal))
    (h : ∀ y : S1040x512.Idx, 1 + 256 * s.val ≤ (y 0).val → (y 0).val < 272 + 256 * s.val → m.view.read (Elt Ideal) (heldAt m c P T s) y = rowsOf f t y)
    (i : Fin 256) (e : Fin 128) : uRead m c P T s g k (ix2 i e) = f (1024 * t + (16 + 256 * s.val - k + i.val)) (128 * g.val + e.val) := by
  refine Eq.trans ?_ (h (ix2 ⟨16 + 256 * s.val - k + i.val, by omega⟩ ⟨128 * g.val + e.val, by omega⟩)
    (by show 1 + 256 * s.val ≤ 16 + 256 * s.val - k + i.val; omega) (by show 16 + 256 * s.val - k + i.val < 272 + 256 * s.val; omega))
  rw [uRead, View.readAt_eq_ld]
  pointwise []

end

/-- The scratch of the convolution's input holds the sequence's. -/
theorem zPc_block {L : Loads Ideal} (R : Reads L D t) (s : Fin 4) : IsBlock (rowsOf D.zp t) (zPc L s) :=
  pc_rows (zAt L) (fun s r l => by
    rw [zAt_apply R, Seq.zp, if_neg (by omega), show 1024 * t + (16 + 256 * s.val + r.val) - 16 = 1024 * t + 256 * s.val + r.val by omega]) s

/-- The scratch of the pooling's input holds the sequence's. -/
theorem uPc_block {L : Loads Ideal} (R : Reads L D t) (s : Fin 4) : IsBlock (rowsOf D.up t) (uPc L s) :=
  pc_rows (uAt L) (fun s r l => by
    rw [uAt_apply R, Seq.up, if_neg (by omega), show 1024 * t + (16 + 256 * s.val + r.val) - 16 = 1024 * t + 256 * s.val + r.val by omega]) s

/-- The output's block after its stores. -/
theorem canon_out {L : Loads Ideal} (R : Reads L D t) (Z : Fin 4 → ℕ → Vec Ideal S256x512 .f32) (U : Fin 4 → Fin 4 → ℕ → Vec Ideal S256x128 .f32)
    (hZ : ∀ (s : Fin 4) (k : ℕ), k < 16 → ∀ (i : Fin 256) (l : Fin 512), Z s k (ix2 i l) = D.zp (1024 * t + (16 + 256 * s.val - k + i.val)) l.val)
    (hU : ∀ (s g : Fin 4) (k : ℕ), k < 16 → ∀ (i : Fin 256) (e : Fin 128), U s g k (ix2 i e) = D.up (1024 * t + (16 + 256 * s.val - k + i.val)) (128 * g.val + e.val))
    (r : Fin 1024) (l : Fin 1024) : View.canon (outPieces L Z U) (ix2 r l) = D.y (1024 * t + r.val) l.val := by
  have hp : View.PiecesOf (fun y : S1024x1024.Idx => D.y (1024 * t + (y 0).val) (y 1).val) (outPieces L Z U) := by
    have kc : ∀ (s : Fin 4) (x : S256x512.Idx) (y : S1024x1024.Idx), (y 0).val = 256 * s.val + (x 0).val → (y 1).val = (x 1).val →
        convOut L s (Z s 2) (Z s 1) x = D.y (1024 * t + (y 0).val) (y 1).val := by
      intro s x y h0 h1
      idx_vars x
      have hx1 : x1.val < 512 := x1.isLt
      rw [convOut_apply R s _ _ (fun i l => ?_) (fun i l => ?_), h0, h1, Seq.y, if_pos hx1, Nat.add_assoc]
      · rw [hZ s 2 (by decide)]
        exact congrArg (D.zp · _) (by omega)
      · rw [hZ s 1 (by decide)]
        exact congrArg (D.zp · _) (by omega)
    have kp : ∀ (s g : Fin 4) (x : S256x128.Idx) (y : S1024x1024.Idx), (y 0).val = 256 * s.val + (x 0).val → (y 1).val = 512 + 128 * g.val + (x 1).val →
        poolOut L s g (U s g) (Seq.span g.val) (BitVec.ofNat 32 (Seq.span g.val + 1)) x = D.y (1024 * t + (y 0).val) (y 1).val := by
      intro s g x y h0 h1
      idx_vars x
      have hx1 : x1.val < 128 := x1.isLt
      rw [poolOut_apply R s g _ (fun k hk i e => ?_), h0, h1, Seq.y, if_neg (by omega), Nat.add_assoc,
        show (512 + 128 * g.val + x1.val - 512) / 128 = g.val by omega, show (512 + 128 * g.val + x1.val - 512) % 128 = x1.val by omega]
      rw [hU s g k hk]
      exact congrArg (D.up · _) (by omega)
    have e1 : ∀ o n : ℕ, o + 1 * n = o + n := fun o n => by omega
    have e0 : ∀ n : ℕ, 0 + 1 * n = n := fun n => by omega
    exact ⟨fun x => kp 3 3 x _ (e1 _ _) (e1 _ _), fun x => kp 3 2 x _ (e1 _ _) (e1 _ _), fun x => kp 3 1 x _ (e1 _ _) (e1 _ _), fun x => kp 3 0 x _ (e1 _ _) (e1 _ _), fun x => kc 3 x _ (e1 _ _) (e0 _),
      fun x => kp 2 3 x _ (e1 _ _) (e1 _ _), fun x => kp 2 2 x _ (e1 _ _) (e1 _ _), fun x => kp 2 1 x _ (e1 _ _) (e1 _ _), fun x => kp 2 0 x _ (e1 _ _) (e1 _ _), fun x => kc 2 x _ (e1 _ _) (e0 _),
      fun x => kp 1 3 x _ (e1 _ _) (e1 _ _), fun x => kp 1 2 x _ (e1 _ _) (e1 _ _), fun x => kp 1 1 x _ (e1 _ _) (e1 _ _), fun x => kp 1 0 x _ (e1 _ _) (e1 _ _), fun x => kc 1 x _ (e1 _ _) (e0 _),
      fun x => kp 0 3 x _ (e1 _ _) (e1 _ _), fun x => kp 0 2 x _ (e1 _ _) (e1 _ _), fun x => kp 0 1 x _ (e1 _ _) (e1 _ _), fun x => kp 0 0 x _ (e1 _ _) (e1 _ _), fun x => kc 0 x _ (e1 _ _) (e0 _), trivial⟩
  exact View.canon_apply_of_pieces (fun y : S1024x1024.Idx => D.y (1024 * t + (y 0).val) (y 1).val) _ hp.mem _
    (View.cover_of_tiledBy (outPieces L Z U) ![256, 128] (by sl_kernel_rfl) _)

variable (c : Dev nD) (arg8 : Memref sig .tc .vmem S1024x1024 .bf16) (harg8 : arg8.IsWhole) (arg9 : Memref sig .tc .vmem S1040x512 .f32) (harg9 : arg9.IsWhole) (arg10 : Memref sig .tc .vmem S1040x512 .f32) (harg10 : arg10.IsWhole)

/-- The carried rows give what the first part reads before its own. -/
theorem carry_rows (m : Memref sig .tc .vmem S1040x512 .f32) (hm : m.IsWhole) {f : ℕ → ℕ → EReal} {xs : Vec Ideal S1040x512 .f32} (h : CarryIs xs f (1024 * t))
    (y : S1040x512.Idx) (hy : (y 0).val < 16) :
    (∃ p ∈ ([] : List (View.Piece (Elt Ideal) S1040x512 .f32)), y ∈ p.1.set) ∨ m.view.read (Elt Ideal) (hm.unread xs) y = rowsOf f t y := by
  refine Or.inr ?_
  rw [hm.read_unread]
  idx_vars y
  exact h y0 y1 hy

/-- The zero rows cover what the first part reads before its own. -/
theorem zero_cover (m : Memref sig .tc .vmem S1040x512 .f32) {f : ℕ → ℕ → EReal} (y : S1040x512.Idx) (hy : (y 0).val < 16) :
    (∃ p ∈ [zeroPc (F := Ideal)], y ∈ p.1.set) ∨ m.view.read (Elt Ideal) m.view.junk y = rowsOf f 0 y := by
  have h1 : (y 1).val < 512 := (y 1).isLt
  have hm : y ∈ (Rect.unit (s := S1040x512) ![0, 0] S16x512.size inb_S1040x512_S16x512_0_0).set := by
    refine Rect.mem_set_unit.2 fun a => ?_
    match a with
    | ⟨0, _⟩ => show 0 ≤ (y 0).val ∧ (y 0).val < 0 + 16; omega
    | ⟨1, _⟩ => show 0 ≤ (y 1).val ∧ (y 1).val < 0 + 512; omega
  exact Or.inl ⟨_, List.mem_singleton_self _, hm⟩

theorem zero_block {f : ℕ → ℕ → EReal} (hf : ∀ r l, r < 16 → f r l = 0) : ∀ p ∈ [zeroPc (F := Ideal)], IsBlock (rowsOf f 0) p := by
  intro p hp
  obtain rfl := List.mem_singleton.1 hp
  exact zero_rows hf

theorem zp_zero (D : Seq) (r l : ℕ) (h : r < 16) : D.zp r l = 0 := if_pos h

theorem up_zero (D : Seq) (r l : ℕ) (h : r < 16) : D.up r l = 0 := if_pos h

theorem out_B (hc0 : ¬cond0_0 i) (hi : (i 1).val = t) (B : BlockReads x0 x1 x2 x3 x4 x5 D t) (xs0 xs1 : Vec Ideal S1040x512 .f32)
    (h0 : CarryIs xs0 D.zp (1024 * t)) (h1 : CarryIs xs1 D.up (1024 * t)) (r : Fin 1024) (l : Fin 1024) :
    out0_B_6 c i arg2 harg2 arg3 harg3 arg4 harg4 arg5 harg5 arg6 harg6 arg7 harg7 arg8 harg8 arg9 harg9 arg10 harg10 hc0 x0 x1 x2 x3 x4 x5 xs0 xs1 (ix2 r l)
      = D.y (1024 * t + r.val) l.val := by
  have R := reads_of i arg2 harg2 arg3 harg3 arg4 harg4 arg5 harg5 arg6 harg6 arg7 harg7 x0 x1 x2 x3 x4 x5 hi B
  rw [out0_B_6, View.read_writes_junk_eq_canon, pieces_B]
  exact canon_out R _ _
    (fun s k hk => zRead_rows _ _ _ s k hk _ (held_rows _ _ _ (zPc_block R) (fun _ h => absurd h List.not_mem_nil) (fun _ => rfl) _ (carry_rows _ _ h0) s))
    (fun s g k hk => uRead_rows _ _ _ s g k hk _ (held_rows _ _ _ (uPc_block R) (fun _ h => absurd h List.not_mem_nil) (fun _ => rfl) _ (carry_rows _ _ h1) s)) r l

theorem sout_B (hc0 : ¬cond0_0 i) (hi : (i 1).val = t) (B : BlockReads x0 x1 x2 x3 x4 x5 D t) (xs0 xs1 : Vec Ideal S1040x512 .f32) :
    CarryIs (sout0_B_0 c i arg2 harg2 arg3 harg3 arg4 harg4 arg5 harg5 arg6 harg6 arg7 harg7 arg8 harg8 arg9 harg9 arg10 harg10 hc0 x0 x1 x2 x3 x4 x5 xs0 xs1) D.zp (1024 * (t + 1))
    ∧ CarryIs (sout0_B_1 c i arg2 harg2 arg3 harg3 arg4 harg4 arg5 harg5 arg6 harg6 arg7 harg7 arg8 harg8 arg9 harg9 arg10 harg10 hc0 x0 x1 x2 x3 x4 x5 xs0 xs1) D.up (1024 * (t + 1)) := by
  have R := reads_of i arg2 harg2 arg3 harg3 arg4 harg4 arg5 harg5 arg6 harg6 arg7 harg7 x0 x1 x2 x3 x4 x5 hi B
  rw [sout0_B_0, View.read_writes_junk_eq_canon, spieces0_B, sout0_B_1, View.read_writes_junk_eq_canon, spieces1_B]
  exact ⟨canon_sc _ _ _ (zPc_block R) (fun _ h => absurd h List.not_mem_nil) fun _ => rfl,
    canon_sc _ _ _ (uPc_block R) (fun _ h => absurd h List.not_mem_nil) fun _ => rfl⟩

theorem out_A (hc0 : cond0_0 i) (hi : (i 1).val = 0) (B : BlockReads x0 x1 x2 x3 x4 x5 D 0) (r : Fin 1024) (l : Fin 1024) :
    out0_A_6 c i arg2 harg2 arg3 harg3 arg4 harg4 arg5 harg5 arg6 harg6 arg7 harg7 arg8 harg8 arg9 harg9 arg10 harg10 hc0 x0 x1 x2 x3 x4 x5 (ix2 r l)
      = D.y (1024 * 0 + r.val) l.val := by
  have R := reads_of i arg2 harg2 arg3 harg3 arg4 harg4 arg5 harg5 arg6 harg6 arg7 harg7 x0 x1 x2 x3 x4 x5 hi B
  rw [out0_A_6, View.read_writes_junk_eq_canon, pieces_A]
  exact canon_out R _ _
    (fun s k hk => zRead_rows _ _ _ s k hk _ (held_rows _ _ _ (zPc_block R) (zero_block (zp_zero D)) (fun _ => rfl) _ (zero_cover _) s))
    (fun s g k hk => uRead_rows _ _ _ s g k hk _ (held_rows _ _ _ (uPc_block R) (zero_block (up_zero D)) (fun _ => rfl) _ (zero_cover _) s)) r l

theorem sout_A (hc0 : cond0_0 i) (hi : (i 1).val = 0) (B : BlockReads x0 x1 x2 x3 x4 x5 D 0) :
    CarryIs (sout0_A_0 c i arg2 harg2 arg3 harg3 arg4 harg4 arg5 harg5 arg6 harg6 arg7 harg7 arg8 harg8 arg9 harg9 arg10 harg10 hc0 x0 x1 x2 x3 x4 x5) D.zp (1024 * (0 + 1))
    ∧ CarryIs (sout0_A_1 c i arg2 harg2 arg3 harg3 arg4 harg4 arg5 harg5 arg6 harg6 arg7 harg7 arg8 harg8 arg9 harg9 arg10 harg10 hc0 x0 x1 x2 x3 x4 x5) D.up (1024 * (0 + 1)) := by
  have R := reads_of i arg2 harg2 arg3 harg3 arg4 harg4 arg5 harg5 arg6 harg6 arg7 harg7 x0 x1 x2 x3 x4 x5 hi B
  rw [sout0_A_0, View.read_writes_junk_eq_canon, spieces0_A, sout0_A_1, View.read_writes_junk_eq_canon, spieces1_A]
  exact ⟨canon_sc _ _ _ (zPc_block R) (zero_block (zp_zero D)) fun _ => rfl, canon_sc _ _ _ (uPc_block R) (zero_block (up_zero D)) fun _ => rfl⟩

end Cert.Kernel5Ideal.Odd

end
-- ==== Proof.OddArray.lean ====
/-
  The whole output of the odd layers' mixing call: at every row and lane the sequence's value, the carried
  rows being the sequence's after each tile.
-/
module

public import proofs.«01_k».proof.Proof.OddPoint
public import proofs.«01_k».proof.Proof.Gen.Kernel5Ideal.Value
public import Idealize.ShloMosaic.Lib.StableHlo.ReadAt

@[expose] public section

set_option maxRecDepth 16384

noncomputable section

open Idealize.ShloMosaic Idealize.ShloMosaic.TcCoe Idealize.SL.Sem

namespace Cert.Kernel5Ideal.Odd

open Cert.Kernel5Ideal Cert.Kernel5Ideal.Gen Cert.Kernel5Ideal.Value Cert.Odd Cert.Post Cert.Proj

variable (m : (ℓ : Loc nD τ sig) → Buf (Elt Ideal) ℓ) (c : Dev nD)

/-- The call's arguments: the residual stream. -/
abbrev A0 : (⟨3, ![8, 4096, 1024]⟩ : Shape).Idx → EReal := m ((c : Thread nD τ).loc main_arg0)

/-- The call's arguments: the norm's weight. -/
abbrev A1 : (⟨1, ![1024]⟩ : Shape).Idx → EReal := m ((c : Thread nD τ).loc main_arg1)

/-- The call's arguments: the projection. -/
abbrev A2 : (⟨2, ![1024, 2048]⟩ : Shape).Idx → EReal := m ((c : Thread nD τ).loc main_arg2)

/-- The call's arguments: the convolution's taps. -/
abbrev A3 : (⟨2, ![3, 512]⟩ : Shape).Idx → EReal := m ((c : Thread nD τ).loc main_arg3)

/-- The call's arguments: the groups' matrices. -/
abbrev A4 : (⟨3, ![4, 128, 128]⟩ : Shape).Idx → EReal := m ((c : Thread nD τ).loc main_arg4)

/-- The call's arguments: the pooling's scale. -/
abbrev A5 : (⟨1, ![512]⟩ : Shape).Idx → EReal := m ((c : Thread nD τ).loc main_arg5)

/-- Sequence `B` of the call's arguments. -/
def seq (B : Fin 8) : Seq :=
  Seq.ofArrays (A0 m c) (A1 m c) (A2 m c) (A3 m c) (A4 m c) (A5 m c) B

/-! ## The blocks are rows of the arrays -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- A point's second coordinate is its tile of its sequence. -/
theorem coord1 : ∀ t : Fin cfg0.N, (grid0.coords t 1).val = t.val % 4 :=
  (by decide +kernel : ∀ t : Fin grid0.N, _)

theorem blk0 (t : Fin cfg0.N) (r : Fin 1024) (l : Fin 1024) :
    iblk m c 0 t (ix2 r l) = V m c main_v0 (ix2 ⟨1024 * t.val + r.val, by have := lt_of_lt_of_eq t.isLt N_0; omega⟩ l) := by
  have e := idx0 t
  refine congrArg (V m c main_v0) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * l.val = l.val; omega

theorem blk1 (t : Fin cfg0.N) (r : Fin 1) (l : Fin 1024) : iblk m c 1 t (ix2 r l) = V m c main_v1 (ix2 r l) := by
  have e := idx1 t
  refine congrArg (V m c main_v1) (funext fun a => Fin.ext ?_)
  match a with
  | ⟨0, _⟩ => show win0_1.index t (0 : Fin 2) * 1 + 1 * r.val = r.val; omega
  | ⟨1, _⟩ => show win0_1.index t (1 : Fin 2) * 1024 + 1 * l.val = l.val; omega

theorem blk2 (t : Fin cfg0.N) (r : Fin 1024) (l : Fin 2048) : iblk m c 2 t (ix2 r l) = V m c main_v2 (ix2 r l) := by
  have e := idx2 t
  refine congrArg (V m c main_v2) (funext fun a => Fin.ext ?_)
  match a with
  | ⟨0, _⟩ => show win0_2.index t (0 : Fin 2) * 1024 + 1 * r.val = r.val; omega
  | ⟨1, _⟩ => show win0_2.index t (1 : Fin 2) * 2048 + 1 * l.val = l.val; omega

theorem blk3 (t : Fin cfg0.N) (r : Fin 3) (l : Fin 512) : iblk m c 3 t (ix2 r l) = V m c main_arg3 (ix2 r l) := by
  have e := idx3 t
  refine congrArg (V m c main_arg3) (funext fun a => Fin.ext ?_)
  match a with
  | ⟨0, _⟩ => show win0_3.index t (0 : Fin 2) * 3 + 1 * r.val = r.val; omega
  | ⟨1, _⟩ => show win0_3.index t (1 : Fin 2) * 512 + 1 * l.val = l.val; omega

theorem blk4 (t : Fin cfg0.N) (g : Fin 4) (k e : Fin 128) : iblk m c 4 t (ix3 g k e) = V m c main_v3 (ix3 g k e) := by
  have h := idx4 t
  refine congrArg (V m c main_v3) (funext fun a => Fin.ext ?_)
  match a with
  | ⟨0, _⟩ => show win0_4.index t (0 : Fin 3) * 4 + 1 * g.val = g.val; omega
  | ⟨1, _⟩ => show win0_4.index t (1 : Fin 3) * 128 + 1 * k.val = k.val; omega
  | ⟨2, _⟩ => show win0_4.index t (2 : Fin 3) * 128 + 1 * e.val = e.val; omega

theorem blk5 (t : Fin cfg0.N) (r : Fin 1) (l : Fin 512) : iblk m c 5 t (ix2 r l) = V m c main_v4 (ix2 r l) := by
  have e := idx5 t
  refine congrArg (V m c main_v4) (funext fun a => Fin.ext ?_)
  match a with
  | ⟨0, _⟩ => show win0_5.index t (0 : Fin 2) * 1 + 1 * r.val = r.val; omega
  | ⟨1, _⟩ => show win0_5.index t (1 : Fin 2) * 512 + 1 * l.val = l.val; omega

/-! ## The arrays, from the arguments -/

theorem x_apply (i : Fin 32768) (l : Fin 1024) :
    V m c main_v0 (ix2 i l) = A0 m c (ix3 ⟨i.val / 4096, by omega⟩ ⟨i.val % 4096, by omega⟩ l) := by
  unfold V hostOps0
  after_reads_at

theorem g_apply (l : Fin 1024) : V m c main_v1 (ix2 0 l) = A1 m c (ix1 l) := by
  unfold V hostOps0
  after_reads_at

theorem w_apply (k : Fin 1024) (l : Fin 2048) : V m c main_v2 (ix2 k l) = A2 m c (ix2 k l) := by
  unfold V hostOps0
  after_reads_at

theorem cw_apply (k : Fin 3) (l : Fin 512) : V m c main_arg3 (ix2 k l) = A3 m c (ix2 k l) := by
  unfold V hostOps0
  after_reads_at

theorem pw_apply (g : Fin 4) (k e : Fin 128) : V m c main_v3 (ix3 g k e) = A4 m c (ix3 g k e) := by
  unfold V hostOps0
  after_reads_at

theorem ps_apply (l : Fin 512) : V m c main_v4 (ix2 0 l) = A5 m c (ix1 l) := by
  unfold V hostOps0
  after_reads_at

/-- A point's blocks hold its tile of its sequence. -/
theorem blocks_read (t : Fin cfg0.N) :
    BlockReads (iblk m c 0 t) (iblk m c 1 t) (iblk m c 2 t) (iblk m c 3 t) (iblk m c 4 t) (iblk m c 5 t)
      (seq m c ⟨t.val / 4, by have := lt_of_lt_of_eq t.isLt N_0; omega⟩) (t.val % 4) := by
  have ht := lt_of_lt_of_eq t.isLt N_0
  refine ⟨fun q i l => ?_, fun k l => ?_, fun g k e => ?_, fun l => ?_, by omega⟩
  · have e0 : (fun k => iblk m c 0 t (ix2 i k)) = fun k => A0 m c (ix3 ⟨t.val / 4, by omega⟩ ⟨(1024 * (t.val % 4) + i.val) % 4096, by omega⟩ k) := by
      funext k
      rw [blk0, x_apply]
      exact congrArg₂ (fun a b => A0 m c (ix3 a b k)) (Fin.ext (by simp only; omega)) (Fin.ext (by simp only; omega))
    have e1 : (fun k => iblk m c 1 t (ix2 0 k)) = fun k => A1 m c (ix1 k) := funext fun k => by rw [blk1, g_apply]
    have e2 : (fun k => iblk m c 2 t (ix2 k ⟨512 * q.val + l.val, by omega⟩))
        = fun k => A2 m c (ix2 k ⟨(512 * q.val + l.val) % 2048, by omega⟩) := funext fun k => by
      rw [blk2, w_apply]
      exact congrArg (fun a => A2 m c (ix2 k a)) (Fin.ext (by simp only; omega))
    show entry (fun k => iblk m c 0 t (ix2 i k)) (fun k => iblk m c 1 t (ix2 0 k)) (fun k => iblk m c 2 t (ix2 k ⟨512 * q.val + l.val, by omega⟩)) = _
    rw [e0, e1, e2]
    rfl
  · rw [blk3, cw_apply]
    exact congrArg₂ (fun a b => A3 m c (ix2 a b)) (Fin.ext (by simp only; omega)) (Fin.ext (by simp only; omega))
  · rw [blk4, pw_apply]
    have h1 : g = ⟨g.val % 4, by omega⟩ := Fin.ext (by simp only; omega)
    have h2 : k = ⟨k.val % 128, by omega⟩ := Fin.ext (by simp only; omega)
    have h3 : e = ⟨e.val % 128, by omega⟩ := Fin.ext (by simp only; omega)
    exact (congrArg (fun a => A4 m c (ix3 a k e)) h1).trans ((congrArg (fun a => A4 m c (ix3 _ a e)) h2).trans (congrArg (fun a => A4 m c (ix3 _ _ a)) h3))
  · rw [blk5, ps_apply]
    exact congrArg (fun a => A5 m c (ix1 a)) (Fin.ext (by simp only; omega))

/-! ## The tiles, one after another -/

/-- What a tile leaves: the rows it carries on and its output. -/
def TileIs (o : Vec Ideal S1024x1024 .bf16 × Vec Ideal S1040x512 .f32 × Vec Ideal S1040x512 .f32) (D : Seq) (k : ℕ) : Prop :=
  (CarryIs o.2.1 D.zp (1024 * (k + 1)) ∧ CarryIs o.2.2 D.up (1024 * (k + 1)))
  ∧ ∀ (r : Fin 1024) (l : Fin 1024), o.1 (ix2 r l) = D.y (1024 * k + r.val) l.val

/-- A sequence's first tile: the rows before it are zeros. -/
theorem tile_A (t : Fin cfg0.N) (h0 : t.val % 4 = 0) (D : Cert.Odd.Seq)
    (B : BlockReads (iblk m c 0 t) (iblk m c 1 t) (iblk m c 2 t) (iblk m c 3 t) (iblk m c 4 t) (iblk m c 5 t) D 0) :
    TileIs (outsAt0 m c t.val t.isLt) D 0 := by
  have hi : (grid0.coords t 1).val = 0 := (coord1 t).trans h0
  rw [outsAt0_A m c t h0]
  unfold TileIs
  dsimp only
  exact ⟨sout_A _ _ _ _ _ _ _ _ _ _ _ _ _ _ _ _ _ _ _ _ _ _ _ _ _ _ _ hi B, out_A _ _ _ _ _ _ _ _ _ _ _ _ _ _ _ _ _ _ _ _ _ _ _ _ _ _ _ hi B⟩

/-- A later tile: the rows before it are those the tile before carried on. -/
theorem tile_B (t : Fin cfg0.N) (h0 : ¬t.val % 4 = 0) (D : Cert.Odd.Seq) (k : ℕ) (hk : k + 1 = t.val % 4)
    (B : BlockReads (iblk m c 0 t) (iblk m c 1 t) (iblk m c 2 t) (iblk m c 3 t) (iblk m c 4 t) (iblk m c 5 t) D (k + 1))
    (hs : TileIs (outsAt0 m c (t.val - 1) (Nat.lt_of_le_of_lt (Nat.sub_le _ _) t.isLt)) D k) :
    TileIs (outsAt0 m c t.val t.isLt) D (k + 1) := by
  have hi : (grid0.coords t 1).val = k + 1 := (coord1 t).trans hk.symm
  rw [outsAt0_B m c t h0]
  unfold TileIs
  dsimp only
  exact ⟨sout_B _ _ _ _ _ _ _ _ _ _ _ _ _ _ _ _ _ _ _ _ _ _ _ _ _ _ _ hi B _ _,
    out_B _ _ _ _ _ _ _ _ _ _ _ _ _ _ _ _ _ _ _ _ _ _ _ _ _ _ _ hi B _ _ hs.1.1 hs.1.2⟩

/-- Every tile. -/
theorem tile (n : ℕ) : ∀ hn : n < cfg0.N,
    TileIs (outsAt0 m c n hn) (seq m c ⟨n / 4, by have := lt_of_lt_of_eq hn N_0; omega⟩) (n % 4) := by
  induction n with
  | zero => exact fun hn => tile_A m c ⟨0, hn⟩ rfl _ (blocks_read m c ⟨0, hn⟩)
  | succ n ih =>
    intro hn
    have hN := lt_of_lt_of_eq hn N_0
    have B := blocks_read m c ⟨n + 1, hn⟩
    by_cases h0 : (n + 1) % 4 = 0
    · have e : (⟨n + 1, hn⟩ : Fin cfg0.N).val % 4 = 0 := h0
      rw [e] at B
      rw [h0]
      exact tile_A m c ⟨n + 1, hn⟩ h0 _ B
    · have hs := ih (Nat.lt_of_succ_lt hn)
      have e4 : n / 4 = (n + 1) / 4 := by omega
      have e1 : (n + 1) % 4 = n % 4 + 1 := by omega
      have e2 : (⟨n + 1, hn⟩ : Fin cfg0.N).val % 4 = n % 4 + 1 := e1
      simp only [e4] at hs
      rw [e2] at B
      rw [e1]
      exact tile_B m c ⟨n + 1, hn⟩ h0 _ _ e1.symm B hs

/-- The call's whole output. -/
theorem out_apply (i : Fin 32768) (l : Fin 1024) :
    G6 m c (ix2 i l) = (seq m c ⟨i.val / 4096, by omega⟩).y (i.val % 4096) l.val := by
  have hp : pt6Of (ix2 i l) = i.val / 1024 := by
    show 1 * (i.val / 1024 - 0) + 1 * (l.val / 1024 - 0) = _
    omega
  have hlt : i.val / 1024 < cfg0.N := lt_of_lt_of_eq (by omega) N_0.symm
  have hl : loc6Of (ix2 i l) = ix2 ⟨i.val % 1024, Nat.mod_lt _ (by decide)⟩ l := by
    funext a
    match a with
    | ⟨0, _⟩ => rfl
    | ⟨1, _⟩ => exact Fin.ext (Nat.mod_eq_of_lt l.isLt)
  rw [G6, dif_pos (by rw [hp]; exact hlt), hl, fold0_congr m c _ _ _ (by omega) hp, ← outsAt0_sweep m c _ hlt]
  rw [(tile m c (i.val / 1024) hlt).2]
  have e0 : i.val / 1024 / 4 = i.val / 4096 := by omega
  have e1 : 1024 * (i.val / 1024 % 4) + i.val % 1024 = i.val % 4096 := by omega
  simp only [e0, e1]

end Cert.Kernel5Ideal.Odd

end
-- ==== Proof.GlaCumsum.lean ====
/-
  The running sum along a chunk's rows, as the reference prints it: a window of the whole chunk, padded below
  by one row less, is the sum of the rows up to each row.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Gla

open Cert.ReferenceIdeal

/-- A fold that adds a value per number is the sum of the values over a starting value. -/
theorem foldl_add {N : ℕ} (f : Fin N → EReal) (v : EReal) : (List.finRange N).foldl (fun r n => r + f n) v = v + ∑ n, f n := by
  rw [← List.sum_ofFn, List.ofFn_eq_map]
  generalize List.finRange N = L
  induction L generalizing v with
  | nil => simp
  | cons a L ih => rw [List.foldl_cons, ih, List.map_cons, List.sum_cons, add_assoc]

/-- The rows of a window that reach into the chunk, up to row `i`, are the rows `0 … i`. -/
theorem sum_window (f : Fin 64 → EReal) (i : Fin 64) :
    ∑ n : Fin 64, (if h : 63 ≤ i.val + n.val then f ⟨i.val + n.val - 63, by omega⟩ else 0)
      = ∑ j ∈ Finset.range (i.val + 1), f ⟨j % 64, Nat.mod_lt _ (by decide)⟩ := by
  symm
  refine Finset.sum_of_injOn (fun j => (⟨(j + 63 - i.val) % 64, Nat.mod_lt _ (by decide)⟩ : Fin 64)) ?_ ?_ ?_ ?_
  · intro a ha b hb e
    have ha := Finset.mem_range.1 (Finset.mem_coe.1 ha)
    have hb := Finset.mem_range.1 (Finset.mem_coe.1 hb)
    have := congrArg Fin.val e
    simp only at this
    omega
  · intro a ha
    exact Finset.mem_coe.2 (Finset.mem_univ _)
  · intro n _ hn
    refine dif_neg fun h => hn ⟨i.val + n.val - 63, ?_, ?_⟩
    · exact Finset.mem_coe.2 (Finset.mem_range.2 (by omega))
    · exact Fin.ext (by simp only; omega)
  · intro j hj
    have hj := Finset.mem_range.1 hj
    rw [dif_pos (by simp only; omega)]
    exact congrArg f (Fin.ext (by simp only; omega))

/-- The window over one chunk's rows. -/
abbrev win : Shape := ⟨5, ![1, 1, 1, 64, 1]⟩

/-- Row `n` of the window is its `n`-th place. -/
theorem win_symm : ∀ n : Fin win.numel, (win.rowMajor.symm n 3).val = n.val := by
  decide +kernel

/-- The running sum at row `i` of a chunk: the rows `0 … i` added. -/
theorem cumsum_apply (x : FVec Ideal S8x4x64x64x64 .f32) (v : (⟨0, ![]⟩ : Shape).Idx → EReal)
    (h : S8x4x64x64x64.ReduceWindows ![1, 1, 1, 64, 1] ![1, 1, 1, 1, 1] ![0, 0, 0, 63, 0] ![0, 0, 0, 0, 0] S8x4x64x64x64)
    (hu : 0 < (⟨0, ![]⟩ : Shape).numel) (hv : v (Shape.Idx.first hu) = 0) (B : Fin 8) (g : Fin 4) (n i d : Fin 64) :
    Host.reduceWindowAdd (F := Ideal) (φ := .f32) ![1, 1, 1, 64, 1] ![1, 1, 1, 1, 1] ![0, 0, 0, 63, 0] ![0, 0, 0, 0, 0] x v h hu (ix5 B g n i d)
      = ∑ j ∈ Finset.range (i.val + 1), x (ix5 B g n ⟨j % 64, Nat.mod_lt _ (by decide)⟩ d) := by
  unfold Host.reduceWindowAdd
  show Ideal.hostReduceWindowAdd _ _ _ _ _ _ _ _ = _
  unfold Ideal.hostReduceWindowAdd
  unfold Host.reduceWindow
  simp only [hv]
  refine (foldl_add (N := win.numel) (fun k => if hin : ∀ a : Fin 5, (![0, 0, 0, 63, 0] : Fin 5 → ℕ) a
      ≤ (ix5 B g n i d a).val * (![1, 1, 1, 1, 1] : Fin 5 → ℕ) a + (win.rowMajor.symm k a).val
      ∧ (ix5 B g n i d a).val * (![1, 1, 1, 1, 1] : Fin 5 → ℕ) a + (win.rowMajor.symm k a).val - (![0, 0, 0, 63, 0] : Fin 5 → ℕ) a < S8x4x64x64x64.size a
    then x (fun a => ⟨_, (hin a).2⟩) else 0) 0).trans ?_
  rw [zero_add, ← sum_window (fun j => x (ix5 B g n j d)) i]
  refine Finset.sum_congr rfl fun k _ => ?_
  have h0 : (win.rowMajor.symm k 0).val < 1 := (win.rowMajor.symm k 0).isLt
  have h1 : (win.rowMajor.symm k 1).val < 1 := (win.rowMajor.symm k 1).isLt
  have h2 : (win.rowMajor.symm k 2).val < 1 := (win.rowMajor.symm k 2).isLt
  have h3 := win_symm k
  have h4 : (win.rowMajor.symm k 4).val < 1 := (win.rowMajor.symm k 4).isLt
  have hk : k.val < 64 := k.isLt
  by_cases hi : 63 ≤ i.val + k.val
  · rw [dif_pos, dif_pos hi]
    · refine congrArg x (funext fun a => Fin.ext ?_)
      match a with
      | ⟨0, _⟩ => show B.val * 1 + (win.rowMajor.symm k 0).val - 0 = B.val; omega
      | ⟨1, _⟩ => show g.val * 1 + (win.rowMajor.symm k 1).val - 0 = g.val; omega
      | ⟨2, _⟩ => show n.val * 1 + (win.rowMajor.symm k 2).val - 0 = n.val; omega
      | ⟨3, _⟩ => show i.val * 1 + (win.rowMajor.symm k 3).val - 63 = i.val + k.val - 63; omega
      | ⟨4, _⟩ => show d.val * 1 + (win.rowMajor.symm k 4).val - 0 = d.val; omega
    · intro a
      match a with
      | ⟨0, _⟩ => show 0 ≤ B.val * 1 + (win.rowMajor.symm k 0).val ∧ B.val * 1 + (win.rowMajor.symm k 0).val - 0 < 8; omega
      | ⟨1, _⟩ => show 0 ≤ g.val * 1 + (win.rowMajor.symm k 1).val ∧ g.val * 1 + (win.rowMajor.symm k 1).val - 0 < 4; omega
      | ⟨2, _⟩ => show 0 ≤ n.val * 1 + (win.rowMajor.symm k 2).val ∧ n.val * 1 + (win.rowMajor.symm k 2).val - 0 < 64; omega
      | ⟨3, _⟩ => show 63 ≤ i.val * 1 + (win.rowMajor.symm k 3).val ∧ i.val * 1 + (win.rowMajor.symm k 3).val - 63 < 64; omega
      | ⟨4, _⟩ => show 0 ≤ d.val * 1 + (win.rowMajor.symm k 4).val ∧ d.val * 1 + (win.rowMajor.symm k 4).val - 0 < 64; omega
  · rw [dif_neg, dif_neg hi]
    intro hin
    have h := (hin 3).1
    change 63 ≤ i.val * 1 + (win.rowMajor.symm k 3).val at h
    omega

end Cert.ReferenceIdeal.Gla

end
-- ==== Proof.OddReference.lean ====
/-
  The plain mixing of an odd layer: its run's output, read at an index.
-/
module

public import proofs.«01_k».proof.Proof.OddSpec
public import proofs.«01_k».proof.Proof.GlaCumsum
public import proofs.«01_k».proof.Proof.Gen.Reference5Ideal
public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Reference5Ideal.Odd

open Cert.Reference5Ideal Cert.Reference5Ideal.Gen Cert.Post Cert.Proj Cert.Odd
open Cert.ReferenceIdeal.Gla (foldl_add)

/-- An array's value at an index. -/
abbrev rd (s : Shape) (x : s.Idx → EReal) (i : s.Idx) : EReal := x i

/-! ## The projection -/

/-- The normed rows. -/
def normedOf (u : FVec Ideal S8x4096x1024 .f32) (g : FVec Ideal S1024 .f32) : FVec Ideal S8x4096x1024 .f32 :=
  mulf (mulf u (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf u u) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The projection. -/
def projOf (u : FVec Ideal S8x4096x1024 .f32) (g : FVec Ideal S1024 .f32) (w : FVec Ideal S1024x2048 .f32) : FVec Ideal S8x4096x2048 .f32 :=
  Host.dotGeneral dot_S8x4096x1024_S1024x2048_S8x4096x2048_2_0_01_1_n_n none (normedOf u g) w

theorem normedOf_apply (u : FVec Ideal S8x4096x1024 .f32) (g : FVec Ideal S1024 .f32) (B : Fin 8) (n : Fin 4096) (l : Fin 1024) :
    normedOf u g (ix3 B n l) = normed (fun l => u (ix3 B n l)) (fun l => g (ix1 l)) l := by
  pointwise [normedOf]
  rfl

theorem projOf_apply (u : FVec Ideal S8x4096x1024 .f32) (g : FVec Ideal S1024 .f32) (w : FVec Ideal S1024x2048 .f32) (B : Fin 8) (n : Fin 4096) (l : Fin 2048) :
    projOf u g w (ix3 B n l) = entry (fun l => u (ix3 B n l)) (fun l => g (ix1 l)) fun k => w (ix2 k l) := by
  pointwise [projOf]
  simp only [normedOf_apply]
  rfl

theorem zero_word : FloatOps.sitofp (F := Ideal) FTy.f32 (0#32) = (0 : EReal) := by
  show (((0#32 : BitVec 32).toInt : ℝ) : EReal) = 0
  simp

/-! ## The convolution -/

/-- The convolution's input after two rows of zero. -/
def paddedOf (p : FVec Ideal S8x4096x2048 .f32) : FVec Ideal S8x4098x512 .f32 :=
  pad S8x4098x512 ![0, 2, 0] ![0, 0, 0] ![0, 0, 0]
    (mulf (extractStridedSlice S8x4096x512 ![0, 0, 512] p slices_S8x4096x2048_S8x4096x512_0_0_512)
      (extractStridedSlice S8x4096x512 ![0, 0, 1024] p slices_S8x4096x2048_S8x4096x512_0_0_1024))
    (sitofp .f32 (constantI S_ 32 0#32)) pads_S8x4096x512_S8x4098x512_000_200_000 h_S_

/-- A tap, along every row. -/
def tapOf (w : FVec Ideal S1x512 .f32) : FVec Ideal S8x4096x512 .f32 :=
  broadcastInDim S8x4096x512 ![0, 1, 2] bcast_S1x1x512_S8x4096x512_0_1_2 (broadcastInDim S1x1x512 ![2] bcast_S512_S1x1x512_2
    (shapeCast _ w shapeCasts_S1x512_S512))

/-- The gated convolution. -/
def convOf (p : FVec Ideal S8x4096x2048 .f32) (z : FVec Ideal S8x4098x512 .f32) (w : FVec Ideal S3x512 .f32) : FVec Ideal S8x4096x512 .f32 :=
  mulf (extractStridedSlice S8x4096x512 ![0, 0, 0] p slices_S8x4096x2048_S8x4096x512_0_0_0)
    (addf (addf
        (mulf (extractStridedSlice S8x4096x512 ![0, 0, 0] z slices_S8x4098x512_S8x4096x512_0_0_0) (tapOf (extractStridedSlice S1x512 ![0, 0] w slices_S3x512_S1x512_0_0)))
        (mulf (extractStridedSlice S8x4096x512 ![0, 1, 0] z slices_S8x4098x512_S8x4096x512_0_1_0) (tapOf (extractStridedSlice S1x512 ![1, 0] w slices_S3x512_S1x512_1_0))))
      (mulf (extractStridedSlice S8x4096x512 ![0, 2, 0] z slices_S8x4098x512_S8x4096x512_0_2_0) (tapOf (extractStridedSlice S1x512 ![2, 0] w slices_S3x512_S1x512_2_0))))

theorem tapOf_apply (w : FVec Ideal S1x512 .f32) (B : Fin 8) (n : Fin 4096) (l : Fin 512) :
    rd S8x4096x512 (tapOf w) (ix3 B n l) = rd S1x512 w (ix2 0 l) := by
  pointwise [rd, tapOf]

/-- A row of the padded input. -/
def padRow (f : ℕ → EReal) (i : ℕ) : EReal := if i < 2 then 0 else f (i - 2)

variable {D : Seq} {B : Fin 8}

/-- A projection's entries are the sequence's. -/
def ProjIs (p : FVec Ideal S8x4096x2048 .f32) (D : Seq) (B : Fin 8) : Prop :=
  ∀ (q : Fin 4) (n : Fin 4096) (l : Fin 512), rd S8x4096x2048 p (ix3 B n ⟨512 * q.val + l.val, by omega⟩) = D.p q.val n.val l.val

theorem paddedOf_apply {p : FVec Ideal S8x4096x2048 .f32} (hp : ProjIs p D B) (i : Fin 4098) (l : Fin 512) :
    rd S8x4098x512 (paddedOf p) (ix3 B i l) = padRow (fun n => D.z n l.val) i.val := by
  have e : rd S8x4098x512 (paddedOf p) (ix3 B i l)
      = if h : 2 ≤ i.val ∧ i.val - 2 < 4096 then rd S8x4096x2048 p (ix3 B ⟨i.val - 2, h.2⟩ ⟨512 + l.val, by omega⟩)
          * rd S8x4096x2048 p (ix3 B ⟨i.val - 2, h.2⟩ ⟨1024 + l.val, by omega⟩)
        else FloatOps.sitofp (F := Ideal) FTy.f32 (0#32) := by
    pointwise [rd, paddedOf]
  rw [e, padRow, zero_word]
  split_ifs with h h'
  · omega
  · rw [show (D.z (i.val - 2) l.val) = D.p 1 (i.val - 2) l.val * D.p 2 (i.val - 2) l.val from rfl]
    exact congrArg₂ (· * ·) (hp 1 ⟨i.val - 2, h.2⟩ l) (hp 2 ⟨i.val - 2, h.2⟩ l)
  · rfl
  · omega

theorem convOf_apply {p : FVec Ideal S8x4096x2048 .f32} (hp : ProjIs p D B) {w : FVec Ideal S3x512 .f32}
    (hw : ∀ (k : Fin 3) (l : Fin 512), rd S3x512 w (ix2 k l) = D.cw k.val l.val) (n : Fin 4096) (l : Fin 512) :
    rd S8x4096x512 (convOf p (paddedOf p) w) (ix3 B n l) = D.conv n.val l.val := by
  have e : rd S8x4096x512 (convOf p (paddedOf p) w) (ix3 B n l)
      = rd S8x4096x2048 p (ix3 B n ⟨0 + l.val, by omega⟩)
        * (rd S8x4098x512 (paddedOf p) (ix3 B ⟨0 + n.val, by omega⟩ l) * rd S3x512 w (ix2 0 l)
          + rd S8x4098x512 (paddedOf p) (ix3 B ⟨1 + n.val, by omega⟩ l) * rd S3x512 w (ix2 1 l)
          + rd S8x4098x512 (paddedOf p) (ix3 B ⟨2 + n.val, by omega⟩ l) * rd S3x512 w (ix2 2 l)) := by
    pointwise [rd, convOf, tapOf]
  rw [e, paddedOf_apply hp, paddedOf_apply hp, paddedOf_apply hp, hw, hw, hw]
  have h0 : rd S8x4096x2048 p (ix3 B n ⟨0 + l.val, by omega⟩) = D.p 0 n.val l.val := hp 0 n l
  rw [h0, Seq.conv]
  have a0 : padRow (fun n => D.z n l.val) (0 + n.val) = D.zp (n.val + 14) l.val := by
    rw [padRow, Seq.zp]
    split_ifs <;> first | omega | rfl | exact congrArg (fun k => D.z k l.val) (by omega)
  have a1 : padRow (fun n => D.z n l.val) (1 + n.val) = D.zp (n.val + 15) l.val := by
    rw [padRow, Seq.zp]
    split_ifs <;> first | omega | rfl | exact congrArg (fun k => D.z k l.val) (by omega)
  have a2 : padRow (fun n => D.z n l.val) (2 + n.val) = D.z n.val l.val := by
    rw [padRow, if_neg (by omega)]
    exact congrArg (fun k => D.z k l.val) (by omega)
  rw [a0, a1, a2]
  refine congrArg (D.p 0 n.val l.val * ·) ?_
  show _ + D.zp (n.val + 15) l.val * D.cw 1 l.val + D.z n.val l.val * D.cw 2 l.val = _
  show D.zp (n.val + 14) l.val * D.cw 0 l.val + _ + _ = _
  rw [add_comm (_ + _) (D.z _ _ * _), add_assoc]

/-! ## The running sums -/

/-- The rows of a window that reach into the sequence, up to row `i`, are the rows `0 … i`. -/
theorem sum_window (f : Fin 4096 → EReal) (i : Fin 4096) :
    ∑ n : Fin 4096, (if h : 4095 ≤ i.val + n.val then f ⟨i.val + n.val - 4095, by omega⟩ else 0)
      = ∑ j ∈ Finset.range (i.val + 1), f ⟨j % 4096, Nat.mod_lt _ (by decide)⟩ := by
  symm
  refine Finset.sum_of_injOn (fun j => (⟨(j + 4095 - i.val) % 4096, Nat.mod_lt _ (by decide)⟩ : Fin 4096)) ?_ ?_ ?_ ?_
  · intro a ha b hb e
    have ha := Finset.mem_range.1 (Finset.mem_coe.1 ha)
    have hb := Finset.mem_range.1 (Finset.mem_coe.1 hb)
    have := congrArg Fin.val e
    simp only at this
    omega
  · intro a ha
    exact Finset.mem_coe.2 (Finset.mem_univ _)
  · intro n _ hn
    refine dif_neg fun h => hn ⟨i.val + n.val - 4095, ?_, ?_⟩
    · exact Finset.mem_coe.2 (Finset.mem_range.2 (by omega))
    · exact Fin.ext (by simp only; omega)
  · intro j hj
    have hj := Finset.mem_range.1 hj
    rw [dif_pos (by simp only; omega)]
    exact congrArg f (Fin.ext (by simp only; omega))

/-- The window over a sequence's rows. -/
abbrev win : Shape := ⟨3, ![1, 4096, 1]⟩

/-- Row `n` of the window is its `n`-th place. -/
theorem win_symm : ∀ n : Fin win.numel, (win.rowMajor.symm n 1).val = n.val := by
  decide +kernel

/-- The running sum at a row: the rows up to it added. -/
theorem cumsum_apply (x : FVec Ideal S8x4096x512 .f32) (v : (⟨0, ![]⟩ : Shape).Idx → EReal)
    (h : S8x4096x512.ReduceWindows ![1, 4096, 1] ![1, 1, 1] ![0, 4095, 0] ![0, 0, 0] S8x4096x512)
    (hu : 0 < (⟨0, ![]⟩ : Shape).numel) (hv : v (Shape.Idx.first hu) = 0) (B : Fin 8) (i : Fin 4096) (l : Fin 512) :
    Host.reduceWindowAdd (F := Ideal) (φ := .f32) ![1, 4096, 1] ![1, 1, 1] ![0, 4095, 0] ![0, 0, 0] x v h hu (ix3 B i l)
      = ∑ j ∈ Finset.range (i.val + 1), x (ix3 B ⟨j % 4096, Nat.mod_lt _ (by decide)⟩ l) := by
  unfold Host.reduceWindowAdd
  show Ideal.hostReduceWindowAdd _ _ _ _ _ _ _ _ = _
  unfold Ideal.hostReduceWindowAdd
  unfold Host.reduceWindow
  simp only [hv]
  refine (foldl_add (N := win.numel) (fun k => if hin : ∀ a : Fin 3, (![0, 4095, 0] : Fin 3 → ℕ) a
      ≤ (ix3 B i l a).val * (![1, 1, 1] : Fin 3 → ℕ) a + (win.rowMajor.symm k a).val
      ∧ (ix3 B i l a).val * (![1, 1, 1] : Fin 3 → ℕ) a + (win.rowMajor.symm k a).val - (![0, 4095, 0] : Fin 3 → ℕ) a < S8x4096x512.size a
    then x (fun a => ⟨_, (hin a).2⟩) else 0) 0).trans ?_
  rw [zero_add, ← sum_window (fun j => x (ix3 B j l)) i]
  refine Finset.sum_congr rfl fun k _ => ?_
  have h0 : (win.rowMajor.symm k 0).val < 1 := (win.rowMajor.symm k 0).isLt
  have h1 := win_symm k
  have h2 : (win.rowMajor.symm k 2).val < 1 := (win.rowMajor.symm k 2).isLt
  have hk : k.val < 4096 := k.isLt
  by_cases hi : 4095 ≤ i.val + k.val
  · rw [dif_pos, dif_pos hi]
    · refine congrArg x (funext fun a => Fin.ext ?_)
      match a with
      | ⟨0, _⟩ => show B.val * 1 + (win.rowMajor.symm k 0).val - 0 = B.val; omega
      | ⟨1, _⟩ => show i.val * 1 + (win.rowMajor.symm k 1).val - 4095 = i.val + k.val - 4095; omega
      | ⟨2, _⟩ => show l.val * 1 + (win.rowMajor.symm k 2).val - 0 = l.val; omega
    · intro a
      match a with
      | ⟨0, _⟩ => show 0 ≤ B.val * 1 + (win.rowMajor.symm k 0).val ∧ B.val * 1 + (win.rowMajor.symm k 0).val - 0 < 8; omega
      | ⟨1, _⟩ => show 4095 ≤ i.val * 1 + (win.rowMajor.symm k 1).val ∧ i.val * 1 + (win.rowMajor.symm k 1).val - 4095 < 4096; omega
      | ⟨2, _⟩ => show 0 ≤ l.val * 1 + (win.rowMajor.symm k 2).val ∧ l.val * 1 + (win.rowMajor.symm k 2).val - 0 < 512; omega
  · rw [dif_neg, dif_neg hi]
    intro hin
    have h := (hin 1).1
    change 4095 ≤ i.val * 1 + (win.rowMajor.symm k 1).val at h
    omega

/-- The pooling's input. -/
def inputOf (p : FVec Ideal S8x4096x2048 .f32) : FVec Ideal S8x4096x512 .f32 :=
  extractStridedSlice S8x4096x512 ![0, 0, 1536] p slices_S8x4096x2048_S8x4096x512_0_0_1536

/-- The running sums, a row of zeros first. -/
def sumsOf (u : FVec Ideal S8x4096x512 .f32) : FVec Ideal S8x4097x512 .f32 :=
  pad S8x4097x512 ![0, 1, 0] ![0, 0, 0] ![0, 0, 0] (Host.reduceWindowAdd ![1, 4096, 1] ![1, 1, 1] ![0, 4095, 0] ![0, 0, 0] u
      (broadcastInDim S_ ![] bcast_S_S_ (constant S_ .f32 0x00000000#32)) reduceWindows_S8x4096x512_S8x4096x512_w1s1p0_0_w4096s1p4095_0_w1s1p0_0 h_S_)
    (sitofp .f32 (constantI S_ 32 0#32)) pads_S8x4096x512_S8x4097x512_000_100_000 h_S_

theorem inputOf_apply {p : FVec Ideal S8x4096x2048 .f32} (hp : ProjIs p D B) (n : Fin 4096) (l : Fin 512) :
    rd S8x4096x512 (inputOf p) (ix3 B n l) = D.p 3 n.val l.val := by
  refine Eq.trans ?_ (hp 3 n l)
  pointwise [rd, inputOf]

/-- The sum of a sequence of real numbers, over the extended reals. -/
theorem sum_coe (a : ℕ → ℝ) (n : ℕ) : ∑ j ∈ Finset.range n, (a j : EReal) = ((∑ j ∈ Finset.range n, a j : ℝ) : EReal) := by
  induction n with
  | zero => simp
  | succ n ih => rw [Finset.sum_range_succ, Finset.sum_range_succ, ih, EReal.coe_add]

theorem sumsOf_apply (u : FVec Ideal S8x4096x512 .f32) (B : Fin 8) (l : Fin 512) (a : ℕ → ℝ)
    (ha : ∀ n : Fin 4096, rd S8x4096x512 u (ix3 B n l) = (a n.val : EReal)) (i : Fin 4097) :
    rd S8x4097x512 (sumsOf u) (ix3 B i l) = ((∑ j ∈ Finset.range i.val, a j : ℝ) : EReal) := by
  have e : rd S8x4097x512 (sumsOf u) (ix3 B i l)
      = if h : 1 ≤ i.val ∧ i.val - 1 < 4096 then Host.reduceWindowAdd (F := Ideal) (φ := .f32) ![1, 4096, 1] ![1, 1, 1] ![0, 4095, 0] ![0, 0, 0] u
            (broadcastInDim S_ ![] bcast_S_S_ (constant S_ .f32 0x00000000#32)) reduceWindows_S8x4096x512_S8x4096x512_w1s1p0_0_w4096s1p4095_0_w1s1p0_0 h_S_
            (ix3 B ⟨i.val - 1, h.2⟩ l)
        else FloatOps.sitofp (F := Ideal) FTy.f32 (0#32) := by
    pointwise [rd, sumsOf]
  rw [e, zero_word]
  split_ifs with h
  · rw [cumsum_apply _ _ _ _ (by pointwise [constant])]
    simp only
    rw [show i.val - 1 + 1 = i.val by omega, ← sum_coe]
    refine Finset.sum_congr rfl fun j hj => (ha ⟨j % 4096, Nat.mod_lt _ (by decide)⟩).trans ?_
    have := Finset.mem_range.1 hj
    simp only
    rw [Nat.mod_eq_of_lt (by omega)]
  · rw [show i.val = 0 by omega]
    simp

end Cert.Reference5Ideal.Odd

end
-- ==== Proof.OddWindow.lean ====
/-
  The plain mixing of an odd layer: its windowed means, their products, and the run's output at an index.
-/
module

public import proofs.«01_k».proof.Proof.OddReference

@[expose] public section

set_option maxRecDepth 16384

noncomputable section

open Idealize.ShloMosaic Idealize.ShloMosaic.TcCoe Idealize.SL.Sem

namespace Cert.Reference5Ideal.Odd

open Cert.Reference5Ideal Cert.Reference5Ideal.Gen Cert.Post Cert.Proj Cert.Odd

variable {D : Seq} {B : Fin 8}

/-! ## The windows' starts -/

/-- The first row of each row's window of `w` rows. -/
def lowOf (w : BitVec 32) : IVec S4096 32 :=
  maxsi (subi (addi (iotaInDim S4096 32 0) (broadcastInDim S4096 ![] bcast_S_S4096 (constantI S_ 32 1#32)))
    (broadcastInDim S4096 ![] bcast_S_S4096 (constantI S_ 32 w))) (broadcastInDim S4096 ![] bcast_S_S4096 (constantI S_ 32 0#32))

/-- The places the running sums are read at: the window's first row, and the group's first lane. -/
def startOf (w o : BitVec 32) : IVec S4096x2 32 :=
  concatenate S4096x2 1 [⟨S4096x1, broadcastInDim S4096x1 ![0] bcast_S4096_S4096x1_0
      (select (cmpi .slt (lowOf w) (broadcastInDim S4096 ![] bcast_S_S4096 (constantI S_ 32 0#32)))
        (addi (lowOf w) (broadcastInDim S4096 ![] bcast_S_S4096 (constantI S_ 32 4097#32))) (lowOf w))⟩,
    ⟨S4096x1, broadcastInDim S4096x1 ![] bcast_S_S4096x1 (constantI S_ 32 o)⟩] concatenates_S4096x1_S4096x1_S4096x2_d1

/-- A group's windowed means, less the rows. -/
def devOf (S : FVec Ideal S8x4097x512 .f32) (hi u : FVec Ideal S8x4096x128 .f32) (w o : BitVec 32) : FVec Ideal S8x4096x128 .f32 :=
  subf (Host.divf (subf hi (Host.gather gather_S8x4097x512_S4096x2_S8x4096x128_02_1_n_n_12_1_81128 S (startOf w o)))
    (broadcastInDim S8x4096x128 ![0, 1, 2] bcast_S1x4096x1_S8x4096x128_0_1_2 (broadcastInDim S1x4096x1 ![1] bcast_S4096_S1x4096x1_1
      (sitofp .f32 (subi (addi (iotaInDim S4096 32 0) (broadcastInDim S4096 ![] bcast_S_S4096 (constantI S_ 32 1#32))) (lowOf w)))))) u

/-- The window of group `g`, as a word. -/
def widthWord (g : ℕ) : BitVec 32 := BitVec.ofNat 32 (Seq.span g + 1)

theorem low_word (g : Fin 4) : ∀ n : Fin 4096, IntOp.maxsi (BitVec.ofNat 32 n.val + 1#32 - widthWord g.val) 0#32
    = BitVec.ofNat 32 (n.val - Seq.span g.val) := by
  revert g
  decide +kernel

theorem count_word (g : Fin 4) : ∀ n : Fin 4096, BitVec.ofNat 32 n.val + 1#32 - BitVec.ofNat 32 (n.val - Seq.span g.val)
    = BitVec.ofNat 32 (min (n.val + 1) (Seq.span g.val + 1)) := by
  revert g
  decide +kernel

theorem toInt_small (n : ℕ) (h : n < 65536) : (BitVec.ofNat 32 n).toInt = (n : ℤ) := by
  rw [BitVec.toInt_eq_toNat_of_lt (by rw [BitVec.toNat_ofNat]; omega), BitVec.toNat_ofNat, Nat.mod_eq_of_lt (by omega)]

theorem lowOf_apply (g : Fin 4) (n : Fin 4096) : lowOf (widthWord g.val) (ix1 n) = BitVec.ofNat 32 (n.val - Seq.span g.val) := by
  rw [← low_word g n]
  pointwise [lowOf]
  rfl

theorem not_neg : ∀ n : Fin 4096, IntOp.cmpi .slt (BitVec.ofNat 32 n.val) 0#32 = 0#1 := by
  decide +kernel

theorem startOf_row (g : Fin 4) (o : BitVec 32) (n : Fin 4096) :
    startOf (widthWord g.val) o (ix2 n 0) = BitVec.ofNat 32 (n.val - Seq.span g.val) := by
  have h := lowOf_apply g n
  have hn := not_neg ⟨n.val - Seq.span g.val, by omega⟩
  pointwise [startOf]
  rw [h]
  simp only at hn
  rw [hn]
  rfl

theorem startOf_lane (w o : BitVec 32) (n : Fin 4096) : startOf w o (ix2 n 1) = o := by
  pointwise [startOf]

/-- The gather: of each row's two numbers, the row and the first lane. -/
theorem gather_apply (S : FVec Ideal S8x4097x512 .f32) (idx : IVec S4096x2 32) (n : Fin 4096) (e : Fin 128) :
    Host.gather gather_S8x4097x512_S4096x2_S8x4096x128_02_1_n_n_12_1_81128 S idx (ix3 B n e)
      = S (ix3 B ⟨min (idx (ix2 n 0)).toInt.toNat 4096, by omega⟩ ⟨min (idx (ix2 n 1)).toInt.toNat 384 + e.val, by omega⟩) := by
  unfold Host.gather
  refine congrArg S (funext fun a => Fin.ext ?_)
  show gather_S8x4097x512_S4096x2_S8x4096x128_02_1_n_n_12_1_81128.start (ix3 B n e) idx a
      + gather_S8x4097x512_S4096x2_S8x4096x128_02_1_n_n_12_1_81128.batchCoord (ix3 B n e) a
      + gather_S8x4097x512_S4096x2_S8x4096x128_02_1_n_n_12_1_81128.offCoord (ix3 B n e) a = _
  rw [GatherDims.batchCoord_eq_zero _ _ _ (fun h => List.not_mem_nil h)]
  have ho : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.start
  rcases ho with rfl | rfl | rfl
  · rw [dif_neg (show ¬(0 : Fin 3) ∈ gather_S8x4097x512_S4096x2_S8x4096x128_02_1_n_n_12_1_81128.startIndexMap by
      show ¬(0 : Fin 3) ∈ [(1 : Fin 3), 2]; decide)]
    unfold GatherDims.offCoord
    rw [dif_pos ((GatherDims.mem_sKept _ _).mpr ⟨by show ¬(0 : Fin 3) ∈ [(1 : Fin 3)]; decide, fun h => List.not_mem_nil h⟩)]
    show 0 + 0 + B.val = B.val
    omega
  · rw [GatherDims.offCoord_eq_zero _ _ _ (fun h => ((GatherDims.mem_sKept _ _).mp h).1 (List.mem_singleton.mpr rfl))]
    rw [dif_pos (show (1 : Fin 3) ∈ gather_S8x4097x512_S4096x2_S8x4096x128_02_1_n_n_12_1_81128.startIndexMap by
      show (1 : Fin 3) ∈ [(1 : Fin 3), 2]; decide)]
    refine congrArg (fun z => min (idx z).toInt.toNat 4096) (funext fun b => Fin.ext ?_)
    match b with
    | ⟨0, _⟩ => rfl
    | ⟨1, _⟩ => rfl
  · rw [dif_pos (show (2 : Fin 3) ∈ gather_S8x4097x512_S4096x2_S8x4096x128_02_1_n_n_12_1_81128.startIndexMap by
      show (2 : Fin 3) ∈ [(1 : Fin 3), 2]; decide)]
    unfold GatherDims.offCoord
    rw [dif_pos ((GatherDims.mem_sKept _ _).mpr ⟨by show ¬(2 : Fin 3) ∈ [(1 : Fin 3)]; decide, fun h => List.not_mem_nil h⟩)]
    refine congrArg (fun z => min (idx z).toInt.toNat 384 + e.val) (funext fun b => Fin.ext ?_)
    match b with
    | ⟨0, _⟩ => rfl
    | ⟨1, _⟩ => rfl

/-- The first lane of group `g`, as a word. -/
def laneWord (g : ℕ) : BitVec 32 := BitVec.ofNat 32 (128 * g)

theorem span_lt : ∀ g : Fin 4, Seq.span g.val < 16 := by decide

/-- The running sums read where a row's window starts. -/
theorem gather_start (S : FVec Ideal S8x4097x512 .f32) (g : Fin 4) (n : Fin 4096) (e : Fin 128) :
    rd S8x4096x128 (Host.gather gather_S8x4097x512_S4096x2_S8x4096x128_02_1_n_n_12_1_81128 S (startOf (widthWord g.val) (laneWord g.val))) (ix3 B n e)
      = rd S8x4097x512 S (ix3 B ⟨n.val - Seq.span g.val, by omega⟩ ⟨128 * g.val + e.val, by omega⟩) := by
  refine (gather_apply S _ n e).trans ?_
  have e0 : (⟨min (startOf (widthWord g.val) (laneWord g.val) (ix2 n 0)).toInt.toNat 4096, by omega⟩ : Fin 4097) = ⟨n.val - Seq.span g.val, by omega⟩ := by
    refine Fin.ext ?_
    simp only
    rw [startOf_row, toInt_small _ (by omega), Int.toNat_natCast]
    omega
  have e1 : (⟨min (startOf (widthWord g.val) (laneWord g.val) (ix2 n 1)).toInt.toNat 384 + e.val, by omega⟩ : Fin 512) = ⟨128 * g.val + e.val, by omega⟩ := by
    refine Fin.ext ?_
    simp only
    rw [startOf_lane, laneWord, toInt_small _ (by omega), Int.toNat_natCast]
    omega
  rw [e0, e1]

/-- A group's windowed mean less the row, the sequence's rows being real. -/
theorem devOf_apply {u : FVec Ideal S8x4096x512 .f32} (hu : ∀ (n : Fin 4096) (l : Fin 512), rd S8x4096x512 u (ix3 B n l) = D.p 3 n.val l.val)
    (hr : ∀ (n : Fin 4096) (l : Fin 512), Re (D.p 3 n.val l.val)) (g : Fin 4) (hi v : FVec Ideal S8x4096x128 .f32)
    (h1 : ∀ (n : Fin 4096) (e : Fin 128), rd S8x4096x128 hi (ix3 B n e) = rd S8x4097x512 (sumsOf u) (ix3 B ⟨1 + n.val, by omega⟩ ⟨128 * g.val + e.val, by omega⟩))
    (h2 : ∀ (n : Fin 4096) (e : Fin 128), rd S8x4096x128 v (ix3 B n e) = rd S8x4096x512 u (ix3 B n ⟨128 * g.val + e.val, by omega⟩))
    (n : Fin 4096) (e : Fin 128) :
    rd S8x4096x128 (devOf (sumsOf u) hi v (widthWord g.val) (laneWord g.val)) (ix3 B n e) = D.dev n.val (128 * g.val + e.val) (Seq.span g.val) := by
  choose b hb using fun n : Fin 4096 => hr n ⟨128 * g.val + e.val, by omega⟩
  have hspan : Seq.span g.val < 16 := span_lt g
  have hs := sumsOf_apply u B ⟨128 * g.val + e.val, by omega⟩ (fun j => b ⟨j % 4096, Nat.mod_lt _ (by decide)⟩) (fun n => by
    rw [hu, hb n]
    exact congrArg (fun k => ((b k : ℝ) : EReal)) (Fin.ext (Nat.mod_eq_of_lt n.isLt).symm))
  have e1 : rd S8x4096x128 (devOf (sumsOf u) hi v (widthWord g.val) (laneWord g.val)) (ix3 B n e)
      = Ideal.div (rd S8x4096x128 hi (ix3 B n e) - rd S8x4096x128 (Host.gather gather_S8x4097x512_S4096x2_S8x4096x128_02_1_n_n_12_1_81128 (sumsOf u) (startOf (widthWord g.val) (laneWord g.val))) (ix3 B n e))
          (((BitVec.ofNat 32 n.val + 1#32 - lowOf (widthWord g.val) (ix1 n)).toInt : ℝ) : EReal) - rd S8x4096x128 v (ix3 B n e) := by
    pointwise [rd, devOf]
    rfl
  have e2 : rd S8x4096x128 (Host.gather gather_S8x4097x512_S4096x2_S8x4096x128_02_1_n_n_12_1_81128 (sumsOf u) (startOf (widthWord g.val) (laneWord g.val))) (ix3 B n e)
      = rd S8x4097x512 (sumsOf u) (ix3 B ⟨n.val - Seq.span g.val, by omega⟩ ⟨128 * g.val + e.val, by omega⟩) := by
    exact gather_start _ g n e
  rw [e1, e2, h1, h2, hs, hs, hu, lowOf_apply, count_word, toInt_small _ (by omega), Seq.dev,
    tot_eq D (128 * g.val + e.val) (fun j => b ⟨j % 4096, Nat.mod_lt _ (by decide)⟩) n.val (fun j hj => by
      have := hb ⟨j, by omega⟩
      simp only at this
      rw [this]
      exact congrArg (fun k => ((b k : ℝ) : EReal)) (Fin.ext (Nat.mod_eq_of_lt (by omega)).symm)) _ hspan]
  simp only
  rw [EReal.coe_sub, show 1 + n.val = n.val + 1 from Nat.add_comm _ _]
  norm_num

/-! ## The products and the output -/

/-- The four groups' means, one after another. -/
def meansOf (S : FVec Ideal S8x4097x512 .f32) (u : FVec Ideal S8x4096x512 .f32) : FVec Ideal S8x4096x4x128 .f32 :=
  concatenate S8x4096x4x128 2 [
    ⟨S8x4096x1x128, broadcastInDim S8x4096x1x128 ![0, 1, 3] bcast_S8x4096x128_S8x4096x1x128_0_1_3
      (devOf S (extractStridedSlice S8x4096x128 ![0, 1, 0] S slices_S8x4097x512_S8x4096x128_0_1_0)
        (extractStridedSlice S8x4096x128 ![0, 0, 0] u slices_S8x4096x512_S8x4096x128_0_0_0) (widthWord 0) (laneWord 0))⟩,
    ⟨S8x4096x1x128, broadcastInDim S8x4096x1x128 ![0, 1, 3] bcast_S8x4096x128_S8x4096x1x128_0_1_3
      (devOf S (extractStridedSlice S8x4096x128 ![0, 1, 128] S slices_S8x4097x512_S8x4096x128_0_1_128)
        (extractStridedSlice S8x4096x128 ![0, 0, 128] u slices_S8x4096x512_S8x4096x128_0_0_128) (widthWord 1) (laneWord 1))⟩,
    ⟨S8x4096x1x128, broadcastInDim S8x4096x1x128 ![0, 1, 3] bcast_S8x4096x128_S8x4096x1x128_0_1_3
      (devOf S (extractStridedSlice S8x4096x128 ![0, 1, 256] S slices_S8x4097x512_S8x4096x128_0_1_256)
        (extractStridedSlice S8x4096x128 ![0, 0, 256] u slices_S8x4096x512_S8x4096x128_0_0_256) (widthWord 2) (laneWord 2))⟩,
    ⟨S8x4096x1x128, broadcastInDim S8x4096x1x128 ![0, 1, 3] bcast_S8x4096x128_S8x4096x1x128_0_1_3
      (devOf S (extractStridedSlice S8x4096x128 ![0, 1, 384] S slices_S8x4097x512_S8x4096x128_0_1_384)
        (extractStridedSlice S8x4096x128 ![0, 0, 384] u slices_S8x4096x512_S8x4096x128_0_0_384) (widthWord 3) (laneWord 3))⟩]
    concatenates_S8x4096x1x128_S8x4096x1x128_S8x4096x1x128_S8x4096x1x128_S8x4096x4x128_d2

theorem meansOf_apply {u : FVec Ideal S8x4096x512 .f32} (hu : ∀ (n : Fin 4096) (l : Fin 512), rd S8x4096x512 u (ix3 B n l) = D.p 3 n.val l.val)
    (hr : ∀ (n : Fin 4096) (l : Fin 512), Re (D.p 3 n.val l.val)) (g : Fin 4) (n : Fin 4096) (e : Fin 128) :
    rd S8x4096x4x128 (meansOf (sumsOf u) u) (ix4 B n g e) = D.dev n.val (128 * g.val + e.val) (Seq.span g.val) := by
  fin_cases g
  · refine Eq.trans ?_ (devOf_apply hu hr 0 (extractStridedSlice S8x4096x128 ![0, 1, 0] (sumsOf u) slices_S8x4097x512_S8x4096x128_0_1_0)
      (extractStridedSlice S8x4096x128 ![0, 0, 0] u slices_S8x4096x512_S8x4096x128_0_0_0) (fun n e => by pointwise [rd]) (fun n e => by pointwise [rd]) n e)
    pointwise [rd, meansOf]
  · refine Eq.trans ?_ (devOf_apply hu hr 1 (extractStridedSlice S8x4096x128 ![0, 1, 128] (sumsOf u) slices_S8x4097x512_S8x4096x128_0_1_128)
      (extractStridedSlice S8x4096x128 ![0, 0, 128] u slices_S8x4096x512_S8x4096x128_0_0_128) (fun n e => by pointwise [rd]) (fun n e => by pointwise [rd]) n e)
    pointwise [rd, meansOf]
  · refine Eq.trans ?_ (devOf_apply hu hr 2 (extractStridedSlice S8x4096x128 ![0, 1, 256] (sumsOf u) slices_S8x4097x512_S8x4096x128_0_1_256)
      (extractStridedSlice S8x4096x128 ![0, 0, 256] u slices_S8x4096x512_S8x4096x128_0_0_256) (fun n e => by pointwise [rd]) (fun n e => by pointwise [rd]) n e)
    pointwise [rd, meansOf]
  · refine Eq.trans ?_ (devOf_apply hu hr 3 (extractStridedSlice S8x4096x128 ![0, 1, 384] (sumsOf u) slices_S8x4097x512_S8x4096x128_0_1_384)
      (extractStridedSlice S8x4096x128 ![0, 0, 384] u slices_S8x4096x512_S8x4096x128_0_0_384) (fun n e => by pointwise [rd]) (fun n e => by pointwise [rd]) n e)
    pointwise [rd, meansOf]

/-- The means, by the groups' matrices and the scale. -/
def poolOf (M : FVec Ideal S8x4096x4x128 .f32) (pw : FVec Ideal S4x128x128 .f32) (ps : FVec Ideal S512 .f32) : FVec Ideal S8x4096x512 .f32 :=
  mulf (shapeCast _ (transpose S8x4096x4x128 [2, 3, 0, 1] (Host.dotGeneral dot_S4x128x128_S8x4096x4x128_S4x128x8x4096_1_3_2_01_0_2 none pw M)
      transposes_S4x128x8x4096_S8x4096x4x128_2_3_0_1) shapeCasts_S8x4096x4x128_S8x4096x512)
    (broadcastInDim S8x4096x512 ![0, 1, 2] bcast_S1x1x512_S8x4096x512_0_1_2 (broadcastInDim S1x1x512 ![2] bcast_S512_S1x1x512_2 ps))

theorem poolOf_apply {u : FVec Ideal S8x4096x512 .f32} (hu : ∀ (n : Fin 4096) (l : Fin 512), rd S8x4096x512 u (ix3 B n l) = D.p 3 n.val l.val)
    (hr : ∀ (n : Fin 4096) (l : Fin 512), Re (D.p 3 n.val l.val)) {pw : FVec Ideal S4x128x128 .f32} {ps : FVec Ideal S512 .f32}
    (hw : ∀ (g : Fin 4) (k e : Fin 128), rd S4x128x128 pw (ix3 g k e) = D.pw g.val k.val e.val)
    (hs : ∀ l : Fin 512, rd S512 ps (ix1 l) = D.ps l.val) (n : Fin 4096) (l : Fin 512) :
    rd S8x4096x512 (poolOf (meansOf (sumsOf u) u) pw ps) (ix3 B n l) = D.pool n.val (l.val / 128) (l.val % 128) (Seq.span (l.val / 128)) := by
  have e : rd S8x4096x512 (poolOf (meansOf (sumsOf u) u) pw ps) (ix3 B n l)
      = (∑ k : Fin 128, rd S4x128x128 pw (ix3 ⟨l.val / 128, by omega⟩ k ⟨l.val % 128, by omega⟩)
          * rd S8x4096x4x128 (meansOf (sumsOf u) u) (ix4 B n ⟨l.val / 128, by omega⟩ k)) * rd S512 ps (ix1 l) := by
    pointwise [rd, poolOf]
  rw [e, hs, Seq.pool, show 128 * (l.val / 128) + l.val % 128 = l.val by omega]
  refine congrArg (· * D.ps l.val) (Finset.sum_congr rfl fun k _ => ?_)
  rw [hw, meansOf_apply hu hr, mul_comm]

/-- The output. -/
def outOf (c p : FVec Ideal S8x4096x512 .f32) : FVec Ideal S32768x1024 .bf16 :=
  truncf .bf16 (shapeCast _ (concatenate S8x4096x1024 2 [⟨S8x4096x512, c⟩, ⟨S8x4096x512, p⟩] concatenates_S8x4096x512_S8x4096x512_S8x4096x1024_d2)
    shapeCasts_S8x4096x1024_S32768x1024) bitsLt_bf16_f32

theorem outOf_apply (c p : FVec Ideal S8x4096x512 .f32) (i : Fin 32768) (l : Fin 1024) :
    rd S32768x1024 (outOf c p) (ix2 i l)
      = if h : l.val < 512 then rd S8x4096x512 c (ix3 ⟨i.val / 4096, by omega⟩ ⟨i.val % 4096, by omega⟩ ⟨l.val, h⟩)
        else rd S8x4096x512 p (ix3 ⟨i.val / 4096, by omega⟩ ⟨i.val % 4096, by omega⟩ ⟨l.val - 512, by omega⟩) := by
  pointwise [rd, outOf]

/-! ## The run -/

variable (m : (ℓ : Loc nD τ sig) → Buf (Elt Ideal) ℓ) (c : Dev nD)

/-- The arguments: the residual stream. -/
abbrev A0 : (⟨3, ![8, 4096, 1024]⟩ : Shape).Idx → EReal := m ((c.tc : Thread nD τ).loc main_arg0)

/-- The arguments: the norm's weight. -/
abbrev A1 : (⟨1, ![1024]⟩ : Shape).Idx → EReal := m ((c.tc : Thread nD τ).loc main_arg1)

/-- The arguments: the projection. -/
abbrev A2 : (⟨2, ![1024, 2048]⟩ : Shape).Idx → EReal := m ((c.tc : Thread nD τ).loc main_arg2)

/-- The arguments: the convolution's taps. -/
abbrev A3 : (⟨2, ![3, 512]⟩ : Shape).Idx → EReal := m ((c.tc : Thread nD τ).loc main_arg3)

/-- The arguments: the groups' matrices. -/
abbrev A4 : (⟨3, ![4, 128, 128]⟩ : Shape).Idx → EReal := m ((c.tc : Thread nD τ).loc main_arg4)

/-- The arguments: the pooling's scale. -/
abbrev A5 : (⟨1, ![512]⟩ : Shape).Idx → EReal := m ((c.tc : Thread nD τ).loc main_arg5)

/-- Sequence `B` of the arguments. -/
def seq (B : Fin 8) : Seq :=
  Seq.ofArrays (A0 m c) (A1 m c) (A2 m c) (A3 m c) (A4 m c) (A5 m c) B

/-- The projection of the run. -/
def proj : FVec Ideal S8x4096x2048 .f32 :=
  projOf (m ((c.tc : Thread nD τ).loc main_arg0)) (m ((c.tc : Thread nD τ).loc main_arg1)) (m ((c.tc : Thread nD τ).loc main_arg2))

/-- The output of the run. -/
def result : FVec Ideal S32768x1024 .bf16 :=
  outOf (convOf (proj m c) (paddedOf (proj m c)) (m ((c.tc : Thread nD τ).loc main_arg3)))
    (poolOf (meansOf (sumsOf (inputOf (proj m c))) (inputOf (proj m c))) (m ((c.tc : Thread nD τ).loc main_arg4)) (m ((c.tc : Thread nD τ).loc main_arg5)))

theorem proj_is (B : Fin 8) : ProjIs (proj m c) (seq m c B) B := by
  intro q n l
  refine (projOf_apply _ _ _ B n _).trans ?_
  have hn : (⟨n.val % 4096, Nat.mod_lt _ (by decide)⟩ : Fin 4096) = n := Fin.ext (Nat.mod_eq_of_lt n.isLt)
  have hl : (⟨(512 * q.val + l.val) % 2048, Nat.mod_lt _ (by decide)⟩ : Fin 2048) = ⟨512 * q.val + l.val, by omega⟩ :=
    Fin.ext (Nat.mod_eq_of_lt (by omega))
  show _ = entry (fun k => A0 m c (ix3 B ⟨n.val % 4096, Nat.mod_lt _ (by decide)⟩ k)) (fun k => A1 m c (ix1 k))
    fun k => A2 m c (ix2 k ⟨(512 * q.val + l.val) % 2048, Nat.mod_lt _ (by decide)⟩)
  rw [hn, hl]

/-- The pooling's input is real where the norm's weight and the projection's columns for it are. -/
theorem real_input (h1 : ∀ i, Re (A1 m c i)) (h2 : ∀ (k : Fin 1024) (l : Fin 512), Re (A2 m c (ix2 k ⟨1536 + l.val, by omega⟩)))
    (B : Fin 8) (n : ℕ) (l : Fin 512) : Re ((seq m c B).p 3 n l.val) := by
  show Re (∑ k, normed (fun k => A0 m c (ix3 B ⟨n % 4096, Nat.mod_lt _ (by decide)⟩ k)) (fun k => A1 m c (ix1 k)) k
    * A2 m c (ix2 k ⟨(512 * 3 + l.val) % 2048, Nat.mod_lt _ (by decide)⟩))
  have hl : (⟨(512 * 3 + l.val) % 2048, Nat.mod_lt _ (by decide)⟩ : Fin 2048) = ⟨1536 + l.val, by omega⟩ := Fin.ext (Nat.mod_eq_of_lt (by omega))
  rw [hl]
  exact re_sum _ _ fun k => Re.mul (re_normed _ _ (fun _ => h1 _) k) (h2 _ _)

/-- The run's output, the norm's weight and the projection's columns for the pooling being real. -/
theorem result_apply (h1 : ∀ i, Re (A1 m c i)) (h2 : ∀ (k : Fin 1024) (l : Fin 512), Re (A2 m c (ix2 k ⟨1536 + l.val, by omega⟩))) (i : Fin 32768) (l : Fin 1024) :
    rd S32768x1024 (result m c) (ix2 i l) = (seq m c ⟨i.val / 4096, by omega⟩).y (i.val % 4096) l.val := by
  have hp := proj_is m c ⟨i.val / 4096, by omega⟩
  refine (outOf_apply _ _ i l).trans ?_
  unfold Seq.y
  split_ifs with h
  · refine convOf_apply hp (fun k l => ?_) _ _
    have hk : (⟨k.val % 3, Nat.mod_lt _ (by decide)⟩ : Fin 3) = k := Fin.ext (Nat.mod_eq_of_lt k.isLt)
    have hl : (⟨l.val % 512, Nat.mod_lt _ (by decide)⟩ : Fin 512) = l := Fin.ext (Nat.mod_eq_of_lt l.isLt)
    show _ = A3 m c (ix2 ⟨k.val % 3, Nat.mod_lt _ (by decide)⟩ ⟨l.val % 512, Nat.mod_lt _ (by decide)⟩)
    rw [hk, hl]
  · refine poolOf_apply (fun n l => inputOf_apply hp n l) (fun n l => real_input m c h1 h2 _ _ _) (fun g k e => ?_) (fun l => ?_) _ _
    · have hg : (⟨g.val % 4, Nat.mod_lt _ (by decide)⟩ : Fin 4) = g := Fin.ext (Nat.mod_eq_of_lt g.isLt)
      have hk : (⟨k.val % 128, Nat.mod_lt _ (by decide)⟩ : Fin 128) = k := Fin.ext (Nat.mod_eq_of_lt k.isLt)
      have he : (⟨e.val % 128, Nat.mod_lt _ (by decide)⟩ : Fin 128) = e := Fin.ext (Nat.mod_eq_of_lt e.isLt)
      show _ = A4 m c (ix3 ⟨g.val % 4, Nat.mod_lt _ (by decide)⟩ ⟨k.val % 128, Nat.mod_lt _ (by decide)⟩ ⟨e.val % 128, Nat.mod_lt _ (by decide)⟩)
      rw [hg, hk, he]
    · have hl : (⟨l.val % 512, Nat.mod_lt _ (by decide)⟩ : Fin 512) = l := Fin.ext (Nat.mod_eq_of_lt l.isLt)
      show _ = A5 m c (ix1 ⟨l.val % 512, Nat.mod_lt _ (by decide)⟩)
      rw [hl]

/-- Every execution ends with that output and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v161) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2⟩) (Cert.Reference5Ideal.Value.run m ρ)

end Cert.Reference5Ideal.Odd

end
-- ==== Proof.GlaBody.lean ====
/-
  What one grid point of the gated linear attention call computes, written once for any float values:
  the log decays, their running sums, the query and key factors, a head's masked scores, the running
  state and the normed, gated output of one 256-row part of one head.
-/
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Gla

open Cert.KernelIdeal Cert.KernelIdeal.Gen

variable {F : FTy → Type} [FloatOps F]

/-- The parts of a grid point's blocks the body reads: per 256-row part the gate's input, the queries and the keys,
    per part and head the output gate and the values, then the gate weight and bias, the norm weight and the table of
    the chunks' lower triangles. -/
structure Loads (F : FTy → Type) [FloatOps F] where
  glr : Fin 4 → Vec F S256x128 .f32
  q : Fin 4 → Vec F S256x256 .f32
  k : Fin 4 → Vec F S256x256 .f32
  r : Fin 4 → Fin 4 → Vec F S256x128 .f32
  v : Fin 4 → Fin 4 → Vec F S256x128 .bf16
  wg : Vec F S128x256 .bf16
  bg : Vec F S1x256 .f32
  gn : Vec F S1x128 .f32
  tri : Vec F S256x256 .bf16

theorem sl_pair (h : Fin 4) : S256x256.Slices ![0, 128 * (h.val / 2)] S256x128 := by revert h; decide
theorem sl_pair1 (h : Fin 4) : S1x256.Slices ![0, 128 * (h.val / 2)] S1x128 := by revert h; decide
theorem sl_rows (c : Fin 4) : S256x128.Slices ![64 * c.val, 0] S64x128 := by revert c; decide
theorem sl_last (c : Fin 4) : S256x256.Slices ![64 * c.val + 63, 0] S1x256 := by revert c; decide

/-- The log decays of one part. -/
def logA (g : Vec F S256x128 .f32) (wg : Vec F S128x256 .bf16) (bg : Vec F S1x256 .f32) : FVec F S256x256 .f32 :=
  let z : FVec F S256x256 .f32 := addf
    (matmul dot_S256x128_S128x256_S256x256_1_0_0_1_n_n none
      (truncf .bf16 (shapeCast S256x128 g shapeCasts_S256x128_S256x128 : FVec F S256x128 .f32) bitsLt_bf16_f32)
      (shapeCast S128x256 wg shapeCasts_S128x256_S128x256) (constant S256x256 .f32 0x00000000#32))
    (broadcastTo S256x256 (shapeCast S1x256 bg shapeCasts_S1x256_S1x256 : FVec F S1x256 .f32) broadcasts_S1x256_S256x256)
  mulf (subf (minimumf z (broadcast S256x256 (Scalar.ofBits .f32 0x00000000#32)))
      (log1p (exp (subf (broadcast S256x256 (Scalar.ofBits .f32 0x00000000#32)) (absf z)))))
    (broadcast S256x256 (Scalar.ofBits .f32 0x3D800000#32))

/-- Their sums within each chunk, up to and with each row. -/
def cums (tri : Vec F S256x256 .bf16) (a : FVec F S256x256 .f32) : FVec F S256x256 .f32 :=
  let hi : FVec F S256x256 .bf16 := truncf .bf16 a bitsLt_bf16_f32
  let lo : FVec F S256x256 .bf16 := truncf .bf16 (subf a (extf .f32 hi bitsLt_bf16_f32)) bitsLt_bf16_f32
  let bb : FVec F S256x512 .f32 := matmul dot_S256x256_S256x512_S256x512_1_0_0_1_n_n none
    (shapeCast S256x256 tri shapeCasts_S256x256_S256x256)
    (concatenate S256x512 1 [⟨S256x256, hi⟩, ⟨S256x256, lo⟩] concatenates_S256x256_S256x256_S256x512_d1)
    (constant S256x512 .f32 0x00000000#32)
  addf (extractStridedSlice S256x256 ![0, 0] bb slices_S256x512_o0_0_S256x256)
    (extractStridedSlice S256x256 ![0, 256] bb slices_S256x512_o0_256_S256x256)

/-- Chunk `c`'s last row of the sums. -/
def lastRow (b : FVec F S256x256 .f32) (c : Fin 4) : FVec F S1x256 .f32 :=
  extractStridedSlice S1x256 ![64 * c.val + 63, 0] b (sl_last c)

/-- The scaled queries times `exp b`. -/
def qPos (b : FVec F S256x256 .f32) (q : Vec F S256x256 .f32) : FVec F S256x256 .f32 :=
  mulf (mulf (shapeCast S256x256 q shapeCasts_S256x256_S256x256 : FVec F S256x256 .f32)
    (broadcast S256x256 (Scalar.ofBits .f32 0x3E000000#32))) (exp b)

/-- The keys times `exp (-b)`. -/
def kNeg (b : FVec F S256x256 .f32) (k : Vec F S256x256 .f32) : FVec F S256x256 .f32 :=
  mulf (shapeCast S256x256 k shapeCasts_S256x256_S256x256 : FVec F S256x256 .f32)
    (exp (subf (broadcast S256x256 (Scalar.ofBits .f32 0x00000000#32)) b))

/-- A row repeated over a chunk. -/
def rep64 (x : FVec F S1x256 .f32) : FVec F S64x256 .f32 :=
  broadcastTo S64x256 (shapeCast S1x256 x shapeCasts_S1x256_S1x256 : FVec F S1x256 .f32) broadcasts_S1x256_S64x256

/-- The keys times `exp (b_last - b)`. -/
def kEnd (b : FVec F S256x256 .f32) (k : Vec F S256x256 .f32) : FVec F S256x256 .f32 :=
  mulf (shapeCast S256x256 k shapeCasts_S256x256_S256x256 : FVec F S256x256 .f32)
    (exp (subf (concatenate S256x256 0 [⟨S64x256, rep64 (lastRow b 0)⟩, ⟨S64x256, rep64 (lastRow b 1)⟩,
      ⟨S64x256, rep64 (lastRow b 2)⟩, ⟨S64x256, rep64 (lastRow b 3)⟩]
      concatenates_S64x256_S64x256_S64x256_S64x256_S256x256_d0) b))

/-- The lanes of the even head of a pair (`h % 2 = 0`), or of the odd one. -/
def lanes (h : Fin 4) : IVec S256x128 1 :=
  if h.val % 2 = 0 then cmpi .slt (iota .tc S256x128 32 [1] iota_S256x128_d1_w32) (broadcast S256x128 64#32)
  else cmpi .sge (iota .tc S256x128 32 [1] iota_S256x128_d1_w32) (broadcast S256x128 64#32)

/-- Head `h`'s pair of 64 lanes of `x`, the other head's lanes zero. -/
def headOf (x : FVec F S256x256 .f32) (h : Fin 4) : FVec F S256x128 .bf16 :=
  truncf .bf16 (select (lanes h) (extractStridedSlice S256x128 ![0, 128 * (h.val / 2)] x (sl_pair h) : FVec F S256x128 .f32)
    (broadcast S256x128 (Scalar.ofBits .f32 0x00000000#32)) : FVec F S256x128 .f32) bitsLt_bf16_f32

/-- The values, as the block holds them. -/
def vals (v : Vec F S256x128 .bf16) : FVec F S256x128 .bf16 := shapeCast S256x128 v shapeCasts_S256x128_S256x128

/-- Chunk `c`'s contribution to a head's state. -/
def dState (ke v : FVec F S256x128 .bf16) (c : Fin 4) : FVec F S128x128 .f32 :=
  matmul dot_S64x128_S64x128_S128x128_0_0_1_1_n_n none
    (extractStridedSlice S64x128 ![64 * c.val, 0] v (sl_rows c))
    (extractStridedSlice S64x128 ![64 * c.val, 0] ke (sl_rows c)) (constant S128x128 .f32 0x00000000#32)

/-- Chunk `c`'s decay of a head's state. -/
def dec (b : FVec F S256x256 .f32) (h c : Fin 4) : FVec F S1x128 .f32 :=
  exp (extractStridedSlice S1x128 ![0, 128 * (h.val / 2)] (lastRow b c) (sl_pair1 h) : FVec F S1x128 .f32)

/-- The masked scores of a head within a part, applied to the values. -/
def oIntra (tri : Vec F S256x256 .bf16) (qm : FVec F S256x128 .bf16) (kn : FVec F S256x256 .f32) (v : FVec F S256x128 .bf16)
    (h : Fin 4) : FVec F S256x128 .f32 :=
  matmul dot_S256x256_S256x128_S256x128_1_0_0_1_n_n none
    (truncf .bf16 (select (cmpf .ogt (shapeCast S256x256 tri shapeCasts_S256x256_S256x256 : FVec F S256x256 .bf16)
        (broadcast S256x256 (Scalar.ofBits .bf16 0x0000#16)))
      (matmul dot_S256x128_S256x128_S256x256_1_1_0_0_n_n none qm
        (truncf .bf16 (extractStridedSlice S256x128 ![0, 128 * (h.val / 2)] kn (sl_pair h) : FVec F S256x128 .f32) bitsLt_bf16_f32)
        (constant S256x256 .f32 0x00000000#32) : FVec F S256x256 .f32)
      (broadcast S256x256 (Scalar.ofBits .f32 0x00000000#32)) : FVec F S256x256 .f32) bitsLt_bf16_f32)
    v (constant S256x128 .f32 0x00000000#32)

/-- A chunk's queries against the state before it. -/
def interOf (qm : FVec F S256x128 .bf16) (st : FVec F S128x128 .f32) (c : Fin 4) : FVec F S64x128 .f32 :=
  matmul dot_S64x128_S128x128_S64x128_1_1_0_0_n_n none
    (extractStridedSlice S64x128 ![64 * c.val, 0] qm (sl_rows c)) (truncf .bf16 st bitsLt_bf16_f32)
    (constant S64x128 .f32 0x00000000#32)

/-- The normed row scaled by the norm weight. -/
def normed (o : FVec F S256x128 .f32) (gn : Vec F S1x128 .f32) : FVec F S256x128 .f32 :=
  mulf (mulf o (broadcastTo S256x128 (rsqrt (addf (divf
      (shapeCast S256x1 (multiReduction .add [1] S256 (mulf o o) 0x00000000#32 reduces_S256x128_S256 (.inl rfl) rfl : FVec F S256 .f32) shapeCasts_S256_S256x1)
      (broadcast S256x1 (Scalar.ofBits .f32 0x43000000#32)))
      (broadcast S256x1 (Scalar.ofBits .f32 0x358637BD#32)) : FVec F S256x1 .f32)) broadcasts_S256x1_S256x128))
    (broadcastTo S256x128 (shapeCast S1x128 gn shapeCasts_S1x128_S1x128 : FVec F S1x128 .f32) broadcasts_S1x128_S256x128)

/-- The output gate applied. -/
def gated (on : FVec F S256x128 .f32) (r : Vec F S256x128 .f32) : FVec F S256x128 .bf16 :=
  truncf .bf16 (mulf on (mulf (shapeCast S256x128 r shapeCasts_S256x128_S256x128 : FVec F S256x128 .f32)
    (logistic (shapeCast S256x128 r shapeCasts_S256x128_S256x128 : FVec F S256x128 .f32)))) bitsLt_bf16_f32

variable (L : Loads F)

/-- Part `s`'s sums of log decays. -/
def bAt (s : Fin 4) : FVec F S256x256 .f32 := cums L.tri (logA (L.glr s) L.wg L.bg)

theorem part_lt (n : ℕ) : n / 4 % 4 < 4 := Nat.mod_lt _ (by decide)
theorem chunk_lt (n : ℕ) : n % 4 < 4 := Nat.mod_lt _ (by decide)

/-- The part of chunk `n` of the tile, and its chunk within the part. -/
def part (n : ℕ) : Fin 4 := ⟨n / 4 % 4, part_lt n⟩
def chunk (n : ℕ) : Fin 4 := ⟨n % 4, chunk_lt n⟩

/-- Head `h`'s state before chunk `n` of the tile's sixteen, from the state `st0` before the tile. -/
def stateAt (st0 : Vec F S1x128x128 .f32) (h : Fin 4) : ℕ → FVec F S128x128 .f32
  | 0 => shapeCast S128x128 st0 shapeCasts_S1x128x128_S128x128
  | n + 1 => addf (mulf (stateAt st0 h n)
        (broadcastTo S128x128 (dec (bAt L (part n)) h (chunk n)) broadcasts_S1x128_S128x128))
      (dState (headOf (kEnd (bAt L (part n)) (L.k (part n))) h) (vals (L.v (part n) h)) (chunk n))

/-- Head `h`'s state after the tile, as stored. -/
def stateOut (st0 : Vec F S1x128x128 .f32) (h : Fin 4) : FVec F S1x128x128 .f32 :=
  shapeCast S1x128x128 (stateAt L st0 h 16) shapeCasts_S128x128_S1x128x128

/-- Head `h`'s attention output of part `s`, before the norm. -/
def oAt (st0 : Vec F S1x128x128 .f32) (s h : Fin 4) : FVec F S256x128 .f32 :=
  let qm : FVec F S256x128 .bf16 := headOf (qPos (bAt L s) (L.q s)) h
  addf (oIntra L.tri qm (kNeg (bAt L s) (L.k s)) (vals (L.v s h)) h)
    (concatenate S256x128 0 [⟨S64x128, interOf qm (stateAt L st0 h (4 * s.val)) 0⟩,
      ⟨S64x128, interOf qm (stateAt L st0 h (4 * s.val + 1)) 1⟩,
      ⟨S64x128, interOf qm (stateAt L st0 h (4 * s.val + 2)) 2⟩,
      ⟨S64x128, interOf qm (stateAt L st0 h (4 * s.val + 3)) 3⟩]
      concatenates_S64x128_S64x128_S64x128_S64x128_S256x128_d0)

/-- What is stored for part `s` and head `h`. -/
def outAt (st0 : Vec F S1x128x128 .f32) (s h : Fin 4) : FVec F S256x128 .bf16 :=
  gated (normed (oAt L st0 s h) L.gn) (L.r s h)

end Cert.KernelIdeal.Gla

end
-- ==== Proof.GlaSpec.lean ====
/-
  The gated linear attention of one sequence, over the extended reals: the chunk's running log decays,
  the query and key factors, the state carried from chunk to chunk, the scores within a chunk and the
  normed, gated output. Rows and lanes are natural numbers; a head has 64 key lanes and 128 value lanes.
-/
module

public import Idealize.ShloMosaic.Lib.Pointwise

@[expose] public section

noncomputable section

namespace Cert.Gla

open Idealize.ShloMosaic

/-- The arrays of one sequence: queries, keys, log decays, values, output gates (row, lane), and the norm weight. -/
structure Seq where
  q : ℕ → ℕ → EReal
  k : ℕ → ℕ → EReal
  a : ℕ → ℕ → EReal
  v : ℕ → ℕ → EReal
  r : ℕ → ℕ → EReal
  gn : ℕ → EReal

/-- The log decay of one gate value. -/
def logDecay (z : EReal) : EReal :=
  (min z 0 - Ideal.log1p (Ideal.exp (0 - max z (-z)))) * Ideal.ofBits .f32 0x3D800000#32

/-- Sequence `B` of the arrays: queries, keys, values and output gates per sequence, row and lane, the gate's input,
    weight and bias, the norm weight. -/
def Seq.ofArrays (q k : (⟨3, ![8, 4096, 256]⟩ : Shape).Idx → EReal) (v r : (⟨3, ![8, 4096, 512]⟩ : Shape).Idx → EReal)
    (g : (⟨3, ![8, 4096, 16]⟩ : Shape).Idx → EReal) (wg : (⟨2, ![16, 256]⟩ : Shape).Idx → EReal)
    (bg : (⟨1, ![256]⟩ : Shape).Idx → EReal) (gn : (⟨1, ![128]⟩ : Shape).Idx → EReal) (B : Fin 8) : Seq where
  q n l := q (ix3 B ⟨n % 4096, Nat.mod_lt _ (by decide)⟩ ⟨l % 256, Nat.mod_lt _ (by decide)⟩)
  k n l := k (ix3 B ⟨n % 4096, Nat.mod_lt _ (by decide)⟩ ⟨l % 256, Nat.mod_lt _ (by decide)⟩)
  a n l := logDecay ((∑ x : Fin 16, g (ix3 B ⟨n % 4096, Nat.mod_lt _ (by decide)⟩ x) * wg (ix2 x ⟨l % 256, Nat.mod_lt _ (by decide)⟩))
    + bg (ix1 ⟨l % 256, Nat.mod_lt _ (by decide)⟩))
  v n l := v (ix3 B ⟨n % 4096, Nat.mod_lt _ (by decide)⟩ ⟨l % 512, Nat.mod_lt _ (by decide)⟩)
  r n l := r (ix3 B ⟨n % 4096, Nat.mod_lt _ (by decide)⟩ ⟨l % 512, Nat.mod_lt _ (by decide)⟩)
  gn e := gn (ix1 ⟨e % 128, Nat.mod_lt _ (by decide)⟩)

namespace Seq

variable (D : Seq)

/-- The sum of chunk `n`'s log decays up to and with its row `i`. -/
def b (n i l : ℕ) : EReal := ∑ j ∈ Finset.range (i + 1), D.a (64 * n + j) l

/-- The scaled query times `exp b`, the key times `exp (-b)`, and the key times `exp (b_last - b)`. -/
def qp (n i l : ℕ) : EReal := D.q (64 * n + i) l * Ideal.ofBits .f32 0x3E000000#32 * Ideal.exp (D.b n i l)
def kn (n i l : ℕ) : EReal := D.k (64 * n + i) l * Ideal.exp (-D.b n i l)
def ke (n i l : ℕ) : EReal := D.k (64 * n + i) l * Ideal.exp (D.b n 63 l - D.b n i l)

/-- Head `h`'s state before chunk `n`, at value lane `e` and key lane `d`. -/
def st (h : ℕ) : ℕ → ℕ → ℕ → EReal
  | 0, _, _ => 0
  | n + 1, e, d => st h n e d * Ideal.exp (D.b n 63 (64 * h + d))
      + ∑ j : Fin 64, D.v (64 * n + j.val) (128 * h + e) * D.ke n j.val (64 * h + d)

/-- The score of row `i` of chunk `n` against its row `j`. -/
def sc (h n i j : ℕ) : EReal :=
  if j ≤ i then ∑ d : Fin 64, D.qp n i (64 * h + d.val) * D.kn n j (64 * h + d.val) else 0

/-- The attention's output at row `i` of chunk `n`, value lane `e`. -/
def o (h n i e : ℕ) : EReal :=
  (∑ j : Fin 64, D.sc h n i j.val * D.v (64 * n + j.val) (128 * h + e))
    + ∑ d : Fin 64, D.qp n i (64 * h + d.val) * D.st h n e d.val

/-- The normed and gated output. -/
def y (h n i e : ℕ) : EReal :=
  D.o h n i e
    * Ideal.rsqrt (Ideal.div (∑ x : Fin 128, D.o h n i x.val * D.o h n i x.val) (Ideal.ofBits .f32 0x43000000#32)
        + Ideal.ofBits .f32 0x358637BD#32)
    * D.gn e
    * (D.r (64 * n + i) (128 * h + e) * Ideal.logistic (D.r (64 * n + i) (128 * h + e)))

end Seq

/-- A sum whose terms outside `[o, o + n)` are zero. -/
theorem sum_block {N : ℕ} (f : Fin N → EReal) (o n : ℕ) (h : o + n ≤ N)
    (hz : ∀ j : Fin N, ¬(o ≤ j.val ∧ j.val < o + n) → f j = 0) :
    ∑ j, f j = ∑ j : Fin n, f ⟨o + j.val, by omega⟩ := by
  symm
  refine Finset.sum_of_injOn (fun j : Fin n => (⟨o + j.val, by omega⟩ : Fin N)) ?_ ?_ ?_ ?_
  · intro a _ b _ e
    have := congrArg Fin.val e
    simp only at this
    exact Fin.ext (by omega)
  · intro a _; simp
  · intro j _ hj
    refine hz j fun hb => hj ⟨⟨j.val - o, by omega⟩, by simp, Fin.ext ?_⟩
    simp only; omega
  · intro j _; rfl

theorem ofBits_sixteenth : Ideal.ofBits .f32 0x3D800000#32 = ((1 / 16 : ℝ) : EReal) := by
  simp [Ideal.ofBits, Ideal.ieee]; norm_num; rw [← EReal.coe_mul]; norm_num

theorem ofBits_sixteen : Ideal.ofBits .f32 0x41800000#32 = ((16 : ℝ) : EReal) := by
  simp [Ideal.ofBits, Ideal.ieee]; norm_num; rw [← EReal.coe_mul]; norm_num

theorem exp_nonneg (x : EReal) : 0 ≤ Ideal.exp x := by
  induction x with
  | bot => simp
  | top => simp
  | coe r => rw [Ideal.exp_coe]; exact_mod_cast (Real.exp_pos r).le

theorem log1p_nonneg {x : EReal} (h : 0 ≤ x) : 0 ≤ Ideal.log1p x := by
  induction x with
  | bot => simp at h
  | top => rw [Ideal.log1p, EReal.add_top_of_ne_bot (by decide)]; exact le_top
  | coe r =>
    have hr : (0 : ℝ) ≤ r := by exact_mod_cast h
    have e : (1 : EReal) + (r : EReal) = ((1 + r : ℝ) : EReal) := by push_cast; rfl
    rw [Ideal.log1p, e]
    rw [show Ideal.log ((1 + r : ℝ) : EReal) = if 1 + r ≤ 0 then ⊥ else (Real.log (1 + r) : EReal) from rfl,
      if_neg (by linarith)]
    exact_mod_cast Real.log_nonneg (by linarith)

/-- A log decay is at most zero. -/
theorem logDecay_le (z : EReal) : logDecay z ≤ 0 := by
  have h : min z 0 - Ideal.log1p (Ideal.exp (0 - max z (-z))) ≤ 0 := by
    rw [sub_eq_add_neg]
    have h1 : min z 0 ≤ 0 := min_le_right _ _
    have h2 : -Ideal.log1p (Ideal.exp (0 - max z (-z))) ≤ 0 := EReal.neg_le_zero.2 (log1p_nonneg (exp_nonneg _))
    simpa using add_le_add h1 h2
  rw [logDecay, ofBits_sixteenth]
  generalize min z 0 - Ideal.log1p (Ideal.exp (0 - max z (-z))) = w at h
  induction w with
  | bot => rw [EReal.bot_mul_coe_of_pos (by norm_num)]; exact bot_le
  | top => simp at h
  | coe r =>
    have hr : r ≤ 0 := by exact_mod_cast h
    rw [← EReal.coe_mul]
    exact_mod_cast (by nlinarith : r * (1 / 16) ≤ 0)

theorem add_sub_self {a : EReal} (h : a ≤ 0) : a + (a - a) = a := by
  induction a with
  | bot => simp
  | top => simp at h
  | coe x => rw [← EReal.coe_sub, sub_self, EReal.coe_zero, add_zero]

theorem sub_zero' (a : EReal) : a - 0 = a := by rw [sub_eq_add_neg, neg_zero, add_zero]

/-- The log decay as a negated softplus of the negated gate value, divided by sixteen. -/
theorem logDecay_eq (z : EReal) :
    Ideal.div (-(max (-z) 0 + Ideal.log1p (Ideal.exp (-max (-z) (-(-z)))))) (Ideal.ofBits .f32 0x41800000#32) = logDecay z := by
  rw [ofBits_sixteen, Ideal.div_coe (by norm_num), logDecay, ofBits_sixteenth, neg_neg, max_comm (-z) z, zero_sub]
  congr 1
  have hn : -max (-z) 0 = min z 0 := by
    rcases le_total z 0 with h | h
    · rw [max_eq_left (EReal.neg_nonneg.2 h), min_eq_left h, neg_neg]
    · rw [max_eq_right (EReal.neg_le_zero.2 h), min_eq_right h, neg_zero]
  have hm : (0 : EReal) ≤ max (-z) 0 := le_max_right _ _
  have hw := log1p_nonneg (exp_nonneg (-max z (-z)))
  have nb : ∀ {x : EReal}, 0 ≤ x → x ≠ ⊥ := fun h e => by rw [e] at h; simp at h
  rw [EReal.neg_add (Or.inl (nb hm)) (Or.inr (nb hw)), hn]

end Cert.Gla

end
-- ==== Proof.GlaRead.lean ====
/-
  The body's values read at an index over the extended reals: each is the sequence's value at the row
  the tile, the part and the row within the part name.
-/
module

public import proofs.«01_k».proof.Proof.GlaBody
public import proofs.«01_k».proof.Proof.GlaSpec

@[expose] public section

set_option maxRecDepth 16384

noncomputable section

open Idealize.ShloMosaic Idealize.ShloMosaic.TcCoe Idealize.SL.Sem

namespace Cert.KernelIdeal.Gla

open Cert.KernelIdeal Cert.KernelIdeal.Gen Cert.Gla

/-- The loads of tile `t` hold the sequence `D`. -/
structure Reads (L : Loads Ideal) (D : Seq) (t : ℕ) : Prop where
  tri : ∀ i j : Fin 256, L.tri (ix2 i j) = if i.val / 64 = j.val / 64 ∧ j.val ≤ i.val then (1 : EReal) else 0
  a : ∀ (s : Fin 4) (i l : Fin 256), logA (L.glr s) L.wg L.bg (ix2 i l) = D.a (1024 * t + 256 * s.val + i.val) l.val
  a_le : ∀ m l, D.a m l ≤ 0
  q : ∀ (s : Fin 4) (i l : Fin 256), L.q s (ix2 i l) = D.q (1024 * t + 256 * s.val + i.val) l.val
  k : ∀ (s : Fin 4) (i l : Fin 256), L.k s (ix2 i l) = D.k (1024 * t + 256 * s.val + i.val) l.val
  v : ∀ (s h : Fin 4) (i : Fin 256) (e : Fin 128), L.v s h (ix2 i e) = D.v (1024 * t + 256 * s.val + i.val) (128 * h.val + e.val)
  r : ∀ (s h : Fin 4) (i : Fin 256) (e : Fin 128), L.r s h (ix2 i e) = D.r (1024 * t + 256 * s.val + i.val) (128 * h.val + e.val)
  gn : ∀ e : Fin 128, L.gn (ix2 0 e) = D.gn e.val

/-- The log decay at an index. -/
theorem logA_apply (g : Vec Ideal S256x128 .f32) (wg : Vec Ideal S128x256 .bf16) (bg : Vec Ideal S1x256 .f32) (i l : Fin 256) :
    logA g wg bg (ix2 i l) = logDecay ((∑ x : Fin 128, g (ix2 i x) * wg (ix2 x l)) + bg (ix2 0 l)) := by
  pointwise [logA]
  rfl

theorem cums_apply (tri : Vec Ideal S256x256 .bf16) (a : FVec Ideal S256x256 .f32) (A : ℕ → EReal)
    (htri : ∀ i j : Fin 256, tri (ix2 i j) = if i.val / 64 = j.val / 64 ∧ j.val ≤ i.val then (1 : EReal) else 0)
    (l : Fin 256) (ha : ∀ i : Fin 256, a (ix2 i l) = A i.val) (hle : ∀ m, A m ≤ 0) (i : Fin 256) :
    cums tri a (ix2 i l) = ∑ j ∈ Finset.range (i.val % 64 + 1), A (64 * (i.val / 64) + j) := by
  pointwise [cums]
  rw [← Finset.sum_add_distrib]
  have e : ∀ x : Fin 256, tri (ix2 i x) * a (ix2 x l) + tri (ix2 i x) * (a (ix2 x l) - a (ix2 x l))
      = if i.val / 64 = x.val / 64 ∧ x.val ≤ i.val then A x.val else 0 := by
    intro x
    rw [htri, ha]
    split
    · rw [one_mul, one_mul, add_sub_self (hle _)]
    · rw [zero_mul, zero_mul, add_zero]
  rw [Finset.sum_congr rfl fun x _ => e x,
    sum_block _ (64 * (i.val / 64)) 64 (by omega) (fun j hj => if_neg (by omega)),
    Finset.sum_congr rfl (fun (j : Fin 64) _ => show _ = (fun j : ℕ => if j ≤ i.val % 64 then A (64 * (i.val / 64) + j) else 0) j.val from
      if_congr (by simp only; omega) rfl rfl),
    Fin.sum_univ_eq_sum_range (fun j : ℕ => if j ≤ i.val % 64 then A (64 * (i.val / 64) + j) else 0) 64, ← Finset.sum_filter]
  refine Finset.sum_congr ?_ fun _ _ => rfl
  ext j
  simp only [Finset.mem_filter, Finset.mem_range]
  omega

theorem lanes_apply (h : Fin 4) (i : Fin 256) (x : Fin 128) : lanes h (ix2 i x) = if x.val / 64 = h.val % 2 then 1#1 else 0#1 := by
  have : ∀ (h : Fin 4) (x : Fin 128), (if h.val % 2 = 0 then IntOp.cmpi .slt (BitVec.ofNat 32 x.val) 64#32
      else IntOp.cmpi .sge (BitVec.ofNat 32 x.val) 64#32) = if x.val / 64 = h.val % 2 then 1#1 else 0#1 := by decide +kernel
  rw [← this h x, lanes]
  split <;> pointwise []

/-- A head's pair of lanes at an index: the value on the head's own lanes, zero on the other head's. -/
theorem headOf_apply (x : FVec Ideal S256x256 .f32) (h : Fin 4) (i : Fin 256) (l : Fin 128) :
    headOf x h (ix2 i l) = if l.val / 64 = h.val % 2 then x (ix2 i ⟨128 * (h.val / 2) + l.val, by omega⟩) else (0 : EReal) := by
  pointwise [headOf]
  rw [lanes_apply]
  split <;> rfl

/-- A product over a head's pair of lanes is the product over the head's own lanes. -/
theorem sum_head (h : Fin 4) (f : Fin 128 → EReal) (g : ℕ → EReal)
    (hf : ∀ l : Fin 128, l.val / 64 ≠ h.val % 2 → f l = 0)
    (hg : ∀ l : Fin 128, l.val / 64 = h.val % 2 → f l = g (128 * (h.val / 2) + l.val)) :
    ∑ l, f l = ∑ d : Fin 64, g (64 * h.val + d.val) := by
  rw [sum_block f (64 * (h.val % 2)) 64 (by omega) (fun j hj => hf j (by omega))]
  refine Finset.sum_congr rfl fun d _ => ?_
  rw [hg _ (by simp only; omega)]
  exact congrArg g (by simp only; omega)

variable {L : Loads Ideal} {D : Seq} {t : ℕ} (R : Reads L D t)

include R

theorem bAt_apply (s : Fin 4) (i l : Fin 256) :
    bAt L s (ix2 i l) = D.b (16 * t + 4 * s.val + i.val / 64) (i.val % 64) l.val := by
  rw [bAt, cums_apply L.tri _ (fun m => D.a (1024 * t + 256 * s.val + m) l.val) R.tri l (fun i => R.a s i l) (fun m => R.a_le _ _)]
  refine Finset.sum_congr rfl fun j hj => congrArg (D.a · l.val) ?_
  omega

theorem qPos_apply (s : Fin 4) (i l : Fin 256) :
    qPos (bAt L s) (L.q s) (ix2 i l) = D.qp (16 * t + 4 * s.val + i.val / 64) (i.val % 64) l.val := by
  pointwise [qPos]
  rw [R.q, bAt_apply R, Seq.qp]
  exact congrArg (fun m => D.q m l.val * _ * _) (by omega)

theorem kNeg_apply (s : Fin 4) (i l : Fin 256) :
    kNeg (bAt L s) (L.k s) (ix2 i l) = D.kn (16 * t + 4 * s.val + i.val / 64) (i.val % 64) l.val := by
  pointwise [kNeg]
  rw [R.k, bAt_apply R, Seq.kn, zero_sub]
  exact congrArg (fun m => D.k m l.val * _) (by omega)

theorem kEnd_apply (s : Fin 4) (i l : Fin 256) :
    kEnd (bAt L s) (L.k s) (ix2 i l) = D.ke (16 * t + 4 * s.val + i.val / 64) (i.val % 64) l.val := by
  have e : kEnd (bAt L s) (L.k s) (ix2 i l)
      = L.k s (ix2 i l) * Ideal.exp (bAt L s (ix2 ⟨64 * (i.val / 64) + 63, by omega⟩ l) - bAt L s (ix2 i l)) := by
    pointwise [kEnd, rep64, lastRow]
    congr 3
    split
    · exact congrArg (fun r : Fin 256 => bAt L s (ix2 r l)) (Fin.ext (by simp only; omega))
    split
    · exact congrArg (fun r : Fin 256 => bAt L s (ix2 r l)) (Fin.ext (by simp only; omega))
    split
    · exact congrArg (fun r : Fin 256 => bAt L s (ix2 r l)) (Fin.ext (by simp only; omega))
    · exact congrArg (fun r : Fin 256 => bAt L s (ix2 r l)) (Fin.ext (by simp only; omega))
  rw [e, R.k, bAt_apply R, bAt_apply R, Seq.ke]
  simp only
  rw [show (64 * (i.val / 64) + 63) / 64 = i.val / 64 by omega, show (64 * (i.val / 64) + 63) % 64 = 63 by omega]
  exact congrArg (fun m => D.k m l.val * _) (by omega)

/-- The state at the head's own lanes. -/
theorem stateAt_apply (st0 : Vec Ideal S1x128x128 .f32) (h : Fin 4)
    (h0 : ∀ e x : Fin 128, x.val / 64 = h.val % 2 → st0 (ix3 0 e x) = D.st h.val (16 * t) e.val (x.val % 64)) :
    ∀ (n : ℕ), n ≤ 16 → ∀ e x : Fin 128, x.val / 64 = h.val % 2 →
      stateAt L st0 h n (ix2 e x) = D.st h.val (16 * t + n) e.val (x.val % 64) := by
  intro n
  induction n with
  | zero =>
    intro _ e x hx
    rw [Nat.add_zero, ← h0 e x hx]
    pointwise [stateAt]
  | succ n ih =>
    intro hn e x hx
    have ih' := ih (by omega) e x hx
    pointwise [stateAt, dec, lastRow, dState, vals]
    rw [ih', show 16 * t + (n + 1) = (16 * t + n) + 1 by omega]
    simp only [Seq.st]
    have hp : (part n).val = n / 4 := by simp only [part]; omega
    have hc : (chunk n).val = n % 4 := rfl
    have hl : 128 * (h.val / 2) + x.val = 64 * h.val + x.val % 64 := by omega
    congr 1
    · refine congrArg (fun u => _ * Ideal.exp u) ((bAt_apply R _ _ _).trans ?_)
      simp only [hp, hc, hl]
      congr 1 <;> omega
    · refine Finset.sum_congr rfl fun j _ => ?_
      rw [R.v, headOf_apply, if_pos hx, kEnd_apply R]
      simp only [hp, hc, hl]
      congr 2 <;> omega

/-- The scores within a chunk applied to its values. -/
theorem oIntra_apply (s h : Fin 4) (i : Fin 256) (e : Fin 128) :
    oIntra L.tri (headOf (qPos (bAt L s) (L.q s)) h) (kNeg (bAt L s) (L.k s)) (vals (L.v s h)) h (ix2 i e)
      = ∑ j : Fin 64, D.sc h.val (16 * t + 4 * s.val + i.val / 64) (i.val % 64) j.val
          * D.v (64 * (16 * t + 4 * s.val + i.val / 64) + j.val) (128 * h.val + e.val) := by
  pointwise [oIntra, vals]
  have hs : ∀ x : Fin 256, (∑ y : Fin 128, headOf (qPos (bAt L s) (L.q s)) h (ix2 i y)
        * kNeg (bAt L s) (L.k s) (ix2 x ⟨128 * (h.val / 2) + y.val, by omega⟩))
      = ∑ d : Fin 64, D.qp (16 * t + 4 * s.val + i.val / 64) (i.val % 64) (64 * h.val + d.val)
          * D.kn (16 * t + 4 * s.val + x.val / 64) (x.val % 64) (64 * h.val + d.val) := by
    intro x
    refine sum_head h _ (fun m => D.qp (16 * t + 4 * s.val + i.val / 64) (i.val % 64) m
          * D.kn (16 * t + 4 * s.val + x.val / 64) (x.val % 64) m) (fun y hy => ?_) (fun y hy => ?_)
    · rw [headOf_apply, if_neg hy, zero_mul]
    · rw [headOf_apply, if_pos hy, qPos_apply R, kNeg_apply R]
  simp only [R.tri, R.v]
  rw [Finset.sum_congr rfl fun x _ => congrArg (fun u => (if (0 : EReal) < _ then u else 0) * _) (hs x)]
  rw [sum_block _ (64 * (i.val / 64)) 64 (by omega)
    (fun j hj => by rw [if_neg (c := _ ∧ _) (by omega), if_neg (lt_irrefl _), zero_mul])]
  refine Finset.sum_congr rfl fun j _ => ?_
  simp only
  rw [show (64 * (i.val / 64) + j.val) / 64 = i.val / 64 by omega, show (64 * (i.val / 64) + j.val) % 64 = j.val by omega, Seq.sc]
  congr 1
  · by_cases hj : j.val ≤ i.val % 64
    · rw [if_pos (c := _ ∧ _) (by omega), if_pos zero_lt_one, if_pos hj]
    · rw [if_neg (c := _ ∧ _) (by omega), if_neg (lt_irrefl _), if_neg hj]
  · exact congrArg (D.v · _) (by omega)

/-- A chunk's queries against the state. -/
theorem interOf_apply (st0 : Vec Ideal S1x128x128 .f32) (s h c : Fin 4)
    (h0 : ∀ e x : Fin 128, x.val / 64 = h.val % 2 → st0 (ix3 0 e x) = D.st h.val (16 * t) e.val (x.val % 64))
    (i : Fin 64) (e : Fin 128) :
    interOf (headOf (qPos (bAt L s) (L.q s)) h) (stateAt L st0 h (4 * s.val + c.val)) c (ix2 i e)
      = ∑ d : Fin 64, D.qp (16 * t + 4 * s.val + c.val) i.val (64 * h.val + d.val)
          * D.st h.val (16 * t + 4 * s.val + c.val) e.val d.val := by
  pointwise [interOf]
  rw [sum_head h _ (fun m => D.qp (16 * t + 4 * s.val + c.val) i.val m
        * D.st h.val (16 * t + 4 * s.val + c.val) e.val (m - 64 * h.val)) (fun y hy => ?_) (fun y hy => ?_)]
  · exact Finset.sum_congr rfl fun d _ => by rw [Nat.add_sub_cancel_left]
  · rw [headOf_apply, if_neg hy, zero_mul]
  · rw [headOf_apply, if_pos hy, qPos_apply R, stateAt_apply R st0 h h0 _ (by omega) e y hy]
    simp only
    congr 2 <;> omega

/-- The attention's output of a part. -/
theorem oAt_apply (st0 : Vec Ideal S1x128x128 .f32) (s h : Fin 4)
    (h0 : ∀ e x : Fin 128, x.val / 64 = h.val % 2 → st0 (ix3 0 e x) = D.st h.val (16 * t) e.val (x.val % 64))
    (i : Fin 256) (e : Fin 128) :
    oAt L st0 s h (ix2 i e) = D.o h.val (16 * t + 4 * s.val + i.val / 64) (i.val % 64) e.val := by
  pointwise [oAt]
  rw [oIntra_apply R, Seq.o]
  congr 1
  have key : ∀ (c : Fin 4) (r : Fin 64), c.val = i.val / 64 → r.val = i.val % 64 →
      interOf (headOf (qPos (bAt L s) (L.q s)) h) (stateAt L st0 h (4 * s.val + c.val)) c (ix2 r e)
      = ∑ d : Fin 64, D.qp (16 * t + 4 * s.val + i.val / 64) (i.val % 64) (64 * h.val + d.val)
          * D.st h.val (16 * t + 4 * s.val + i.val / 64) e.val d.val := by
    intro c r hc hr
    rw [interOf_apply R st0 s h c h0, hc, hr]
  split
  · exact key 0 _ (by simp; omega) (by simp only; omega)
  split
  · exact key 1 _ (by simp; omega) (by simp only; omega)
  split
  · exact key 2 _ (by simp; omega) (by simp only; omega)
  · exact key 3 _ (by simp; omega) (by simp only; omega)

/-- What a part stores. -/
theorem outAt_apply (st0 : Vec Ideal S1x128x128 .f32) (s h : Fin 4)
    (h0 : ∀ e x : Fin 128, x.val / 64 = h.val % 2 → st0 (ix3 0 e x) = D.st h.val (16 * t) e.val (x.val % 64))
    (i : Fin 256) (e : Fin 128) :
    outAt L st0 s h (ix2 i e) = D.y h.val (16 * t + 4 * s.val + i.val / 64) (i.val % 64) e.val := by
  pointwise [outAt, gated, normed]
  simp only [oAt_apply R st0 s h h0, R.gn, R.r, Seq.y]
  rw [show 1024 * t + 256 * s.val + i.val = 64 * (16 * t + 4 * s.val + i.val / 64) + i.val % 64 by omega]

end Cert.KernelIdeal.Gla
end
-- ==== Proof.GlaLoads.lean ====
/-
  The loads of one run of the body and the stores it makes: in the output's block the sixteen parts of
  `Gla.outAt`, in the carried scratch the four heads' states of `Gla.stateOut`.
-/
module

public import proofs.«01_k».proof.Proof.GlaBody

@[expose] public section

set_option maxRecDepth 16384

noncomputable section

open Idealize.ShloMosaic Idealize.ShloMosaic.TcCoe Idealize.SL.Sem

namespace Cert.KernelIdeal.Gla

open Cert.KernelIdeal Cert.KernelIdeal.Gen

variable {F : FTy → Type} [FloatOps F]

theorem in_rows (s : Fin 4) (l : Fin 9) : ∀ a, (![256 * s.val, 128 * l.val] : Fin 2 → Nat) a + S256x128.size a ≤ S1024x1152.size a := by
  revert s l; decide
theorem in_pairs (s : Fin 4) (l : Fin 2) : ∀ a, (![256 * s.val, 256 * l.val] : Fin 2 → Nat) a + S256x256.size a ≤ S1024x1152.size a := by
  revert s l; decide
theorem in_vals (s l : Fin 4) : ∀ a, (![256 * s.val, 128 * l.val] : Fin 2 → Nat) a + S256x128.size a ≤ S1024x512.size a := by
  revert s l; decide
theorem in_st (h : Fin 4) : ∀ a, (![h.val, 0, 0] : Fin 3 → Nat) a + S1x128x128.size a ≤ S4x128x128.size a := by
  revert h; decide
theorem h4_9 (h : Fin 4) : 4 + h.val < 9 := by omega

/-- The loads of a run of the body on the blocks `x0 … x5`. -/
def loads (arg2 : Memref sig .tc .vmem S1024x1152 .f32) (harg2 : arg2.IsWhole) (arg3 : Memref sig .tc .vmem S1024x512 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x256 .bf16) (harg7 : arg7.IsWhole)
    (x0 : Vec F S1024x1152 .f32) (x1 : Vec F S1024x512 .bf16) (x2 : Vec F S128x256 .bf16) (x3 : Vec F S1x256 .f32) (x4 : Vec F S1x128 .f32) (x5 : Vec F S256x256 .bf16) : Loads F where
  glr s := View.readAt (Elt F) arg2.view (Rect.unit (s := S1024x1152) ![256 * s.val, 128 * 8] S256x128.size (in_rows s 8)).toLoadRect (harg2.unread x0)
  q s := View.readAt (Elt F) arg2.view (Rect.unit (s := S1024x1152) ![256 * s.val, 256 * 0] S256x256.size (in_pairs s 0)).toLoadRect (harg2.unread x0)
  k s := View.readAt (Elt F) arg2.view (Rect.unit (s := S1024x1152) ![256 * s.val, 256 * 1] S256x256.size (in_pairs s 1)).toLoadRect (harg2.unread x0)
  r s h := View.readAt (Elt F) arg2.view (Rect.unit (s := S1024x1152) ![256 * s.val, 128 * (4 + h.val)] S256x128.size (in_rows s ⟨4 + h.val, h4_9 h⟩)).toLoadRect (harg2.unread x0)
  v s h := View.readAt (Elt F) arg3.view (Rect.unit (s := S1024x512) ![256 * s.val, 128 * h.val] S256x128.size (in_vals s h)).toLoadRect (harg3.unread x1)
  wg := View.readAt (Elt F) arg4.view (Rect.unit (s := S128x256) ![0, 0] S128x256.size inb_S128x256_S128x256_0_0).toLoadRect (harg4.unread x2)
  bg := View.readAt (Elt F) arg5.view (Rect.unit (s := S1x256) ![0, 0] S1x256.size inb_S1x256_S1x256_0_0).toLoadRect (harg5.unread x3)
  gn := View.readAt (Elt F) arg6.view (Rect.unit (s := S1x128) ![0, 0] S1x128.size inb_S1x128_S1x128_0_0).toLoadRect (harg6.unread x4)
  tri := View.readAt (Elt F) arg7.view (Rect.unit (s := S256x256) ![0, 0] S256x256.size inb_S256x256_S256x256_0_0).toLoadRect (harg7.unread x5)

/-- The sixteen stores of the output's block, last first. -/
def outPieces (L : Loads F) (st : Fin 4 → Vec F S1x128x128 .f32) : List (View.Piece (Elt F) S1024x512 .bf16) :=
  [⟨Rect.unit ![768, 384] S256x128.size (in_vals 3 3), outAt L (st 3) 3 3⟩,
   ⟨Rect.unit ![768, 256] S256x128.size (in_vals 3 2), outAt L (st 2) 3 2⟩,
   ⟨Rect.unit ![768, 128] S256x128.size (in_vals 3 1), outAt L (st 1) 3 1⟩,
   ⟨Rect.unit ![768, 0] S256x128.size (in_vals 3 0), outAt L (st 0) 3 0⟩,
   ⟨Rect.unit ![512, 384] S256x128.size (in_vals 2 3), outAt L (st 3) 2 3⟩,
   ⟨Rect.unit ![512, 256] S256x128.size (in_vals 2 2), outAt L (st 2) 2 2⟩,
   ⟨Rect.unit ![512, 128] S256x128.size (in_vals 2 1), outAt L (st 1) 2 1⟩,
   ⟨Rect.unit ![512, 0] S256x128.size (in_vals 2 0), outAt L (st 0) 2 0⟩,
   ⟨Rect.unit ![256, 384] S256x128.size (in_vals 1 3), outAt L (st 3) 1 3⟩,
   ⟨Rect.unit ![256, 256] S256x128.size (in_vals 1 2), outAt L (st 2) 1 2⟩,
   ⟨Rect.unit ![256, 128] S256x128.size (in_vals 1 1), outAt L (st 1) 1 1⟩,
   ⟨Rect.unit ![256, 0] S256x128.size (in_vals 1 0), outAt L (st 0) 1 0⟩,
   ⟨Rect.unit ![0, 384] S256x128.size (in_vals 0 3), outAt L (st 3) 0 3⟩,
   ⟨Rect.unit ![0, 256] S256x128.size (in_vals 0 2), outAt L (st 2) 0 2⟩,
   ⟨Rect.unit ![0, 128] S256x128.size (in_vals 0 1), outAt L (st 1) 0 1⟩,
   ⟨Rect.unit ![0, 0] S256x128.size (in_vals 0 0), outAt L (st 0) 0 0⟩]

/-- The four stores of the scratch, last first. -/
def statePieces (L : Loads F) (st : Fin 4 → Vec F S1x128x128 .f32) : List (View.Piece (Elt F) S4x128x128 .f32) :=
  [⟨Rect.unit ![3, 0, 0] S1x128x128.size (in_st 3), stateOut L (st 3) 3⟩,
   ⟨Rect.unit ![2, 0, 0] S1x128x128.size (in_st 2), stateOut L (st 2) 2⟩,
   ⟨Rect.unit ![1, 0, 0] S1x128x128.size (in_st 1), stateOut L (st 1) 1⟩,
   ⟨Rect.unit ![0, 0, 0] S1x128x128.size (in_st 0), stateOut L (st 0) 0⟩]

/-- The states a run that carries the scratch `xs0` loads. -/
def stB (arg9 : Memref sig .tc .vmem S4x128x128 .f32) (harg9 : arg9.IsWhole) (xs0 : Vec F S4x128x128 .f32) (h : Fin 4) : Vec F S1x128x128 .f32 :=
  View.readAt (Elt F) arg9.view (Rect.unit (s := S4x128x128) ![h.val, 0, 0] S1x128x128.size (in_st h)).toLoadRect (harg9.unread xs0)

/-- The scratch filled with zero. -/
def zeroPiece : View.Piece (Elt F) S4x128x128 .f32 :=
  ⟨Rect.unit ![0, 0, 0] S4x128x128.size inb_S4x128x128_S4x128x128_0_0_0,
    shapeCast S4x128x128 (broadcast S4x128x128 (Scalar.ofBits .f32 0x00000000#32) : FVec F S4x128x128 .f32) shapeCasts_S4x128x128_S4x128x128⟩

/-- Head `h`'s store of its state. -/
def stPiece (L : Loads F) (st : Vec F S1x128x128 .f32) (h : Fin 4) : View.Piece (Elt F) S4x128x128 .f32 :=
  ⟨Rect.unit ![h.val, 0, 0] S1x128x128.size (in_st h), stateOut L st h⟩

/-- The states a run that has just filled the scratch with zero loads: each read past the states stored before it. -/
def stA0 (arg9 : Memref sig .tc .vmem S4x128x128 .f32) : Vec F S1x128x128 .f32 :=
  arg9.view.readCov [zeroPiece] (Rect.unit (s := S4x128x128) ![0, 0, 0] S1x128x128.size (in_st 0)).toLoadRect
def stA1 (L : Loads F) (arg9 : Memref sig .tc .vmem S4x128x128 .f32) : Vec F S1x128x128 .f32 :=
  arg9.view.readCov [stPiece L (stA0 arg9) 0, zeroPiece]
    (Rect.unit (s := S4x128x128) ![1, 0, 0] S1x128x128.size (in_st 1)).toLoadRect
def stA2 (L : Loads F) (arg9 : Memref sig .tc .vmem S4x128x128 .f32) : Vec F S1x128x128 .f32 :=
  arg9.view.readCov [stPiece L (stA1 L arg9) 1,
    stPiece L (stA0 arg9) 0, zeroPiece]
    (Rect.unit (s := S4x128x128) ![2, 0, 0] S1x128x128.size (in_st 2)).toLoadRect
def stA3 (L : Loads F) (arg9 : Memref sig .tc .vmem S4x128x128 .f32) : Vec F S1x128x128 .f32 :=
  arg9.view.readCov [stPiece L (stA2 L arg9) 2,
    stPiece L (stA1 L arg9) 1,
    stPiece L (stA0 arg9) 0, zeroPiece]
    (Rect.unit (s := S4x128x128) ![3, 0, 0] S1x128x128.size (in_st 3)).toLoadRect
def stA (L : Loads F) (arg9 : Memref sig .tc .vmem S4x128x128 .f32) : Fin 4 → Vec F S1x128x128 .f32
  | 0 => stA0 arg9 | 1 => stA1 L arg9 | 2 => stA2 L arg9 | 3 => stA3 L arg9

end Cert.KernelIdeal.Gla

end
-- ==== Proof.GlaPieces.lean ====
/-
  The stores of one run of the body are those of `Gla.outPieces` and `Gla.statePieces`.
-/
module

public import proofs.«01_k».proof.Proof.GlaLoads

@[expose] public section

set_option maxRecDepth 16384

noncomputable section

open Idealize.ShloMosaic Idealize.ShloMosaic.TcCoe Idealize.SL.Sem

namespace Cert.KernelIdeal.Gla

open Cert.KernelIdeal Cert.KernelIdeal.Gen

variable {F : FTy → Type} [FloatOps F]

theorem pieces_B (c : Dev nD) (i : grid0.Coords) (arg2 : Memref sig .tc .vmem S1024x1152 .f32) (harg2 : arg2.IsWhole) (arg3 : Memref sig .tc .vmem S1024x512 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x256 .bf16) (harg7 : arg7.IsWhole) (arg8 : Memref sig .tc .vmem S1024x512 .bf16) (harg8 : arg8.IsWhole) (arg9 : Memref sig .tc .vmem S4x128x128 .f32) (harg9 : arg9.IsWhole) (hc0 : ¬cond0_0 i)
    (x0 : Vec F S1024x1152 .f32) (x1 : Vec F S1024x512 .bf16) (x2 : Vec F S128x256 .bf16) (x3 : Vec F S1x256 .f32) (x4 : Vec F S1x128 .f32) (x5 : Vec F S256x256 .bf16) (xs0 : Vec F S4x128x128 .f32) :
    (kernelRun0_B c i arg2 harg2 arg3 harg3 arg4 harg4 arg5 harg5 arg6 harg6 arg7 harg7 arg8 harg8 arg9 harg9 hc0 x0 x1 x2 x3 x4 x5 xs0).1 = outPieces (loads arg2 harg2 arg3 harg3 arg4 harg4 arg5 harg5 arg6 harg6 arg7 harg7 x0 x1 x2 x3 x4 x5) (stB arg9 harg9 xs0) := by
  sl_kernel_rfl

theorem spieces_B (c : Dev nD) (i : grid0.Coords) (arg2 : Memref sig .tc .vmem S1024x1152 .f32) (harg2 : arg2.IsWhole) (arg3 : Memref sig .tc .vmem S1024x512 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x256 .bf16) (harg7 : arg7.IsWhole) (arg8 : Memref sig .tc .vmem S1024x512 .bf16) (harg8 : arg8.IsWhole) (arg9 : Memref sig .tc .vmem S4x128x128 .f32) (harg9 : arg9.IsWhole) (hc0 : ¬cond0_0 i)
    (x0 : Vec F S1024x1152 .f32) (x1 : Vec F S1024x512 .bf16) (x2 : Vec F S128x256 .bf16) (x3 : Vec F S1x256 .f32) (x4 : Vec F S1x128 .f32) (x5 : Vec F S256x256 .bf16) (xs0 : Vec F S4x128x128 .f32) :
    (kernelRun0_B c i arg2 harg2 arg3 harg3 arg4 harg4 arg5 harg5 arg6 harg6 arg7 harg7 arg8 harg8 arg9 harg9 hc0 x0 x1 x2 x3 x4 x5 xs0).2.1 = statePieces (loads arg2 harg2 arg3 harg3 arg4 harg4 arg5 harg5 arg6 harg6 arg7 harg7 x0 x1 x2 x3 x4 x5) (stB arg9 harg9 xs0) := by
  sl_kernel_rfl

theorem pieces_A (c : Dev nD) (i : grid0.Coords) (arg2 : Memref sig .tc .vmem S1024x1152 .f32) (harg2 : arg2.IsWhole) (arg3 : Memref sig .tc .vmem S1024x512 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x256 .bf16) (harg7 : arg7.IsWhole) (arg8 : Memref sig .tc .vmem S1024x512 .bf16) (harg8 : arg8.IsWhole) (arg9 : Memref sig .tc .vmem S4x128x128 .f32) (harg9 : arg9.IsWhole) (hc0 : cond0_0 i)
    (x0 : Vec F S1024x1152 .f32) (x1 : Vec F S1024x512 .bf16) (x2 : Vec F S128x256 .bf16) (x3 : Vec F S1x256 .f32) (x4 : Vec F S1x128 .f32) (x5 : Vec F S256x256 .bf16) :
    (kernelRun0_A c i arg2 harg2 arg3 harg3 arg4 harg4 arg5 harg5 arg6 harg6 arg7 harg7 arg8 harg8 arg9 harg9 hc0 x0 x1 x2 x3 x4 x5).1 = outPieces (loads arg2 harg2 arg3 harg3 arg4 harg4 arg5 harg5 arg6 harg6 arg7 harg7 x0 x1 x2 x3 x4 x5) (stA (loads arg2 harg2 arg3 harg3 arg4 harg4 arg5 harg5 arg6 harg6 arg7 harg7 x0 x1 x2 x3 x4 x5) arg9) := by
  sl_kernel_rfl

theorem spieces_A (c : Dev nD) (i : grid0.Coords) (arg2 : Memref sig .tc .vmem S1024x1152 .f32) (harg2 : arg2.IsWhole) (arg3 : Memref sig .tc .vmem S1024x512 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x256 .bf16) (harg7 : arg7.IsWhole) (arg8 : Memref sig .tc .vmem S1024x512 .bf16) (harg8 : arg8.IsWhole) (arg9 : Memref sig .tc .vmem S4x128x128 .f32) (harg9 : arg9.IsWhole) (hc0 : cond0_0 i)
    (x0 : Vec F S1024x1152 .f32) (x1 : Vec F S1024x512 .bf16) (x2 : Vec F S128x256 .bf16) (x3 : Vec F S1x256 .f32) (x4 : Vec F S1x128 .f32) (x5 : Vec F S256x256 .bf16) :
    (kernelRun0_A c i arg2 harg2 arg3 harg3 arg4 harg4 arg5 harg5 arg6 harg6 arg7 harg7 arg8 harg8 arg9 harg9 hc0 x0 x1 x2 x3 x4 x5).2.1 = statePieces (loads arg2 harg2 arg3 harg3 arg4 harg4 arg5 harg5 arg6 harg6 arg7 harg7 x0 x1 x2 x3 x4 x5) (stA (loads arg2 harg2 arg3 harg3 arg4 harg4 arg5 harg5 arg6 harg6 arg7 harg7 x0 x1 x2 x3 x4 x5) arg9) ++ [zeroPiece] := by
  sl_kernel_rfl

end Cert.KernelIdeal.Gla

end
-- ==== Proof.GlaPoint.lean ====
/-
  One grid point: what it leaves in the output's block and in the carried states, index by index, when
  its blocks hold the tile's rows of the sequence and the states before it are the sequence's.
-/
module

public import proofs.«01_k».proof.Proof.GlaRead
public import proofs.«01_k».proof.Proof.GlaPieces
public import Idealize.ShloMosaic.Lib.Pipeline.ReadBack

@[expose] public section

set_option maxRecDepth 16384

noncomputable section

open Idealize.ShloMosaic Idealize.ShloMosaic.TcCoe Idealize.SL.Sem

namespace Cert.KernelIdeal.Gla

open Cert.KernelIdeal Cert.KernelIdeal.Gen Cert.Gla

/-- The blocks of tile `t` hold the sequence `D`. -/
structure BlockReads (x0 : Vec Ideal S1024x1152 .f32) (x1 : Vec Ideal S1024x512 .bf16) (x2 : Vec Ideal S128x256 .bf16) (x3 : Vec Ideal S1x256 .f32) (x4 : Vec Ideal S1x128 .f32) (x5 : Vec Ideal S256x256 .bf16) (D : Seq) (t : ℕ) : Prop where
  tri : ∀ i j : Fin 256, x5 (ix2 i j) = if i.val / 64 = j.val / 64 ∧ j.val ≤ i.val then (1 : EReal) else 0
  a : ∀ (i : Fin 1024) (l : Fin 256), logDecay ((∑ x : Fin 128, x0 (ix2 i ⟨1024 + x.val, by omega⟩) * x2 (ix2 x l)) + x3 (ix2 0 l))
    = D.a (1024 * t + i.val) l.val
  a_le : ∀ m l, D.a m l ≤ 0
  q : ∀ (i : Fin 1024) (l : Fin 256), x0 (ix2 i ⟨l.val, by omega⟩) = D.q (1024 * t + i.val) l.val
  k : ∀ (i : Fin 1024) (l : Fin 256), x0 (ix2 i ⟨256 + l.val, by omega⟩) = D.k (1024 * t + i.val) l.val
  r : ∀ (i : Fin 1024) (l : Fin 512), x0 (ix2 i ⟨512 + l.val, by omega⟩) = D.r (1024 * t + i.val) l.val
  v : ∀ (i : Fin 1024) (l : Fin 512), x1 (ix2 i l) = D.v (1024 * t + i.val) l.val
  gn : ∀ e : Fin 128, x4 (ix2 0 e) = D.gn e.val

/-- The carried states are the sequence's before chunk `n`, on each head's own lanes. -/
def StateIs (xs : Vec Ideal S4x128x128 .f32) (D : Seq) (n : ℕ) : Prop :=
  ∀ (h : Fin 4) (e x : Fin 128), x.val / 64 = h.val % 2 → xs (ix3 h e x) = D.st h.val n e.val (x.val % 64)

variable (arg2 : Memref sig .tc .vmem S1024x1152 .f32) (harg2 : arg2.IsWhole) (arg3 : Memref sig .tc .vmem S1024x512 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S256x256 .bf16) (harg7 : arg7.IsWhole)
  (x0 : Vec Ideal S1024x1152 .f32) (x1 : Vec Ideal S1024x512 .bf16) (x2 : Vec Ideal S128x256 .bf16) (x3 : Vec Ideal S1x256 .f32) (x4 : Vec Ideal S1x128 .f32) (x5 : Vec Ideal S256x256 .bf16) {D : Seq} {t : ℕ}

theorem reads_of (B : BlockReads x0 x1 x2 x3 x4 x5 D t) :
    Reads (loads arg2 harg2 arg3 harg3 arg4 harg4 arg5 harg5 arg6 harg6 arg7 harg7 x0 x1 x2 x3 x4 x5) D t where
  tri i j := by
    rw [← B.tri i j]
    simp only [loads, View.readAt_eq_ld, harg7.read_unread]
    pointwise []
  a s i l := by
    rw [logA_apply, Nat.add_assoc, ← B.a ⟨256 * s.val + i.val, by omega⟩ l]
    simp only [loads, View.readAt_eq_ld, harg2.read_unread, harg4.read_unread, harg5.read_unread]
    pointwise []
  a_le := B.a_le
  q s i l := by
    rw [Nat.add_assoc, ← B.q ⟨256 * s.val + i.val, by omega⟩ l]
    simp only [loads, View.readAt_eq_ld, harg2.read_unread]
    pointwise []
  k s i l := by
    rw [Nat.add_assoc, ← B.k ⟨256 * s.val + i.val, by omega⟩ l]
    simp only [loads, View.readAt_eq_ld, harg2.read_unread]
    pointwise []
  v s h i e := by
    rw [Nat.add_assoc, ← B.v ⟨256 * s.val + i.val, by omega⟩ ⟨128 * h.val + e.val, by omega⟩]
    simp only [loads, View.readAt_eq_ld, harg3.read_unread]
    pointwise []
  r s h i e := by
    rw [Nat.add_assoc, ← B.r ⟨256 * s.val + i.val, by omega⟩ ⟨128 * h.val + e.val, by omega⟩]
    simp only [loads, View.readAt_eq_ld, harg2.read_unread]
    pointwise []
    exact congrArg (fun m : Fin 1152 => x0 (ix2 _ m)) (Fin.ext (by simp only; omega))
  gn e := by
    rw [← B.gn e]
    simp only [loads, View.readAt_eq_ld, harg6.read_unread]
    pointwise []

/-- The states a body loads before its stores, as the sequence's. -/
def LoadsState (st : Fin 4 → Vec Ideal S1x128x128 .f32) (D : Seq) (n : ℕ) : Prop :=
  ∀ (h : Fin 4) (e x : Fin 128), x.val / 64 = h.val % 2 → st h (ix3 0 e x) = D.st h.val n e.val (x.val % 64)

/-- The output's block after the sixteen stores. -/
theorem canon_out {L : Loads Ideal} (R : Reads L D t) (st : Fin 4 → Vec Ideal S1x128x128 .f32) (hst : LoadsState st D (16 * t))
    (r : Fin 1024) (l : Fin 512) (hc : ∃ p ∈ outPieces L st, (ix2 r l : S1024x512.Idx) ∈ p.1.set) :
    View.canon (outPieces L st) (ix2 r l) = D.y (l.val / 128) (16 * t + r.val / 64) (r.val % 64) (l.val % 128) := by
  have hp : View.PiecesOf (fun y : S1024x512.Idx => D.y ((y 1).val / 128) (16 * t + (y 0).val / 64) ((y 0).val % 64) ((y 1).val % 128))
      (outPieces L st) := by
    have key : ∀ (s h : Fin 4) (x : S256x128.Idx), outAt L (st h) s h x
        = D.y ((128 * h.val + 1 * (x 1).val) / 128) (16 * t + (256 * s.val + 1 * (x 0).val) / 64) ((256 * s.val + 1 * (x 0).val) % 64)
          ((128 * h.val + 1 * (x 1).val) % 128) := by
      intro s h x
      idx_vars x
      rw [outAt_apply R (st h) s h (hst h)]
      pointwise []
      congr 1 <;> omega
    exact ⟨key 3 3, key 3 2, key 3 1, key 3 0, key 2 3, key 2 2, key 2 1, key 2 0,
      key 1 3, key 1 2, key 1 1, key 1 0, key 0 3, key 0 2, key 0 1, key 0 0, trivial⟩
  exact View.canon_apply_of_pieces (fun y : S1024x512.Idx => D.y ((y 1).val / 128) (16 * t + (y 0).val / 64) ((y 0).val % 64) ((y 1).val % 128)) _ hp.mem _ hc

/-- The carried states after the four stores, over whatever stores came before. -/
theorem canon_state {L : Loads Ideal} (R : Reads L D t) (st : Fin 4 → Vec Ideal S1x128x128 .f32) (hst : LoadsState st D (16 * t))
    (L' : List (View.Piece (Elt Ideal) S4x128x128 .f32))
    (hc : ∀ y : S4x128x128.Idx, ∃ p ∈ statePieces L st, y ∈ p.1.set) :
    StateIs (View.canon (statePieces L st ++ L')) D (16 * (t + 1)) := by
  intro h e x hx
  have hp : View.PiecesOf (fun y : S4x128x128.Idx => stateAt L (st (y 0)) (y 0) 16 (ix2 (y 1) (y 2))) (statePieces L st) := by
    have key : ∀ (h : Fin 4) (x : S1x128x128.Idx) (y : S4x128x128.Idx), (y 0) = h → (y 1).val = (x 1).val → (y 2).val = (x 2).val →
        stateOut L (st h) h x = stateAt L (st (y 0)) (y 0) 16 (ix2 (y 1) (y 2)) := by
      intro h x y h0 h1 h2
      idx_vars x
      idx_vars y
      obtain rfl : y0 = h := h0
      obtain rfl : y1 = x1 := Fin.ext h1
      obtain rfl : y2 = x2 := Fin.ext h2
      pointwise [stateOut]
    have z : ∀ n : ℕ, 0 + 1 * n = n := fun n => by omega
    exact ⟨fun x => key 3 x _ (Fin.ext (by have hx : (x 0).val < 1 := (x 0).isLt; show 3 + 1 * (x 0).val = 3; omega)) (z _) (z _),
      fun x => key 2 x _ (Fin.ext (by have hx : (x 0).val < 1 := (x 0).isLt; show 2 + 1 * (x 0).val = 2; omega)) (z _) (z _),
      fun x => key 1 x _ (Fin.ext (by have hx : (x 0).val < 1 := (x 0).isLt; show 1 + 1 * (x 0).val = 1; omega)) (z _) (z _),
      fun x => key 0 x _ (Fin.ext (by have hx : (x 0).val < 1 := (x 0).isLt; show 0 + 1 * (x 0).val = 0; omega)) (z _) (z _), trivial⟩
  rw [View.canon_append_of_piecesOf _ L' _ hp (ix3 h e x) (hc _)]
  exact (stateAt_apply R (st h) h (hst h) 16 le_rfl e x hx).trans (congrArg (fun n => D.st h.val n e.val (x.val % 64)) (by omega))

/-- The four stores cover the states. -/
theorem state_cover (L : Loads Ideal) (st : Fin 4 → Vec Ideal S1x128x128 .f32) (y : S4x128x128.Idx) :
    ∃ p ∈ statePieces L st, y ∈ p.1.set :=
  View.cover_of_tiledL (statePieces L st) S1x128x128.size (by sl_kernel_rfl) y

/-- The sixteen stores cover the output's block. -/
theorem out_cover (L : Loads Ideal) (st : Fin 4 → Vec Ideal S1x128x128 .f32) (y : S1024x512.Idx) :
    ∃ p ∈ outPieces L st, y ∈ p.1.set :=
  View.cover_of_tiledL (outPieces L st) S256x128.size (by sl_kernel_rfl) y

/-- The states loaded from the carried scratch. -/
theorem stB_is (arg9 : Memref sig .tc .vmem S4x128x128 .f32) (harg9 : arg9.IsWhole) (xs : Vec Ideal S4x128x128 .f32) (n : ℕ)
    (h : StateIs xs D n) : LoadsState (stB arg9 harg9 xs) D n := by
  intro h' e x hx
  rw [← h h' e x hx]
  simp only [stB, View.readAt_eq_ld, harg9.read_unread]
  pointwise []

/-- The states loaded after the fill with zero are zero. -/
theorem stA_zero (L : Loads Ideal) (arg9 : Memref sig .tc .vmem S4x128x128 .f32) (h : Fin 4) (e x : Fin 128) :
    stA L arg9 h (ix3 0 e x) = (0 : EReal) := by
  have key : ∀ h : Fin 4, stA L arg9 h
      = View.ld (shapeCast S4x128x128 (broadcast S4x128x128 (Scalar.ofBits .f32 0x00000000#32) : FVec Ideal S4x128x128 .f32) shapeCasts_S4x128x128_S4x128x128)
          (Rect.unit (s := S4x128x128) ![h.val, 0, 0] S1x128x128.size (in_st h)) := by
    intro h
    match h with
    | 0 => exact View.readCov_fill _ _ _ _ _ (by decide)
    | 1 =>
      refine (View.readCov_skip _ _ _ _ _ (by decide)).trans ?_
      exact View.readCov_fill _ _ _ _ _ (by decide)
    | 2 =>
      refine (View.readCov_skip _ _ _ _ _ (by decide)).trans ?_
      refine (View.readCov_skip _ _ _ _ _ (by decide)).trans ?_
      exact View.readCov_fill _ _ _ _ _ (by decide)
    | 3 =>
      refine (View.readCov_skip _ _ _ _ _ (by decide)).trans ?_
      refine (View.readCov_skip _ _ _ _ _ (by decide)).trans ?_
      refine (View.readCov_skip _ _ _ _ _ (by decide)).trans ?_
      exact View.readCov_fill _ _ _ _ _ (by decide)
  rw [key]
  pointwise []

theorem stA_is (L : Loads Ideal) (arg9 : Memref sig .tc .vmem S4x128x128 .f32) : LoadsState (stA L arg9) D 0 := by
  intro h e x _
  rw [stA_zero]
  rfl

variable (c : Dev nD) (i : grid0.Coords) (arg8 : Memref sig .tc .vmem S1024x512 .bf16) (harg8 : arg8.IsWhole) (arg9 : Memref sig .tc .vmem S4x128x128 .f32) (harg9 : arg9.IsWhole)

theorem out_B (hc0 : ¬cond0_0 i) (B : BlockReads x0 x1 x2 x3 x4 x5 D t) (xs0 : Vec Ideal S4x128x128 .f32) (hs : StateIs xs0 D (16 * t)) (r : Fin 1024) (l : Fin 512) :
    out0_B_6 c i arg2 harg2 arg3 harg3 arg4 harg4 arg5 harg5 arg6 harg6 arg7 harg7 arg8 harg8 arg9 harg9 hc0 x0 x1 x2 x3 x4 x5 xs0 (ix2 r l)
      = D.y (l.val / 128) (16 * t + r.val / 64) (r.val % 64) (l.val % 128) := by
  rw [out0_B_6, View.read_writes_junk_eq_canon, pieces_B]
  exact canon_out (reads_of _ _ _ _ _ _ _ _ _ _ _ _ _ _ _ _ _ _ B) _ (stB_is _ _ _ _ hs) r l (out_cover _ _ _)

theorem sout_B (hc0 : ¬cond0_0 i) (B : BlockReads x0 x1 x2 x3 x4 x5 D t) (xs0 : Vec Ideal S4x128x128 .f32) (hs : StateIs xs0 D (16 * t)) :
    StateIs (sout0_B_0 c i arg2 harg2 arg3 harg3 arg4 harg4 arg5 harg5 arg6 harg6 arg7 harg7 arg8 harg8 arg9 harg9 hc0 x0 x1 x2 x3 x4 x5 xs0) D (16 * (t + 1)) := by
  rw [sout0_B_0, View.read_writes_junk_eq_canon, spieces_B, ← List.append_nil (statePieces _ _)]
  exact canon_state (reads_of _ _ _ _ _ _ _ _ _ _ _ _ _ _ _ _ _ _ B) _ (stB_is _ _ _ _ hs) [] (state_cover _ _)

theorem out_A (hc0 : cond0_0 i) (B : BlockReads x0 x1 x2 x3 x4 x5 D 0) (r : Fin 1024) (l : Fin 512) :
    out0_A_6 c i arg2 harg2 arg3 harg3 arg4 harg4 arg5 harg5 arg6 harg6 arg7 harg7 arg8 harg8 arg9 harg9 hc0 x0 x1 x2 x3 x4 x5 (ix2 r l)
      = D.y (l.val / 128) (16 * 0 + r.val / 64) (r.val % 64) (l.val % 128) := by
  rw [out0_A_6, View.read_writes_junk_eq_canon, pieces_A]
  exact canon_out (reads_of _ _ _ _ _ _ _ _ _ _ _ _ _ _ _ _ _ _ B) _ (stA_is _ _) r l (out_cover _ _ _)

theorem sout_A (hc0 : cond0_0 i) (B : BlockReads x0 x1 x2 x3 x4 x5 D 0) :
    StateIs (sout0_A_0 c i arg2 harg2 arg3 harg3 arg4 harg4 arg5 harg5 arg6 harg6 arg7 harg7 arg8 harg8 arg9 harg9 hc0 x0 x1 x2 x3 x4 x5) D (16 * (0 + 1)) := by
  rw [sout0_A_0, View.read_writes_junk_eq_canon, spieces_A]
  exact canon_state (reads_of _ _ _ _ _ _ _ _ _ _ _ _ _ _ _ _ _ _ B) _ (stA_is _ _) _ (state_cover _ _)

end Cert.KernelIdeal.Gla

end
-- ==== Proof.GlaEntry.lean ====
/-
  The arrays the gated linear attention call is entered with, from the arguments, and the blocks a grid
  point reads of them.
-/
module

public import proofs.«01_k».proof.Proof.GlaPoint
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem

namespace Cert.KernelIdeal.Gla

open Cert.KernelIdeal Cert.KernelIdeal.Gen Cert.Gla

variable (m : (ℓ : Loc nD τ sig) → Buf (Elt Ideal) ℓ) (c : Dev nD)

/-- The call's arguments: the queries. -/
abbrev A0 : (⟨3, ![8, 4096, 256]⟩ : Shape).Idx → EReal := m ((c : Thread nD τ).loc main_arg0)

/-- The call's arguments: the keys. -/
abbrev A1 : (⟨3, ![8, 4096, 256]⟩ : Shape).Idx → EReal := m ((c : Thread nD τ).loc main_arg1)

/-- The call's arguments: the values. -/
abbrev A2 : (⟨3, ![8, 4096, 512]⟩ : Shape).Idx → EReal := m ((c : Thread nD τ).loc main_arg2)

/-- The call's arguments: the output gates. -/
abbrev A3 : (⟨3, ![8, 4096, 512]⟩ : Shape).Idx → EReal := m ((c : Thread nD τ).loc main_arg3)

/-- The call's arguments: the decay gate's input. -/
abbrev A4 : (⟨3, ![8, 4096, 16]⟩ : Shape).Idx → EReal := m ((c : Thread nD τ).loc main_arg4)

/-- The call's arguments: the decay gate's weight. -/
abbrev A5 : (⟨2, ![16, 256]⟩ : Shape).Idx → EReal := m ((c : Thread nD τ).loc main_arg5)

/-- The call's arguments: the decay gate's bias. -/
abbrev A6 : (⟨1, ![256]⟩ : Shape).Idx → EReal := m ((c : Thread nD τ).loc main_arg6)

/-- The call's arguments: the norm's weight. -/
abbrev A7 : (⟨1, ![128]⟩ : Shape).Idx → EReal := m ((c : Thread nD τ).loc main_arg7)

/-- Sequence `B` of the call's arguments. -/
def seq (B : Fin 8) : Seq :=
  Seq.ofArrays (A0 m c) (A1 m c) (A2 m c)
    (A3 m c) (A4 m c) (A5 m c)
    (A6 m c) (A7 m c) B

/-- Two places with equal coordinates are one. -/
theorem ix3_congr {a b d : ℕ} {x x' : Fin a} {y y' : Fin b} {z z' : Fin d} (hx : x.val = x'.val) (hy : y.val = y'.val) (hz : z.val = z'.val) :
    ix3 x y z = ix3 x' y' z' := by
  rw [Fin.ext hx, Fin.ext hy, Fin.ext hz]

/-! ## The blocks are rows of the arrays -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (t : Fin cfg0.N) (r : Fin 1024) (l : Fin 1152) :
    iblk m c 0 t (ix2 r l) = V m c main_v2 (ix2 ⟨1024 * t.val + r.val, by have := lt_of_lt_of_eq t.isLt N_0; omega⟩ l) := by
  have e := idx0 t
  refine congrArg (V m c main_v2) (funext fun a => Fin.ext ?_)
  match a with
  | ⟨0, _⟩ => show win0_0.index t (0 : Fin 2) * 1024 + 1 * r.val = 1024 * t.val + r.val; omega
  | ⟨1, _⟩ => show win0_0.index t (1 : Fin 2) * 1152 + 1 * l.val = l.val; omega

theorem blk1 (t : Fin cfg0.N) (r : Fin 1024) (l : Fin 512) :
    iblk m c 1 t (ix2 r l) = V m c main_v6 (ix2 ⟨1024 * t.val + r.val, by have := lt_of_lt_of_eq t.isLt N_0; omega⟩ l) := by
  have e := idx1 t
  refine congrArg (V m c main_v6) (funext fun a => Fin.ext ?_)
  match a with
  | ⟨0, _⟩ => show win0_1.index t (0 : Fin 2) * 1024 + 1 * r.val = 1024 * t.val + r.val; omega
  | ⟨1, _⟩ => show win0_1.index t (1 : Fin 2) * 512 + 1 * l.val = l.val; omega

theorem blk2 (t : Fin cfg0.N) (r : Fin 128) (l : Fin 256) : iblk m c 2 t (ix2 r l) = V m c main_v4 (ix2 r l) := by
  have e := idx2 t
  refine congrArg (V m c main_v4) (funext fun a => Fin.ext ?_)
  match a with
  | ⟨0, _⟩ => show win0_2.index t (0 : Fin 2) * 128 + 1 * r.val = r.val; omega
  | ⟨1, _⟩ => show win0_2.index t (1 : Fin 2) * 256 + 1 * l.val = l.val; omega

theorem blk3 (t : Fin cfg0.N) (r : Fin 1) (l : Fin 256) : iblk m c 3 t (ix2 r l) = V m c main_v7 (ix2 r l) := by
  have e := idx3 t
  refine congrArg (V m c main_v7) (funext fun a => Fin.ext ?_)
  match a with
  | ⟨0, _⟩ => show win0_3.index t (0 : Fin 2) * 1 + 1 * r.val = r.val; omega
  | ⟨1, _⟩ => show win0_3.index t (1 : Fin 2) * 256 + 1 * l.val = l.val; omega

theorem blk4 (t : Fin cfg0.N) (r : Fin 1) (l : Fin 128) : iblk m c 4 t (ix2 r l) = V m c main_v8 (ix2 r l) := by
  have e := idx4 t
  refine congrArg (V m c main_v8) (funext fun a => Fin.ext ?_)
  match a with
  | ⟨0, _⟩ => show win0_4.index t (0 : Fin 2) * 1 + 1 * r.val = r.val; omega
  | ⟨1, _⟩ => show win0_4.index t (1 : Fin 2) * 128 + 1 * l.val = l.val; omega

theorem blk5 (t : Fin cfg0.N) (r : Fin 256) (l : Fin 256) : iblk m c 5 t (ix2 r l) = V m c main_v17 (ix2 r l) := by
  have e := idx5 t
  refine congrArg (V m c main_v17) (funext fun a => Fin.ext ?_)
  match a with
  | ⟨0, _⟩ => show win0_5.index t (0 : Fin 2) * 256 + 1 * r.val = r.val; omega
  | ⟨1, _⟩ => show win0_5.index t (1 : Fin 2) * 256 + 1 * l.val = l.val; omega

/-! ## The arrays, from the arguments -/

theorem zero_word : FloatOps.sitofp (F := Ideal) FTy.f32 (0#32) = (0 : EReal) := by
  show (((0#32 : BitVec 32).toInt : ℝ) : EReal) = 0
  simp

/-- Lane `l` of row `i` of the wide input: a query, a key, an output gate, a gate input, or zero. -/
def inOf (i : Fin 32768) (l : Fin 1152) : EReal :=
  if h : l.val < 256 then A0 m c (ix3 ⟨i.val / 4096, by omega⟩ ⟨i.val % 4096, by omega⟩ ⟨l.val, h⟩)
  else if h : l.val - 256 < 256 then A1 m c (ix3 ⟨i.val / 4096, by omega⟩ ⟨i.val % 4096, by omega⟩ ⟨l.val - 256, h⟩)
  else if h : l.val - 256 - 256 < 512 then A3 m c (ix3 ⟨i.val / 4096, by omega⟩ ⟨i.val % 4096, by omega⟩ ⟨l.val - 256 - 256, h⟩)
  else if h : i.val / 4096 < 8 ∧ i.val % 4096 < 4096 ∧ l.val - 256 - 256 - 512 < 16 then
    A4 m c (ix3 ⟨i.val / 4096, h.1⟩ ⟨i.val % 4096, h.2.1⟩ ⟨l.val - 256 - 256 - 512, h.2.2⟩)
  else FloatOps.sitofp (F := Ideal) FTy.f32 (0#32)

theorem in_apply (i : Fin 32768) (l : Fin 1152) : V m c main_v2 (ix2 i l) = inOf m c i l := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_at
  after_reads_at
  rfl

theorem inOf_q (i : Fin 32768) (l : Fin 1152) (h : l.val < 256) :
    inOf m c i l = A0 m c (ix3 ⟨i.val / 4096, by omega⟩ ⟨i.val % 4096, by omega⟩ ⟨l.val, h⟩) :=
  dif_pos h

theorem inOf_k (i : Fin 32768) (l : Fin 1152) (h0 : ¬l.val < 256) (h : l.val - 256 < 256) :
    inOf m c i l = A1 m c (ix3 ⟨i.val / 4096, by omega⟩ ⟨i.val % 4096, by omega⟩ ⟨l.val - 256, h⟩) :=
  (dif_neg h0).trans (dif_pos h)

theorem inOf_r (i : Fin 32768) (l : Fin 1152) (h0 : ¬l.val < 256) (h1 : ¬l.val - 256 < 256) (h : l.val - 256 - 256 < 512) :
    inOf m c i l = A3 m c (ix3 ⟨i.val / 4096, by omega⟩ ⟨i.val % 4096, by omega⟩ ⟨l.val - 256 - 256, h⟩) :=
  (dif_neg h0).trans ((dif_neg h1).trans (dif_pos h))

theorem inOf_g (i : Fin 32768) (l : Fin 1152) (h0 : ¬l.val < 256) (h1 : ¬l.val - 256 < 256) (h2 : ¬l.val - 256 - 256 < 512)
    (h : l.val - 256 - 256 - 512 < 16) :
    inOf m c i l = A4 m c (ix3 ⟨i.val / 4096, by omega⟩ ⟨i.val % 4096, by omega⟩ ⟨l.val - 256 - 256 - 512, h⟩) :=
  (dif_neg h0).trans ((dif_neg h1).trans ((dif_neg h2).trans (dif_pos ⟨by omega, by omega, h⟩)))

theorem va_apply (i : Fin 32768) (l : Fin 512) :
    V m c main_v6 (ix2 i l) = A2 m c (ix3 ⟨i.val / 4096, by omega⟩ ⟨i.val % 4096, by omega⟩ l) := by
  unfold V hostOps0 hostOps0_1 hostOps0_2 hostOps0_3 hostOps0_4 hostOps0_5 hostOps0_6 hostOps0_7 hostOps0_8
  after_reads_at

theorem wg_apply (i : Fin 128) (l : Fin 256) :
    V m c main_v4 (ix2 i l) = if h : i.val < 16 then (A5 m c (ix2 ⟨i.val, h⟩ l) : EReal) else 0 := by
  unfold V hostOps0 hostOps0_1 hostOps0_2 hostOps0_3 hostOps0_4 hostOps0_5 hostOps0_6 hostOps0_7 hostOps0_8
  after_reads_at
  rw [zero_word]

theorem bg_apply (l : Fin 256) : V m c main_v7 (ix2 0 l) = A6 m c (ix1 l) := by
  unfold V hostOps0 hostOps0_1 hostOps0_2 hostOps0_3 hostOps0_4 hostOps0_5 hostOps0_6 hostOps0_7 hostOps0_8
  after_reads_at

theorem gn_apply (l : Fin 128) : V m c main_v8 (ix2 0 l) = A7 m c (ix1 l) := by
  unfold V hostOps0 hostOps0_1 hostOps0_2 hostOps0_3 hostOps0_4 hostOps0_5 hostOps0_6 hostOps0_7 hostOps0_8
  after_reads_at

/-- The chunk a row or column of the table is in, as the host computes it. -/
def chunkWord (i : Fin 256) : BitVec 32 :=
  Scalar.select
    (IntOp.andi
      (IntOp.cmpi CmpIPredicate.ne
        (if BitVec.ofNat 32 i.val = 0 then (0 : BitVec 32) else if (BitVec.ofNat 32 i.val).msb = true then -1 else 1)
        (if id (constantI S_ 32 64#32) ix0 = 0 then 0
        else if BitVec.msb (id (constantI S_ 32 64#32) ix0) = true then -1 else 1))
      (IntOp.cmpi CmpIPredicate.ne (IntOp.remsi ArithUnit.host (BitVec.ofNat 32 i.val) (id (constantI S_ 32 64#32) ix0)) 0#32))
    (IntOp.subi (IntOp.divsi ArithUnit.host (BitVec.ofNat 32 i.val) (id (constantI S_ 32 64#32) ix0)) 1#32)
    (IntOp.divsi ArithUnit.host (BitVec.ofNat 32 i.val) (id (constantI S_ 32 64#32) ix0))

theorem chunkWord_eq : ∀ i : Fin 256, chunkWord i = BitVec.ofNat 32 (i.val / 64) := by
  decide +kernel

theorem bit_and (p q : Prop) [Decidable p] [Decidable q] :
    FloatOps.uitofp (F := Ideal) FTy.f32 (IntOp.andi (BitVec.ofBool (decide p)) (BitVec.ofBool (decide q))) = if p ∧ q then (1 : EReal) else 0 := by
  by_cases hp : p <;> by_cases hq : q <;> simp [hp, hq, FloatOps.uitofp, IntOp.andi]

theorem tri_apply (i j : Fin 256) :
    V m c main_v17 (ix2 i j) = if i.val / 64 = j.val / 64 ∧ j.val ≤ i.val then (1 : EReal) else 0 := by
  unfold V hostOps0 hostOps0_1 hostOps0_2 hostOps0_3 hostOps0_4 hostOps0_5 hostOps0_6 hostOps0_7 hostOps0_8
  after_reads_at
  show FloatOps.uitofp (F := Ideal) FTy.f32 (IntOp.andi (IntOp.cmpi CmpIPredicate.eq (chunkWord i) (chunkWord j))
    (IntOp.cmpi CmpIPredicate.sle (BitVec.ofNat 32 j.val) (BitVec.ofNat 32 i.val))) = _
  rw [chunkWord_eq, chunkWord_eq, WordCmp.cmpi_eq_ofNat (by omega) (by omega), WordCmp.cmpi_sle_ofNat (by omega) (by omega)]
  exact bit_and _ _

end Cert.KernelIdeal.Gla

end
-- ==== Proof.GlaArray.lean ====
/-
  The whole output of the gated linear attention call: at every row and lane the sequence's normed and
  gated output, the carried states being the sequence's after each tile.
-/
module

public import proofs.«01_k».proof.Proof.GlaEntry
public import proofs.«01_k».proof.Proof.Gen.KernelIdeal.Value

@[expose] public section

set_option maxRecDepth 16384

noncomputable section

open Idealize.ShloMosaic Idealize.ShloMosaic.TcCoe Idealize.SL.Sem

namespace Cert.KernelIdeal.Gla

open Cert.KernelIdeal Cert.KernelIdeal.Gen Cert.KernelIdeal.Value Cert.Gla

variable (m : (ℓ : Loc nD τ sig) → Buf (Elt Ideal) ℓ) (c : Dev nD)

/-- A point's blocks hold its tile of its sequence. -/
theorem blocks_read (t : Fin cfg0.N) :
    BlockReads (iblk m c 0 t) (iblk m c 1 t) (iblk m c 2 t) (iblk m c 3 t) (iblk m c 4 t) (iblk m c 5 t)
      (seq m c ⟨t.val / 4, by have := lt_of_lt_of_eq t.isLt N_0; omega⟩) (t.val % 4) := by
  have ht := lt_of_lt_of_eq t.isLt N_0
  refine ⟨fun i j => ?_, fun i l => ?_, fun _ _ => logDecay_le _, fun i l => ?_, fun i l => ?_, fun i l => ?_, fun i l => ?_, fun e => ?_⟩
  · rw [blk5, tri_apply]
  · refine congrArg logDecay (congrArg₂ (· + ·) ((sum_block _ 0 16 (by decide) fun x hx => ?_).trans (Finset.sum_congr rfl fun j _ => ?_)) ?_)
    · rw [blk2, wg_apply, dif_neg (by omega), mul_zero]
    · rw [blk0, blk2, in_apply, wg_apply, dif_pos (by simp only; omega),
        inOf_g _ _ _ _ (by simp only; omega) (by simp only; omega) (by simp only; omega) (by simp only; omega)]
      refine congrArg₂ (· * ·) (congrArg (A4 m c) (ix3_congr ?_ ?_ ?_))
        (congrArg (A5 m c) (congrArg₂ ix2 (Fin.ext ?_) (Fin.ext ?_))) <;> simp only <;> omega
    · rw [blk3, bg_apply]
      exact congrArg (fun k => A6 m c (ix1 k)) (Fin.ext (by simp only; omega))
  · rw [blk0, in_apply, inOf_q _ _ _ _ l.isLt]
    refine congrArg (A0 m c) (ix3_congr ?_ ?_ ?_) <;> simp only <;> omega
  · rw [blk0, in_apply, inOf_k _ _ _ _ (by simp) (by simp only; omega)]
    refine congrArg (A1 m c) (ix3_congr ?_ ?_ ?_) <;> simp only <;> omega
  · rw [blk0, in_apply, inOf_r _ _ _ _ (by simp only; omega) (by simp only; omega) (by simp only; omega)]
    refine congrArg (A3 m c) (ix3_congr ?_ ?_ ?_) <;> simp only <;> omega
  · rw [blk1, va_apply]
    refine congrArg (A2 m c) (ix3_congr ?_ ?_ ?_) <;> simp only <;> omega
  · rw [blk4, gn_apply]
    exact congrArg (fun k => A7 m c (ix1 k)) (Fin.ext (by simp only; omega))

/-! ## The tiles, one after another -/

/-- A sequence's first tile: the state starts at nothing. -/
theorem tile_A (t : Fin cfg0.N) (h0 : t.val % 4 = 0) (D : Cert.Gla.Seq)
    (B : BlockReads (iblk m c 0 t) (iblk m c 1 t) (iblk m c 2 t) (iblk m c 3 t) (iblk m c 4 t) (iblk m c 5 t) D 0) :
    StateIs (outsAt0 m c t.val t.isLt).2 D (16 * (0 + 1))
    ∧ ∀ (r : Fin 1024) (l : Fin 512), (outsAt0 m c t.val t.isLt).1 (ix2 r l)
      = D.y (l.val / 128) (16 * 0 + r.val / 64) (r.val % 64) (l.val % 128) := by
  rw [outsAt0_A m c t h0]
  dsimp only
  exact ⟨sout_A _ _ _ _ _ _ _ _ _ _ _ _ _ _ _ _ _ _ _ _ _ _ _ _ _ B, out_A _ _ _ _ _ _ _ _ _ _ _ _ _ _ _ _ _ _ _ _ _ _ _ _ _ B⟩

/-- A later tile: the state is what the tile before left. -/
theorem tile_B (t : Fin cfg0.N) (h0 : ¬t.val % 4 = 0) (D : Cert.Gla.Seq) (k : ℕ)
    (B : BlockReads (iblk m c 0 t) (iblk m c 1 t) (iblk m c 2 t) (iblk m c 3 t) (iblk m c 4 t) (iblk m c 5 t) D k)
    (hs : StateIs (outsAt0 m c (t.val - 1) (Nat.lt_of_le_of_lt (Nat.sub_le _ _) t.isLt)).2 D (16 * k)) :
    StateIs (outsAt0 m c t.val t.isLt).2 D (16 * (k + 1))
    ∧ ∀ (r : Fin 1024) (l : Fin 512), (outsAt0 m c t.val t.isLt).1 (ix2 r l)
      = D.y (l.val / 128) (16 * k + r.val / 64) (r.val % 64) (l.val % 128) := by
  rw [outsAt0_B m c t h0]
  dsimp only
  exact ⟨sout_B _ _ _ _ _ _ _ _ _ _ _ _ _ _ _ _ _ _ _ _ _ _ _ _ _ B _ hs, out_B _ _ _ _ _ _ _ _ _ _ _ _ _ _ _ _ _ _ _ _ _ _ _ _ _ B _ hs⟩

/-- After a tile the carried state is the sequence's after the tile's chunks, and the tile's output the sequence's. -/
theorem tile (n : ℕ) : ∀ hn : n < cfg0.N,
    StateIs (outsAt0 m c n hn).2 (seq m c ⟨n / 4, by have := lt_of_lt_of_eq hn N_0; omega⟩) (16 * (n % 4 + 1))
    ∧ ∀ (r : Fin 1024) (l : Fin 512), (outsAt0 m c n hn).1 (ix2 r l)
      = (seq m c ⟨n / 4, by have := lt_of_lt_of_eq hn N_0; omega⟩).y (l.val / 128) (16 * (n % 4) + r.val / 64) (r.val % 64) (l.val % 128) := by
  induction n with
  | zero => exact fun hn => tile_A m c ⟨0, hn⟩ rfl _ (blocks_read m c ⟨0, hn⟩)
  | succ n ih =>
    intro hn
    have hN := lt_of_lt_of_eq hn N_0
    have B := blocks_read m c ⟨n + 1, hn⟩
    by_cases h0 : (n + 1) % 4 = 0
    · have e : (⟨n + 1, hn⟩ : Fin cfg0.N).val % 4 = 0 := h0
      rw [e] at B
      rw [h0]
      exact tile_A m c ⟨n + 1, hn⟩ h0 _ B
    · have hs := (ih (Nat.lt_of_succ_lt hn)).1
      have e4 : n / 4 = (n + 1) / 4 := by omega
      have e1 : n % 4 + 1 = (n + 1) % 4 := by omega
      simp only [e4, e1] at hs
      exact tile_B m c ⟨n + 1, hn⟩ h0 _ _ B hs

/-- The call's whole output. -/
theorem out_apply (i : Fin 32768) (l : Fin 512) :
    G6 m c (ix2 i l) = (seq m c ⟨i.val / 4096, by omega⟩).y (l.val / 128) (i.val % 4096 / 64) (i.val % 64) (l.val % 128) := by
  have hp : pt6Of (ix2 i l) = i.val / 1024 := by
    show 1 * (i.val / 1024 - 0) + 1 * (l.val / 512 - 0) = _
    omega
  have hlt : i.val / 1024 < cfg0.N := lt_of_lt_of_eq (by omega) N_0.symm
  have hl : loc6Of (ix2 i l) = ix2 ⟨i.val % 1024, Nat.mod_lt _ (by decide)⟩ l := by
    funext a
    match a with
    | ⟨0, _⟩ => rfl
    | ⟨1, _⟩ => exact Fin.ext (Nat.mod_eq_of_lt l.isLt)
  rw [G6, dif_pos (by rw [hp]; exact hlt), hl, fold0_congr m c _ _ _ (by omega) hp, ← outsAt0_sweep m c _ hlt]
  rw [(tile m c (i.val / 1024) hlt).2]
  have e0 : i.val / 1024 / 4 = i.val / 4096 := by omega
  have e1 : 16 * (i.val / 1024 % 4) + i.val % 1024 / 64 = i.val % 4096 / 64 := by omega
  have e2 : i.val % 1024 % 64 = i.val % 64 := by omega
  simp only [e0, e1, e2]

end Cert.KernelIdeal.Gla

end
-- ==== Proof.GlaStages.lean ====
/-
  The reference's stretches of operations read at an index: the log decays, the chunked queries, keys and
  values, their running sums, what the loop over chunks is entered with, and the norm and gate after it.
-/
module

public import proofs.«01_k».proof.Proof.GlaSpec
public import proofs.«01_k».proof.Proof.GlaCumsum
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.Gla

open Cert.ReferenceIdeal Cert.ReferenceIdeal.Gen Cert.ReferenceIdeal.Value Cert.Gla

variable (X : Valuation τ sig (Elt Ideal))

/-- An array's value at an index, as an extended real. -/
abbrev rd (s : Shape) (x : s.Idx → EReal) (i : s.Idx) : EReal := x i

/-- The sequences of the arguments as `X` holds them. -/
def seqOf (B : Fin 8) : Cert.Gla.Seq :=
  Seq.ofArrays (X (Proc.devRef .tc main_arg0)) (X (Proc.devRef .tc main_arg1)) (X (Proc.devRef .tc main_arg2)) (X (Proc.devRef .tc main_arg3))
    (X (Proc.devRef .tc main_arg4)) (X (Proc.devRef .tc main_arg5)) (X (Proc.devRef .tc main_arg6)) (X (Proc.devRef .tc main_arg7)) B

/-! ## Before the running sum -/

theorem gate_apply (B : Fin 8) (i : Fin 4096) (l : Fin 256) :
    after hostOps0 X (Proc.devRef .tc main_v3) (ix3 B i l)
      = ((∑ x : Fin 16, rd S8x4096x16 (X (Proc.devRef .tc main_arg4)) (ix3 B i x) * rd S16x256 (X (Proc.devRef .tc main_arg5)) (ix2 x l))
        + rd S256 (X (Proc.devRef .tc main_arg6)) (ix1 l) : EReal) := by
  unfold hostOps0
  after_reads_at

theorem logsig_apply (B : Fin 8) (i : Fin 4096) (l : Fin 256) (z : EReal) (hz : X (Proc.devRef .tc main_v3) (ix3 B i l) = z) :
    after hostOps0_1 X (Proc.devRef .tc main_v4) (ix3 B i l) = (-(max (-z) 0 + Ideal.log1p (Ideal.exp (-max (-z) (-(-z))))) : EReal) := by
  unfold hostOps0_1
  after_reads_at
  rw [if_neg fun h => h rfl, hz]
  rfl

theorem decay_apply (B : Fin 8) (h : Fin 4) (n i d : Fin 64) :
    after hostOps0_2 X (Proc.devRef .tc main_v20) (ix5 B h n i d)
      = (Ideal.div (X (Proc.devRef .tc main_v4) (ix3 B ⟨n.val * 64 + i.val, by omega⟩ ⟨h.val * 64 + d.val, by omega⟩)) (Ideal.ofBits .f32 0x41800000#32) : EReal) := by
  unfold hostOps0_2
  after_reads_at

/-- The contents once the arguments are chunked and the log decays formed. -/
abbrev chunks : Valuation τ sig (Elt Ideal) := after hostOps0_2 (after hostOps0_1 (after hostOps0 X))

theorem chunks_a (B : Fin 8) (h : Fin 4) (n i d : Fin 64) :
    chunks X (Proc.devRef .tc main_v20) (ix5 B h n i d) = (seqOf X B).a (64 * n.val + i.val) (64 * h.val + d.val) := by
  refine (decay_apply _ B h n i d).trans ((congrArg (fun z : EReal => Ideal.div z _) (logsig_apply _ _ _ _ _ (gate_apply X _ _ _))).trans
    ((logDecay_eq _).trans ?_))
  refine congrArg logDecay (congrArg₂ (· + ·) (Finset.sum_congr rfl fun x _ => congrArg₂ (· * ·) ?_ ?_) ?_)
  · exact congrArg (X (Proc.devRef .tc main_arg4)) (congrArg (fun k => ix3 B k x) (Fin.ext (by simp only; omega)))
  · exact congrArg (X (Proc.devRef .tc main_arg5)) (congrArg (fun k => ix2 x k) (Fin.ext (by simp only; omega)))
  · exact congrArg (X (Proc.devRef .tc main_arg6)) (congrArg (fun k => ix1 k) (Fin.ext (by simp only; omega)))

theorem chunks_q (B : Fin 8) (h : Fin 4) (n i d : Fin 64) :
    chunks X (Proc.devRef .tc main_v14) (ix5 B h n i d) = (seqOf X B).q (64 * n.val + i.val) (64 * h.val + d.val) * Ideal.ofBits .f32 0x3E000000#32 := by
  unfold chunks hostOps0 hostOps0_1 hostOps0_2
  after_reads_at
  refine congrArg (fun z : EReal => z * _) (congrArg (X (Proc.devRef .tc main_arg0)) (congrArg₂ (ix3 B) (Fin.ext ?_) (Fin.ext ?_))) <;> simp only <;> omega

theorem chunks_k (B : Fin 8) (h : Fin 4) (n i d : Fin 64) :
    chunks X (Proc.devRef .tc main_v16) (ix5 B h n i d) = (seqOf X B).k (64 * n.val + i.val) (64 * h.val + d.val) := by
  unfold chunks hostOps0 hostOps0_1 hostOps0_2
  after_reads_at
  refine congrArg (X (Proc.devRef .tc main_arg1)) (congrArg₂ (ix3 B) (Fin.ext ?_) (Fin.ext ?_)) <;> simp only <;> omega

theorem chunks_v (B : Fin 8) (h : Fin 4) (n i : Fin 64) (e : Fin 128) :
    chunks X (Proc.devRef .tc main_v18) (ix5 B h n i e) = (seqOf X B).v (64 * n.val + i.val) (128 * h.val + e.val) := by
  unfold chunks hostOps0 hostOps0_1 hostOps0_2
  after_reads_at
  refine congrArg (X (Proc.devRef .tc main_arg2)) (congrArg₂ (ix3 B) (Fin.ext ?_) (Fin.ext ?_)) <;> simp only <;> omega

theorem sum_range_congr {n : ℕ} {f g : ℕ → EReal} (h : ∀ j, j < n → f j = g j) : ∑ j ∈ Finset.range n, f j = ∑ j ∈ Finset.range n, g j :=
  Finset.sum_congr rfl fun j hj => h j (Finset.mem_range.1 hj)

/-! ## The running sum, and what the loop is entered with -/

/-- The contents hold the chunked sequences `D`. -/
structure Chunked (D : Fin 8 → Cert.Gla.Seq) : Prop where
  q : ∀ (B : Fin 8) (h : Fin 4) (n i d : Fin 64),
    X (Proc.devRef .tc main_v14) (ix5 B h n i d) = (D B).q (64 * n.val + i.val) (64 * h.val + d.val) * Ideal.ofBits .f32 0x3E000000#32
  k : ∀ (B : Fin 8) (h : Fin 4) (n i d : Fin 64), X (Proc.devRef .tc main_v16) (ix5 B h n i d) = (D B).k (64 * n.val + i.val) (64 * h.val + d.val)
  v : ∀ (B : Fin 8) (h : Fin 4) (n i : Fin 64) (e : Fin 128),
    X (Proc.devRef .tc main_v18) (ix5 B h n i e) = (D B).v (64 * n.val + i.val) (128 * h.val + e.val)
  b : ∀ (B : Fin 8) (h : Fin 4) (n i d : Fin 64), X (Proc.devRef .tc main_v21) (ix5 B h n i d) = (D B).b n.val i.val (64 * h.val + d.val)

theorem sums_apply (B : Fin 8) (h : Fin 4) (n i d : Fin 64) :
    after hostOps0_3 X (Proc.devRef .tc main_v21) (ix5 B h n i d)
      = (∑ j ∈ Finset.range (i.val + 1), (X (Proc.devRef .tc main_v20) (ix5 B h n ⟨j % 64, Nat.mod_lt _ (by decide)⟩ d) : EReal) : EReal) := by
  unfold hostOps0_3
  after_results
  exact cumsum_apply _ _ _ _ Ideal.ofBits_zero_f32 B h n i d

theorem sums_keep (r : Ref sig .tc) (hr : r ∉ hostOps0_3_W) : after hostOps0_3 X (Proc.devRef .tc r) = X (Proc.devRef .tc r) :=
  after_of_writes_sub hostOps0_3 X hostOps0_3_writes (by simpa using hr)

theorem chunked : Chunked (after hostOps0_3 (chunks X)) (seqOf X) where
  q B h n i d := (congrFun (sums_keep _ main_v14 (by decide)) _).trans (chunks_q X B h n i d)
  k B h n i d := (congrFun (sums_keep _ main_v16 (by decide)) _).trans (chunks_k X B h n i d)
  v B h n i e := (congrFun (sums_keep _ main_v18 (by decide)) _).trans (chunks_v X B h n i e)
  b B h n i d := by
    rw [sums_apply]
    refine sum_range_congr fun j hj => (chunks_a X B h n _ d).trans ?_
    exact congrArg (fun t => (seqOf X B).a (64 * n.val + t) (64 * h.val + d.val)) (Nat.mod_eq_of_lt (show j < 64 by omega))

/-- The contents at the loop's entry, from those after the running sum. -/
abbrev entry : Valuation τ sig (Elt Ideal) :=
  after hostOps0_8 (after hostOps0_7 (after hostOps0_6 (after hostOps0_5 (after hostOps0_4 X))))

variable {X} {D : Fin 8 → Cert.Gla.Seq} (C : Chunked X D)
include C

theorem entry_q (B : Fin 8) (h : Fin 4) (n i d : Fin 64) :
    entry X (Proc.devRef .tc main_v23) (ix5 B h n i d) = (D B).qp n.val i.val (64 * h.val + d.val) := by
  unfold entry hostOps0_8 hostOps0_7 hostOps0_6 hostOps0_5 hostOps0_4
  after_reads_at
  rw [C.q, C.b]
  rfl

/-- The causal mask's bit. -/
theorem mask_bit (i x : Fin 64) (a : EReal) :
    Scalar.select (Scalar.select (IntOp.cmpi CmpIPredicate.sge (IntOp.addi (BitVec.ofNat 32 i.val) 0#32) (BitVec.ofNat 32 x.val)) 1#1 0#1) a 0
      = if x.val ≤ i.val then a else 0 := by
  have e : IntOp.addi (BitVec.ofNat 32 i.val) 0#32 = BitVec.ofNat 32 i.val := BitVec.add_zero _
  rw [e, WordCmp.cmpi_sge_ofNat (by omega) (by omega)]
  by_cases h : x.val ≤ i.val <;> simp [h, Scalar.select]

theorem entry_intra (B : Fin 8) (h : Fin 4) (n i : Fin 64) (e : Fin 128) :
    entry X (Proc.devRef .tc main_v31) (ix5 B h n i e)
      = ∑ j : Fin 64, (D B).sc h.val n.val i.val j.val * (D B).v (64 * n.val + j.val) (128 * h.val + e.val) := by
  unfold entry hostOps0_8 hostOps0_7 hostOps0_6 hostOps0_5 hostOps0_4
  after_reads_at
  refine Finset.sum_congr rfl fun j _ => congrArg₂ (· * ·) ?_ (C.v B h n j e)
  have e0 : id (constant (F := Ideal) S_ FTy.f32 0#32) ix0 = (0 : EReal) := Ideal.ofBits_zero_f32
  rw [e0, mask_bit C]
  refine if_congr Iff.rfl (Finset.sum_congr rfl fun d _ => ?_) rfl
  rw [C.q, C.b, C.k, C.b]
  rfl

theorem entry_decay (B : Fin 8) (h : Fin 4) (n d : Fin 64) :
    entry X (Proc.devRef .tc main_v44_0) (ix4 n B h d) = (Ideal.exp ((D B).b n.val 63 (64 * h.val + d.val)) : EReal) := by
  unfold entry hostOps0_8 hostOps0_7 hostOps0_6 hostOps0_5 hostOps0_4
  after_reads_at
  rw [id_eq]
  pointwise
  exact congrArg Ideal.exp (C.b B h n 63 d)

theorem entry_update (B : Fin 8) (h : Fin 4) (n d : Fin 64) (e : Fin 128) :
    entry X (Proc.devRef .tc main_v44_1) (ix5 n B h d e)
      = (∑ i : Fin 64, (D B).v (64 * n.val + i.val) (128 * h.val + e.val) * (D B).ke n.val i.val (64 * h.val + d.val) : EReal) := by
  unfold entry hostOps0_8 hostOps0_7 hostOps0_6 hostOps0_5 hostOps0_4
  after_reads_at
  rw [id_eq]
  pointwise
  refine Finset.sum_congr rfl fun i _ => ?_
  rw [C.v, C.k, C.b, C.b, mul_comm]
  rfl

omit C in
theorem entry_state (B : Fin 8) (h : Fin 4) (d : Fin 64) (e : Fin 128) : entry X (Proc.devRef .tc main_v44_3) (ix4 B h d e) = (0 : EReal) := by
  unfold entry hostOps0_8 hostOps0_7 hostOps0_6 hostOps0_5 hostOps0_4
  after_reads_at
  rw [id_eq]
  pointwise

omit C

/-! ## After the loop -/

variable (X)

theorem post_apply (D : Fin 8 → Cert.Gla.Seq)
    (hi : ∀ (B : Fin 8) (h : Fin 4) (n i : Fin 64) (e : Fin 128), X (Proc.devRef .tc main_v31) (ix5 B h n i e)
      = (∑ j : Fin 64, (D B).sc h.val n.val i.val j.val * (D B).v (64 * n.val + j.val) (128 * h.val + e.val) : EReal))
    (hq : ∀ (B : Fin 8) (h : Fin 4) (n i d : Fin 64), X (Proc.devRef .tc main_v23) (ix5 B h n i d) = (D B).qp n.val i.val (64 * h.val + d.val))
    (hs : ∀ (B : Fin 8) (h : Fin 4) (n d : Fin 64) (e : Fin 128), X (Proc.devRef .tc main_v44_4) (ix5 n B h d e) = (D B).st h.val n.val e.val d.val)
    (hr : ∀ (B : Fin 8) (i : Fin 4096) (l : Fin 512), X (Proc.devRef .tc main_arg3) (ix3 B i l) = (D B).r i.val l.val)
    (hg : ∀ (B : Fin 8) (e : Fin 128), X (Proc.devRef .tc main_arg7) (ix1 e) = (D B).gn e.val)
    (i : Fin 32768) (l : Fin 512) :
    afterL postI X (Proc.devRef .tc main_v67) (ix2 i l)
      = (D ⟨i.val / 4096, by omega⟩).y (l.val / 128) (i.val % 4096 / 64) (i.val % 64) (l.val % 128) := by
  unfold postI hostOps0_9 hostOps0_10 hostOps0_11
  simp only [afterL_cons, afterL_nil]
  after_reads_at
  simp only [hi, hq, hs, hr, hg ⟨i.val / 4096, by omega⟩]
  have e0 : i.val % 4096 % 64 = i.val % 64 := by omega
  have e1 : 64 * (i.val % 4096 / 64) + i.val % 64 = i.val % 4096 := by omega
  have e2 : 128 * (l.val / 128) + l.val % 128 = l.val := by omega
  rw [Seq.y]
  simp only [Seq.o, e0, e1, e2]
  rfl

end Cert.ReferenceIdeal.Gla

end
-- ==== Proof.GlaLoop.lean ====
/-
  The reference's loop over chunks: the carried state before trip `k` is the sequence's state before chunk `k`,
  and the recorded states are the states before each chunk already passed.
-/
module

public import proofs.«01_k».proof.Proof.GlaStages
public import Idealize.ShloMosaic.Lib.DynamicIndex
public import Idealize.ShloMosaic.Lib.Pipeline.Value

@[expose] public section

set_option maxRecDepth 16384

noncomputable section

open Idealize.ShloMosaic Idealize.ShloMosaic.TcCoe Idealize.SL.Sem Idealize.ShloMosaic.StableHlo

namespace Cert.ReferenceIdeal.Gla

open Cert.ReferenceIdeal Cert.ReferenceIdeal.Gen Cert.ReferenceIdeal.Value Cert.Gla

variable (X : Valuation τ sig (Elt Ideal))

/-! ## One trip -/

theorem slices4 (k : ℕ) (hk : k < 64) : S64x8x4x64.Slices ![k, 0, 0, 0] S1x8x4x64 := by
  refine ⟨rfl, fun a => ?_⟩
  match a with
  | ⟨0, _⟩ => show k + 1 ≤ 64; omega
  | ⟨1, _⟩ => show 0 + 8 ≤ 8; omega
  | ⟨2, _⟩ => show 0 + 4 ≤ 4; omega
  | ⟨3, _⟩ => show 0 + 64 ≤ 64; omega

theorem slices5 (k : ℕ) (hk : k < 64) : S64x8x4x64x128.Slices ![k, 0, 0, 0, 0] S1x8x4x64x128 := by
  refine ⟨rfl, fun a => ?_⟩
  match a with
  | ⟨0, _⟩ => show k + 1 ≤ 64; omega
  | ⟨1, _⟩ => show 0 + 8 ≤ 8; omega
  | ⟨2, _⟩ => show 0 + 4 ≤ 4; omega
  | ⟨3, _⟩ => show 0 + 64 ≤ 64; omega
  | ⟨4, _⟩ => show 0 + 128 ≤ 128; omega

theorem trip_state (k : ℕ) (hk : k < 64) (hc : X (Proc.devRef .tc main_v44_2) = fun _ => BitVec.ofNat 32 k)
    (B : Fin 8) (h : Fin 4) (d : Fin 64) (e : Fin 128) :
    step_main_v44_3 X (ix4 B h d e)
      = rd S64x8x4x64 (X (Proc.devRef .tc main_v44_0)) (ix4 ⟨k, hk⟩ B h d) * rd S8x4x64x128 (X (Proc.devRef .tc main_v44_3)) (ix4 B h d e)
        + rd S64x8x4x64x128 (X (Proc.devRef .tc main_v44_1)) (ix5 ⟨k, hk⟩ B h d e) := by
  unfold step_main_v44_3
  simp only [hc]
  rw [Host.dynamicSlice_eq_extractStridedSlice _ _ _ ![k, 0, 0, 0] _ (slices4 k hk), Host.dynamicSlice_eq_extractStridedSlice _ _ _ ![k, 0, 0, 0, 0] _ (slices5 k hk)]
  rotate_left
  · intro a
    match a with
    | ⟨0, _⟩ => exact toInt_ofNat_of_lt (by omega)
    | ⟨1, _⟩ => rfl
    | ⟨2, _⟩ => rfl
    | ⟨3, _⟩ => rfl
    | ⟨4, _⟩ => rfl
  · intro a
    match a with
    | ⟨0, _⟩ => exact toInt_ofNat_of_lt (by omega)
    | ⟨1, _⟩ => rfl
    | ⟨2, _⟩ => rfl
    | ⟨3, _⟩ => rfl
  show addf _ _ _ = _
  pointwise

theorem dif_congr_prop {p q : Prop} [Decidable p] [Decidable q] (h : p ↔ q) {α : Sort _} (a b : α) :
    (if _ : p then a else b) = if q then a else b := by
  by_cases hp : p
  · rw [dif_pos hp, if_pos (h.1 hp)]
  · rw [dif_neg hp, if_neg fun hq => hp (h.2 hq)]

theorem trip_record (k : ℕ) (hk : k < 64) (hc : X (Proc.devRef .tc main_v44_2) = fun _ => BitVec.ofNat 32 k)
    (n : Fin 64) (B : Fin 8) (h : Fin 4) (d : Fin 64) (e : Fin 128) :
    step_main_v44_4 X (ix5 n B h d e)
      = if n.val = k then X (Proc.devRef .tc main_v44_3) (ix4 B h d e) else X (Proc.devRef .tc main_v44_4) (ix5 n B h d e) := by
  unfold step_main_v44_4
  simp only [hc]
  rw [Host.dynamicUpdateSlice_eq_updateSlice _ _ _ _ ![k, 0, 0, 0, 0] _ (slices5 k hk)]
  rotate_left
  · intro a
    match a with
    | ⟨0, _⟩ =>
      show (min (max (BitVec.toInt (BitVec.ofNat 32 k)) 0) ((64 - 1 : ℕ) : ℤ)).toNat = k
      rw [toInt_ofNat_of_lt (by omega)]
      omega
    | ⟨1, _⟩ => rfl
    | ⟨2, _⟩ => rfl
    | ⟨3, _⟩ => rfl
    | ⟨4, _⟩ => rfl
  show updateSlice _ _ _ _ _ = _
  pointwise
  refine dif_congr_prop ?_ _ _
  constructor
  · intro hh
    have := hh ⟨0, by decide⟩
    have h1 : k ≤ n.val := this.1
    have h2 : n.val < k + 1 := this.2
    omega
  · intro hn a
    match a with
    | ⟨0, _⟩ => exact ⟨show k ≤ n.val by omega, show n.val < k + 1 by omega⟩
    | ⟨1, _⟩ => exact ⟨Nat.zero_le _, show B.val < 0 + 8 by omega⟩
    | ⟨2, _⟩ => exact ⟨Nat.zero_le _, show h.val < 0 + 4 by omega⟩
    | ⟨3, _⟩ => exact ⟨Nat.zero_le _, show d.val < 0 + 64 by omega⟩
    | ⟨4, _⟩ => exact ⟨Nat.zero_le _, show e.val < 0 + 128 by omega⟩

/-! ## All trips -/

variable {X} (h2 : X (Proc.devRef .tc main_v44_2) = fun _ => (0#32 : BitVec 32))

theorem iter_decay (k : ℕ) : (STEP^[k] X) (Proc.devRef .tc main_v44_0) = X (Proc.devRef .tc main_v44_0) := by
  induction k with
  | zero => rfl
  | succ k ih => rw [Function.iterate_succ_apply', STEP_main_v44_0, ih]

theorem iter_update (k : ℕ) : (STEP^[k] X) (Proc.devRef .tc main_v44_1) = X (Proc.devRef .tc main_v44_1) := by
  induction k with
  | zero => rfl
  | succ k ih => rw [Function.iterate_succ_apply', STEP_main_v44_1, ih]

include h2

theorem iter_ctr (k : ℕ) : (STEP^[k] X) (Proc.devRef .tc main_v44_2) = fun _ => BitVec.ofNat 32 k := by
  induction k with
  | zero => exact h2
  | succ k ih =>
    rw [Function.iterate_succ_apply', STEP_main_v44_2, step_main_v44_2, ih]
    funext i
    exact (BitVec.ofNat_add k 1).symm

variable {D : Fin 8 → Cert.Gla.Seq}
  (h0 : ∀ (B : Fin 8) (h : Fin 4) (n d : Fin 64), X (Proc.devRef .tc main_v44_0) (ix4 n B h d) = (Ideal.exp ((D B).b n.val 63 (64 * h.val + d.val)) : EReal))
  (h1 : ∀ (B : Fin 8) (h : Fin 4) (n d : Fin 64) (e : Fin 128), X (Proc.devRef .tc main_v44_1) (ix5 n B h d e)
    = (∑ i : Fin 64, (D B).v (64 * n.val + i.val) (128 * h.val + e.val) * (D B).ke n.val i.val (64 * h.val + d.val) : EReal))
  (h3 : ∀ (B : Fin 8) (h : Fin 4) (d : Fin 64) (e : Fin 128), X (Proc.devRef .tc main_v44_3) (ix4 B h d e) = (0 : EReal))

include h0 h1 h3

theorem iter_state (k : ℕ) (hk : k ≤ 64) (B : Fin 8) (h : Fin 4) (d : Fin 64) (e : Fin 128) :
    (STEP^[k] X) (Proc.devRef .tc main_v44_3) (ix4 B h d e) = (D B).st h.val k e.val d.val := by
  induction k with
  | zero => exact h3 B h d e
  | succ k ih =>
    rw [Function.iterate_succ_apply', STEP_main_v44_3, trip_state _ k (by omega) (iter_ctr h2 k), iter_decay, iter_update]
    refine (congrArg₂ (fun x y : EReal => x + y) (congrArg₂ (fun x y : EReal => x * y) (h0 B h ⟨k, by omega⟩ d) (ih (by omega))) (h1 B h ⟨k, by omega⟩ d e)).trans ?_
    exact congrArg (fun z : EReal => z + _) (mul_comm _ _)

theorem iter_record (k : ℕ) (hk : k ≤ 64) (n : Fin 64) (hn : n.val < k) (B : Fin 8) (h : Fin 4) (d : Fin 64) (e : Fin 128) :
    (STEP^[k] X) (Proc.devRef .tc main_v44_4) (ix5 n B h d e) = (D B).st h.val n.val e.val d.val := by
  induction k with
  | zero => omega
  | succ k ih =>
    rw [Function.iterate_succ_apply', STEP_main_v44_4, trip_record _ k (by omega) (iter_ctr h2 k)]
    by_cases e : n.val = k
    · rw [if_pos e, iter_state h2 h0 h1 h3 k (by omega), e]
    · rw [if_neg e, ih (by omega) (by omega)]

end Cert.ReferenceIdeal.Gla

end
-- ==== Proof.GlaReference.lean ====
/-
  The reference's run: its output over the sequences of its arguments, and its arguments as they were.
-/
module

public import proofs.«01_k».proof.Proof.GlaLoop
public import Idealize.ShloMosaic.Lib.Quiescent

@[expose] public section

set_option maxRecDepth 16384

noncomputable section

open Idealize.ShloMosaic Idealize.ShloMosaic.TcCoe Idealize.SL.Sem Idealize.ShloMosaic.StableHlo Idealize.ShloMosaic.HostLoop

namespace Cert.ReferenceIdeal.Gla

open Cert.ReferenceIdeal Cert.ReferenceIdeal.Gen Cert.ReferenceIdeal.Value Cert.Gla

variable (X : Valuation τ sig (Elt Ideal)) (m : (ℓ : Loc nD τ sig) → Buf (Elt Ideal) ℓ) (ρ : Dev nD → PrngReg) (c : Dev nD)

/-! ## What the operations leave alone -/

/-- A list of operations leaves a buffer it does not write as it was. -/
theorem ops_keep (ops : List (HloOp τ sig (Elt Ideal))) (W : List (Ref sig .tc))
    (hw : ops.Forall fun op => op.writes ⊆ (W.map (Proc.devRef (τ := τ) .tc)).toFinset) (r : Ref sig .tc) (hr : r ∉ W) :
    after ops X (Proc.devRef .tc r) = X (Proc.devRef .tc r) :=
  after_of_writes_sub ops X hw (by simpa using hr)

/-- What one trip writes. -/
abbrev tripW : List (Ref sig .tc) := condOps_W ++ (while0Ops0_W ++ while0Ops0_1_W ++ while0Ops0_2_W ++ while0Ops0_3_W ++ while0Ops0_4_W)

theorem trip_keep (r : Ref sig .tc) (hr : r ∉ tripW) : afterL bodyI (after condOps X) (Proc.devRef .tc r) = X (Proc.devRef .tc r) := by
  simp only [List.mem_append, not_or] at hr
  obtain ⟨hc, ⟨⟨⟨h0, h1⟩, h2⟩, h3⟩, h4⟩ := hr
  simp only [afterL_cons, afterL_nil]
  rw [ops_keep _ _ _ while0Ops0_4_writes r h4, ops_keep _ _ _ while0Ops0_3_writes r h3, ops_keep _ _ _ while0Ops0_2_writes r h2,
    ops_keep _ _ _ while0Ops0_1_writes r h1, ops_keep _ _ _ while0Ops0_writes r h0, ops_keep _ _ _ condOps_writes r hc]

theorem atK_keep (r : Ref sig .tc) (hr : r ∉ tripW) (k : ℕ) : atK m k c (Proc.devRef .tc r) = entryContents preI m c (Proc.devRef .tc r) := by
  induction k with
  | zero => rfl
  | succ k ih => exact (trip_keep (atK m k c) r hr).trans ih

/-- What the operations before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W

/-- The launch's contents of a device's buffers. -/
abbrev launched : Valuation τ sig (Elt Ideal) := fun r => m (c, r)

theorem entry_eq : entryContents preI m c = entry (after hostOps0_3 (chunks (launched m c))) := rfl

theorem pre_keep (r : Ref sig .tc) (hr : r ∉ preW) : entryContents preI m c (Proc.devRef .tc r) = m (c, Proc.devRef .tc r) := by
  simp only [List.mem_append, not_or] at hr
  obtain ⟨⟨⟨⟨⟨⟨⟨⟨h0, h1⟩, h2⟩, h3⟩, h4⟩, h5⟩, h6⟩, h7⟩, h8⟩ := hr
  rw [entry_eq]
  unfold entry chunks
  rw [ops_keep _ _ _ hostOps0_8_writes r h8, ops_keep _ _ _ hostOps0_7_writes r h7, ops_keep _ _ _ hostOps0_6_writes r h6, ops_keep _ _ _ hostOps0_5_writes r h5, ops_keep _ _ _ hostOps0_4_writes r h4, ops_keep _ _ _ hostOps0_3_writes r h3, ops_keep _ _ _ hostOps0_2_writes r h2, ops_keep _ _ _ hostOps0_1_writes r h1, ops_keep _ _ _ hostOps0_writes r h0]

/-- The reference each operation of the norm, the gate and the last product writes, in order. -/
abbrev post0W : List (Ref sig .tc) := [main_v45, main_v46, main_v47, main_v48, main_v49, main_v50, main_cst_5, main_v51, main_v52, main_cst_6, main_v53, main_v54,
  main_cst_7, main_v55, main_v56, main_v57, main_v58, main_v59, main_v60, main_v61, main_v62, main_v63]
abbrev post1W : List (Ref sig .tc) := [main_call7_v0, main_call7_v1, main_call7_cst, main_call7_v2, main_call7_v3, main_call7_cst_0, main_call7_v4, main_call7_v5, main_v64]
abbrev post2W : List (Ref sig .tc) := [main_v65, main_v66, main_v67]
theorem post0_writes : (hostOps0_9 : List (HloOp τ sig (Elt Ideal))).Forall fun op => op.writes ⊆ (post0W.map (Proc.devRef (τ := τ) .tc)).toFinset :=
  StableHlo.forall_writes_sub_of_map rfl
theorem post1_writes : (hostOps0_10 : List (HloOp τ sig (Elt Ideal))).Forall fun op => op.writes ⊆ (post1W.map (Proc.devRef (τ := τ) .tc)).toFinset :=
  StableHlo.forall_writes_sub_of_map rfl
theorem post2_writes : (hostOps0_11 : List (HloOp τ sig (Elt Ideal))).Forall fun op => op.writes ⊆ (post2W.map (Proc.devRef (τ := τ) .tc)).toFinset :=
  StableHlo.forall_writes_sub_of_map rfl

/-- The contents after the loop. -/
abbrev looped : Valuation τ sig (Elt Ideal) := after condOps (atK m 64 c)

theorem looped_keep (r : Ref sig .tc) (hr : r ∉ tripW) : looped m c (Proc.devRef .tc r) = entryContents preI m c (Proc.devRef .tc r) :=
  (ops_keep _ _ _ condOps_writes r fun h => hr (List.mem_append_left _ h)).trans (atK_keep m c r hr 64)

/-- A buffer nothing writes ends as it was launched. -/
theorem final_keep (r : Ref sig .tc) (hr : r ∉ preW ++ tripW ++ (post0W ++ post1W ++ post2W)) :
    finalContents condOps preI bodyI postI 64 m c (Proc.devRef .tc r) = m (c, Proc.devRef .tc r) := by
  have hp : r ∉ preW := fun h => hr (List.mem_append_left _ (List.mem_append_left _ h))
  have ht : r ∉ tripW := fun h => hr (List.mem_append_left _ (List.mem_append_right _ h))
  have h0 : r ∉ post0W := fun h => hr (List.mem_append_right _ (List.mem_append_left _ (List.mem_append_left _ h)))
  have h1 : r ∉ post1W := fun h => hr (List.mem_append_right _ (List.mem_append_left _ (List.mem_append_right _ h)))
  have h2 : r ∉ post2W := fun h => hr (List.mem_append_right _ (List.mem_append_right _ h))
  show afterL postI (looped m c) (Proc.devRef .tc r) = _
  simp only [afterL_cons, afterL_nil]
  rw [ops_keep _ _ _ post2_writes r h2, ops_keep _ _ _ post1_writes r h1, ops_keep _ _ _ post0_writes r h0, looped_keep m c r ht, pre_keep m c r hp]

/-! ## The output -/

/-- The recorded states after the loop. -/
theorem looped_record (n : Fin 64) (B : Fin 8) (h : Fin 4) (d : Fin 64) (e : Fin 128) :
    looped m c (Proc.devRef .tc main_v44_4) (ix5 n B h d e) = (seqOf (launched m c) B).st h.val n.val e.val d.val := by
  have C := chunked (launched m c)
  have hk : looped m c (Proc.devRef .tc main_v44_4) = (STEP^[64] (entryContents preI m c)) (Proc.devRef .tc main_v44_4) :=
    (cond_keeps _ main_v44_4 (by decide)).trans (atK_agree m c 64 main_v44_4 (by decide))
  rw [hk]
  exact iter_record (D := seqOf (launched m c)) (ctr_entry m c) (entry_decay C) (entry_update C) entry_state 64 le_rfl n n.isLt B h d e

/-- The reference's output. -/
def outR : S32768x512.Idx → EReal := finalContents condOps preI bodyI postI 64 m c (Proc.devRef .tc main_v67)

/-- The whole output. -/
theorem out_apply (i : Fin 32768) (l : Fin 512) :
    outR m c (ix2 i l)
      = (seqOf (launched m c) ⟨i.val / 4096, by omega⟩).y (l.val / 128) (i.val % 4096 / 64) (i.val % 64) (l.val % 128) := by
  have C := chunked (launched m c)
  refine post_apply (looped m c) (seqOf (launched m c)) (fun B h n i e => ?_) (fun B h n i d => ?_) (fun n B h d e => looped_record m c _ _ _ _ _)
    (fun B i l => ?_) (fun B e => ?_) i l
  · exact (congrFun (looped_keep m c main_v31 (by decide)) _).trans (entry_intra C B h n i e)
  · exact (congrFun (looped_keep m c main_v23 (by decide)) _).trans (entry_q C B h n i d)
  · refine (congrFun ((looped_keep m c main_arg3 (by decide)).trans (pre_keep m c main_arg3 (by decide))) _).trans ?_
    exact congrArg (launched m c (Proc.devRef .tc main_arg3)) (congrArg₂ (ix3 B) (Fin.ext (Nat.mod_eq_of_lt i.isLt).symm) (Fin.ext (Nat.mod_eq_of_lt l.isLt).symm))
  · refine (congrFun ((looped_keep m c main_arg7 (by decide)).trans (pre_keep m c main_arg7 (by decide))) _).trans ?_
    exact congrArg (launched m c (Proc.devRef .tc main_arg7)) (congrArg ix1 (Fin.ext (Nat.mod_eq_of_lt e.isLt).symm))

/-! ## The run -/

theorem run : θ_run (defs (F := Ideal)) (onTc (τ := τ) (main (F := Ideal))) ⟨m, fun _ => 0, ρ⟩ (fun r => (∀ c : Dev nD,
      r.2.mem ((c.tc : Thread nD τ).loc main_v67) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨h c main_v67 rfl,
      (h c main_arg0 rfl).trans (final_keep m c main_arg0 (by decide)),
      (h c main_arg1 rfl).trans (final_keep m c main_arg1 (by decide)),
      (h c main_arg2 rfl).trans (final_keep m c main_arg2 (by decide)),
      (h c main_arg3 rfl).trans (final_keep m c main_arg3 (by decide)),
      (h c main_arg4 rfl).trans (final_keep m c main_arg4 (by decide)),
      (h c main_arg5 rfl).trans (final_keep m c main_arg5 (by decide)),
      (h c main_arg6 rfl).trans (final_keep m c main_arg6 (by decide)),
      (h c main_arg7 rfl).trans (final_keep m c main_arg7 (by decide))⟩,
      sem_eq_zero_of_no_sems (by decide) r.2⟩) (run_fold m ρ)

end Cert.ReferenceIdeal.Gla

end
-- ==== Proof.Post2Body.lean ====
/-
  One run of the body: the arrays it loads, the values it computes from them, and its stores — eight column
  blocks of squared hidden units in the scratch, then the output's block.
-/
module

public import proofs.«01_k».proof.Proof.Gen.Kernel2Ideal.Frame

@[expose] public section

set_option maxRecDepth 16384

noncomputable section

open Idealize.ShloMosaic Idealize.ShloMosaic.TcCoe Idealize.SL.Sem

namespace Cert.Kernel2Ideal.Post

open Cert.Kernel2Ideal Cert.Kernel2Ideal.Gen

variable {F : FTy → Type} [FloatOps F]

/-- What one run of the body loads of its arguments. -/
structure Loads (F : FTy → Type) [FloatOps F] where
  x : Vec F S1024x1024 .f32
  mx : Vec F S1024x1024 .bf16
  wo : Vec F S1024x1024 .bf16
  gn : Vec F S1x1024 .f32
  w1 : Fin 8 → Vec F S1024x512 .bf16
  w2 : Vec F S4096x1024 .bf16

/-- The residual stream with the mixer's output projected and added. -/
def res (L : Loads F) : FVec F S1024x1024 .f32 :=
  addf (shapeCast S1024x1024 L.x shapeCasts_S1024x1024_S1024x1024)
    (matmul dot_S1024x1024_S1024x1024_S1024x1024_1_0_0_1_n_n none (shapeCast S1024x1024 L.mx shapeCasts_S1024x1024_S1024x1024 : FVec F S1024x1024 .bf16)
      (shapeCast S1024x1024 L.wo shapeCasts_S1024x1024_S1024x1024) (constant S1024x1024 .f32 0x00000000#32))

/-- The mean square of each row, and the small constant. -/
def meanOf (u : FVec F S1024x1024 .f32) : FVec F S1024x1 .f32 :=
  addf (divf (shapeCast S1024x1 (multiReduction .add [1] S1024 (mulf u u) 0x00000000#32 reduces_S1024x1024_S1024 (.inl rfl) rfl : FVec F S1024 .f32)
      shapeCasts_S1024_S1024x1) (broadcast S1024x1 (Scalar.ofBits .f32 0x44800000#32)))
    (broadcast S1024x1 (Scalar.ofBits .f32 0x358637BD#32))

/-- The normed rows. -/
def normedOf (u : FVec F S1024x1024 .f32) (g : Vec F S1x1024 .f32) : FVec F S1024x1024 .bf16 :=
  truncf .bf16 (mulf (mulf u (broadcastTo S1024x1024 (rsqrt (meanOf u)) broadcasts_S1024x1_S1024x1024))
    (broadcastTo S1024x1024 (shapeCast S1x1024 g shapeCasts_S1x1024_S1x1024 : FVec F S1x1024 .f32) broadcasts_S1x1024_S1024x1024)) bitsLt_bf16_f32

/-- A column block of hidden units. -/
def hidOf (h : FVec F S1024x1024 .bf16) (w : Vec F S1024x512 .bf16) : FVec F S1024x512 .f32 :=
  maximumf (matmul dot_S1024x1024_S1024x512_S1024x512_1_0_0_1_n_n none h (shapeCast S1024x512 w shapeCasts_S1024x512_S1024x512 : FVec F S1024x512 .bf16)
    (constant S1024x512 .f32 0x00000000#32)) (broadcast S1024x512 (Scalar.ofBits .f32 0x00000000#32))

/-- A column block of squared hidden units. -/
def sqOf (h : FVec F S1024x1024 .bf16) (w : Vec F S1024x512 .bf16) : FVec F S1024x512 .bf16 :=
  shapeCast S1024x512 (truncf .bf16 (mulf (hidOf h w) (hidOf h w)) bitsLt_bf16_f32 : FVec F S1024x512 .bf16) shapeCasts_S1024x512_S1024x512

/-- The output's block, from the squared hidden units. -/
def outOf (L : Loads F) (a : Vec F S1024x4096 .bf16) : FVec F S1024x1024 .f32 :=
  addf (res L) (matmul dot_S1024x4096_S4096x1024_S1024x1024_1_0_0_1_n_n none a (shapeCast S4096x1024 L.w2 shapeCasts_S4096x1024_S4096x1024 : FVec F S4096x1024 .bf16)
    (constant S1024x1024 .f32 0x00000000#32))

theorem in_cols (j : Fin 8) : ∀ a, (![0, 512 * j.val] : Fin 2 → Nat) a + S1024x512.size a ≤ S1024x4096.size a := by
  revert j; decide

/-- The loads of a run of the body on the blocks `x0 … x5`. -/
def loads (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole)
    (x0 : Vec F S1024x1024 .f32) (x1 : Vec F S1024x1024 .bf16) (x2 : Vec F S1024x1024 .bf16) (x3 : Vec F S1x1024 .f32) (x4 : Vec F S1024x4096 .bf16) (x5 : Vec F S4096x1024 .bf16) : Loads F where
  x := View.readAt (Elt F) arg1.view (Rect.unit (s := S1024x1024) ![0, 0] S1024x1024.size inb_S1024x1024_S1024x1024_0_0).toLoadRect (harg1.unread x0)
  mx := View.readAt (Elt F) arg2.view (Rect.unit (s := S1024x1024) ![0, 0] S1024x1024.size inb_S1024x1024_S1024x1024_0_0).toLoadRect (harg2.unread x1)
  wo := View.readAt (Elt F) arg3.view (Rect.unit (s := S1024x1024) ![0, 0] S1024x1024.size inb_S1024x1024_S1024x1024_0_0).toLoadRect (harg3.unread x2)
  gn := View.readAt (Elt F) arg4.view (Rect.unit (s := S1x1024) ![0, 0] S1x1024.size inb_S1x1024_S1x1024_0_0).toLoadRect (harg4.unread x3)
  w1 j := View.readAt (Elt F) arg5.view (Rect.unit (s := S1024x4096) ![0, 512 * j.val] S1024x512.size (in_cols j)).toLoadRect (harg5.unread x4)
  w2 := View.readAt (Elt F) arg6.view (Rect.unit (s := S4096x1024) ![0, 0] S4096x1024.size inb_S4096x1024_S4096x1024_0_0).toLoadRect (harg6.unread x5)

/-- The store of column block `j`. -/
def hidPiece (L : Loads F) (j : Fin 8) : View.Piece (Elt F) S1024x4096 .bf16 :=
  ⟨Rect.unit ![0, 512 * j.val] S1024x512.size (in_cols j), sqOf (normedOf (res L) L.gn) (L.w1 j)⟩

/-- The eight stores of the scratch, last first. -/
def hidPieces (L : Loads F) : List (View.Piece (Elt F) S1024x4096 .bf16) :=
  [hidPiece L 7,
   hidPiece L 6,
   hidPiece L 5,
   hidPiece L 4,
   hidPiece L 3,
   hidPiece L 2,
   hidPiece L 1,
   hidPiece L 0]

/-- The scratch loaded after its eight stores. -/
def scratch (L : Loads F) (arg8 : Memref sig .tc .vmem S1024x4096 .bf16) : Vec F S1024x4096 .bf16 :=
  arg8.view.readCov (hidPieces L) (Rect.unit (s := S1024x4096) ![0, 0] S1024x4096.size inb_S1024x4096_S1024x4096_0_0).toLoadRect

/-- The one store of the output's block. -/
def outPieces (L : Loads F) (arg8 : Memref sig .tc .vmem S1024x4096 .bf16) : List (View.Piece (Elt F) S1024x1024 .f32) :=
  [⟨Rect.unit ![0, 0] S1024x1024.size inb_S1024x1024_S1024x1024_0_0, outOf L (scratch L arg8)⟩]

theorem pieces (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S1024x1024 .f32) (harg7 : arg7.IsWhole) (arg8 : Memref sig .tc .vmem S1024x4096 .bf16) (harg8 : arg8.IsWhole)
    (x0 : Vec F S1024x1024 .f32) (x1 : Vec F S1024x1024 .bf16) (x2 : Vec F S1024x1024 .bf16) (x3 : Vec F S1x1024 .f32) (x4 : Vec F S1024x4096 .bf16) (x5 : Vec F S4096x1024 .bf16) :
    (kernelRun0_A c i arg1 harg1 arg2 harg2 arg3 harg3 arg4 harg4 arg5 harg5 arg6 harg6 arg7 harg7 arg8 harg8 x0 x1 x2 x3 x4 x5).1 = outPieces (loads arg1 harg1 arg2 harg2 arg3 harg3 arg4 harg4 arg5 harg5 arg6 harg6 x0 x1 x2 x3 x4 x5) arg8 := by
  sl_kernel_rfl

end Cert.Kernel2Ideal.Post

end
-- ==== Proof.Post2Array.lean ====
/-
  The whole output of the call that follows the mixer: at every row the squared-relu layer of the normed
  residual row, added to it.
-/
module

public import proofs.«01_k».proof.Proof.Post2Body
public import proofs.«01_k».proof.Proof.PostSpec
public import proofs.«01_k».proof.Proof.Gen.Kernel2Ideal.Value
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel2Ideal.Post

open Cert.Kernel2Ideal Cert.Kernel2Ideal.Gen

open Cert.Kernel2Ideal.Value Cert.Post

/-! ## The body's values at an index -/

theorem res_apply (L : Loads Ideal) (i l : Fin 1024) :
    res L (ix2 i l) = (fun l => L.x (ix2 i l) + ∑ k : Fin 1024, L.mx (ix2 i k) * L.wo (ix2 k l) : Fin 1024 → EReal) l := by
  pointwise [res]

theorem normedOf_apply (u : FVec Ideal S1024x1024 .f32) (g : Vec Ideal S1x1024 .f32) (i l : Fin 1024) :
    normedOf u g (ix2 i l) = normed (fun l => u (ix2 i l)) (fun l => g (ix2 0 l)) l := by
  pointwise [normedOf, meanOf]
  rfl

theorem sqOf_apply (u : FVec Ideal S1024x1024 .f32) (g : Vec Ideal S1x1024 .f32) (w : Vec Ideal S1024x512 .bf16) (i : Fin 1024) (f : Fin 512)
    (w1 : Fin 1024 → Fin 4096 → EReal) (f' : Fin 4096) (hw : ∀ l, w (ix2 l f) = w1 l f') :
    sqOf (normedOf u g) w (ix2 i f) = hidden (fun l => u (ix2 i l)) (fun l => g (ix2 0 l)) w1 f'
      * hidden (fun l => u (ix2 i l)) (fun l => g (ix2 0 l)) w1 f' := by
  pointwise [sqOf, hidOf]
  simp only [normedOf_apply, hw]
  rfl

/-- The eight stores cover the scratch. -/
theorem hid_cover (L : Loads Ideal) (y : S1024x4096.Idx) : ∃ p ∈ hidPieces L, y ∈ p.1.set :=
  View.cover_of_tiledL (hidPieces L) S1024x512.size (by sl_kernel_rfl) y

/-- The scratch loaded after the stores holds every squared hidden unit. -/
theorem scratch_apply (L : Loads Ideal) (arg8 : Memref sig .tc .vmem S1024x4096 .bf16) (w1 : Fin 1024 → Fin 4096 → EReal)
    (hw : ∀ (j : Fin 8) (l : Fin 1024) (f : Fin 512), L.w1 j (ix2 l f) = w1 l ⟨512 * j.val + f.val, by omega⟩) (i : Fin 1024) (f : Fin 4096) :
    scratch L arg8 (ix2 i f) = hidden (fun l => res L (ix2 i l)) (fun l => L.gn (ix2 0 l)) w1 f
      * hidden (fun l => res L (ix2 i l)) (fun l => L.gn (ix2 0 l)) w1 f := by
  have hp : View.PiecesOf (fun y : S1024x4096.Idx => hidden (fun l => res L (ix2 (y 0) l)) (fun l => L.gn (ix2 0 l)) w1 (y 1)
      * hidden (fun l => res L (ix2 (y 0) l)) (fun l => L.gn (ix2 0 l)) w1 (y 1)) (hidPieces L) := by
    have key : ∀ (j : Fin 8) (x : S1024x512.Idx) (y : S1024x4096.Idx), (y 0).val = (x 0).val → (y 1).val = 512 * j.val + (x 1).val →
        sqOf (normedOf (res L) L.gn) (L.w1 j) x
          = hidden (fun l => res L (ix2 (y 0) l)) (fun l => L.gn (ix2 0 l)) w1 (y 1)
            * hidden (fun l => res L (ix2 (y 0) l)) (fun l => L.gn (ix2 0 l)) w1 (y 1) := by
      intro j x y h0 h1
      idx_vars x
      idx_vars y
      obtain rfl : y0 = x0 := Fin.ext h0
      have hx : x1.val < 512 := x1.isLt
      have hj := j.isLt
      have hb : 512 * j.val + x1.val < 4096 := by clear h1; omega
      obtain rfl : y1 = (⟨512 * j.val + x1.val, hb⟩ : Fin 4096) := Fin.ext h1
      exact sqOf_apply _ _ _ _ _ w1 _ fun l => hw j l x1
    have z : ∀ n : ℕ, 0 + 1 * n = n := fun n => by omega
    have z' : ∀ o n : ℕ, o + 1 * n = o + n := fun o n => by omega
    exact ⟨fun x => key 7 x _ (z _) (z' _ _), fun x => key 6 x _ (z _) (z' _ _), fun x => key 5 x _ (z _) (z' _ _), fun x => key 4 x _ (z _) (z' _ _),
      fun x => key 3 x _ (z _) (z' _ _), fun x => key 2 x _ (z _) (z' _ _), fun x => key 1 x _ (z _) (z' _ _), fun x => key 0 x _ (z _) (z' _ _), trivial⟩
  rw [scratch, View.readCov_eq_canon' ]
  refine (View.canon_apply_of_pieces (fun y : S1024x4096.Idx => hidden (fun l => res L (ix2 (y 0) l)) (fun l => L.gn (ix2 0 l)) w1 (y 1)
      * hidden (fun l => res L (ix2 (y 0) l)) (fun l => L.gn (ix2 0 l)) w1 (y 1)) _ hp.mem _ (hid_cover L _)).trans ?_
  have e : (Rect.unit (s := S1024x4096) ![0, 0] S1024x4096.size inb_S1024x4096_S1024x4096_0_0).toLoadRect.idx (ix2 i f) = ix2 i f := by
    funext a
    match a with
    | ⟨0, _⟩ => exact Fin.ext (show 0 + 1 * i.val = i.val by omega)
    | ⟨1, _⟩ => exact Fin.ext (show 0 + 1 * f.val = f.val by omega)
  rw [e]
  rfl

theorem outOf_apply (L : Loads Ideal) (arg8 : Memref sig .tc .vmem S1024x4096 .bf16) (w1 : Fin 1024 → Fin 4096 → EReal)
    (hw : ∀ (j : Fin 8) (l : Fin 1024) (f : Fin 512), L.w1 j (ix2 l f) = w1 l ⟨512 * j.val + f.val, by omega⟩) (i l : Fin 1024) :
    outOf L (scratch L arg8) (ix2 i l)
      = row (fun l => res L (ix2 i l)) (fun l => L.gn (ix2 0 l)) w1 (fun f l => L.w2 (ix2 f l)) l := by
  pointwise [outOf]
  simp only [scratch_apply L arg8 w1 hw]
  rfl

/-! ## One grid point -/

section
variable (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole)
  (x0 : Vec Ideal S1024x1024 .f32) (x1 : Vec Ideal S1024x1024 .bf16) (x2 : Vec Ideal S1024x1024 .bf16) (x3 : Vec Ideal S1x1024 .f32) (x4 : Vec Ideal S1024x4096 .bf16) (x5 : Vec Ideal S4096x1024 .bf16)

theorem out_point (c : Dev nD) (i' : grid0.Coords) (arg7 : Memref sig .tc .vmem S1024x1024 .f32) (harg7 : arg7.IsWhole) (arg8 : Memref sig .tc .vmem S1024x4096 .bf16) (harg8 : arg8.IsWhole) (i l : Fin 1024) :
    out0_A_6 c i' arg1 harg1 arg2 harg2 arg3 harg3 arg4 harg4 arg5 harg5 arg6 harg6 arg7 harg7 arg8 harg8 x0 x1 x2 x3 x4 x5 (ix2 i l)
      = row (fun l => x0 (ix2 i l) + ∑ k : Fin 1024, x1 (ix2 i k) * x2 (ix2 k l)) (fun l => x3 (ix2 0 l)) (fun l f => x4 (ix2 l f)) (fun f l => x5 (ix2 f l)) l := by
  rw [out0_A_6, View.read_writes_junk_eq_canon, pieces]
  have hp : View.PiecesOf (outOf (loads arg1 harg1 arg2 harg2 arg3 harg3 arg4 harg4 arg5 harg5 arg6 harg6 x0 x1 x2 x3 x4 x5) (scratch (loads arg1 harg1 arg2 harg2 arg3 harg3 arg4 harg4 arg5 harg5 arg6 harg6 x0 x1 x2 x3 x4 x5) arg8))
      (outPieces (loads arg1 harg1 arg2 harg2 arg3 harg3 arg4 harg4 arg5 harg5 arg6 harg6 x0 x1 x2 x3 x4 x5) arg8) := by
    refine ⟨fun x => congrArg _ (funext fun a => Fin.ext ?_), trivial⟩
    match a with
    | ⟨0, _⟩ => exact (show (x 0).val = 0 + 1 * (x 0).val by omega)
    | ⟨1, _⟩ => exact (show (x 1).val = 0 + 1 * (x 1).val by omega)
  refine (View.canon_apply_of_pieces _ _ hp.mem _ (View.cover_of_tiledL _ S1024x1024.size (by sl_kernel_rfl) _)).trans ?_
  refine (outOf_apply _ _ (fun l f => x4 (ix2 l f)) (fun j l f => ?_) i l).trans ?_
  · simp only [loads, View.readAt_eq_ld, harg1.read_unread, harg2.read_unread, harg3.read_unread, harg4.read_unread, harg5.read_unread, harg6.read_unread]
    pointwise []
  · simp only [res_apply]
    simp only [loads, View.readAt_eq_ld, harg1.read_unread, harg2.read_unread, harg3.read_unread, harg4.read_unread, harg5.read_unread, harg6.read_unread]
    pointwise []
end

/-! ## The arrays -/

variable (m : (ℓ : Loc nD τ sig) → Buf (Elt Ideal) ℓ) (c : Dev nD)

/-- The call's arguments: the residual stream. -/
abbrev A0 : (⟨3, ![8, 4096, 1024]⟩ : Shape).Idx → EReal := m ((c : Thread nD τ).loc main_arg0)

/-- The call's arguments: the mixer's output. -/
abbrev A1 : (⟨3, ![8, 4096, 1024]⟩ : Shape).Idx → EReal := m ((c : Thread nD τ).loc main_arg1)

/-- The call's arguments: the projection. -/
abbrev A2 : (⟨2, ![1024, 1024]⟩ : Shape).Idx → EReal := m ((c : Thread nD τ).loc main_arg2)

/-- The call's arguments: the norm's weight. -/
abbrev A3 : (⟨1, ![1024]⟩ : Shape).Idx → EReal := m ((c : Thread nD τ).loc main_arg3)

/-- The call's arguments: the hidden layer's weight. -/
abbrev A4 : (⟨2, ![1024, 4096]⟩ : Shape).Idx → EReal := m ((c : Thread nD τ).loc main_arg4)

/-- The call's arguments: the output layer's weight. -/
abbrev A5 : (⟨2, ![4096, 1024]⟩ : Shape).Idx → EReal := m ((c : Thread nD τ).loc main_arg5)

theorem idx0 : ∀ t : Fin cfg0.N, win0_0.index t (0 : Fin 2) = t.val ∧ win0_0.index t (1 : Fin 2) = 0 :=
  (by decide +kernel : ∀ t : Fin grid0.N, _)

theorem blk0 (t : Fin cfg0.N) (r : Fin 1024) (l : Fin 1024) :
    iblk m c 0 t (ix2 r l) = V m c main_v0 (ix2 ⟨1024 * t.val + r.val, by have := lt_of_lt_of_eq t.isLt N_0; omega⟩ l) := by
  have e := idx0 t
  refine congrArg (V m c main_v0) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * l.val = l.val; omega

theorem idx1 : ∀ t : Fin cfg0.N, win0_1.index t (0 : Fin 2) = t.val ∧ win0_1.index t (1 : Fin 2) = 0 :=
  (by decide +kernel : ∀ t : Fin grid0.N, _)

theorem blk1 (t : Fin cfg0.N) (r : Fin 1024) (l : Fin 1024) :
    iblk m c 1 t (ix2 r l) = V m c main_v2 (ix2 ⟨1024 * t.val + r.val, by have := lt_of_lt_of_eq t.isLt N_0; omega⟩ l) := by
  have e := idx1 t
  refine congrArg (V m c main_v2) (funext fun a => Fin.ext ?_)
  match a with
  | ⟨0, _⟩ => show win0_1.index t (0 : Fin 2) * 1024 + 1 * r.val = 1024 * t.val + r.val; omega
  | ⟨1, _⟩ => show win0_1.index t (1 : Fin 2) * 1024 + 1 * l.val = l.val; omega

theorem idx2 : ∀ t : Fin cfg0.N, win0_2.index t (0 : Fin 2) = 0 ∧ win0_2.index t (1 : Fin 2) = 0 :=
  (by decide +kernel : ∀ t : Fin grid0.N, _)

theorem blk2 (t : Fin cfg0.N) (r : Fin 1024) (l : Fin 1024) :
    iblk m c 2 t (ix2 r l) = V m c main_v3 (ix2 r l) := by
  have e := idx2 t
  refine congrArg (V m c main_v3) (funext fun a => Fin.ext ?_)
  match a with
  | ⟨0, _⟩ => show win0_2.index t (0 : Fin 2) * 1024 + 1 * r.val = r.val; omega
  | ⟨1, _⟩ => show win0_2.index t (1 : Fin 2) * 1024 + 1 * l.val = l.val; omega

theorem idx3 : ∀ t : Fin cfg0.N, win0_3.index t (0 : Fin 2) = 0 ∧ win0_3.index t (1 : Fin 2) = 0 :=
  (by decide +kernel : ∀ t : Fin grid0.N, _)

theorem blk3 (t : Fin cfg0.N) (r : Fin 1) (l : Fin 1024) :
    iblk m c 3 t (ix2 r l) = V m c main_v4 (ix2 r l) := by
  have e := idx3 t
  refine congrArg (V m c main_v4) (funext fun a => Fin.ext ?_)
  match a with
  | ⟨0, _⟩ => show win0_3.index t (0 : Fin 2) * 1 + 1 * r.val = r.val; omega
  | ⟨1, _⟩ => show win0_3.index t (1 : Fin 2) * 1024 + 1 * l.val = l.val; omega

theorem idx4 : ∀ t : Fin cfg0.N, win0_4.index t (0 : Fin 2) = 0 ∧ win0_4.index t (1 : Fin 2) = 0 :=
  (by decide +kernel : ∀ t : Fin grid0.N, _)

theorem blk4 (t : Fin cfg0.N) (r : Fin 1024) (l : Fin 4096) :
    iblk m c 4 t (ix2 r l) = V m c main_v5 (ix2 r l) := by
  have e := idx4 t
  refine congrArg (V m c main_v5) (funext fun a => Fin.ext ?_)
  match a with
  | ⟨0, _⟩ => show win0_4.index t (0 : Fin 2) * 1024 + 1 * r.val = r.val; omega
  | ⟨1, _⟩ => show win0_4.index t (1 : Fin 2) * 4096 + 1 * l.val = l.val; omega

theorem idx5 : ∀ t : Fin cfg0.N, win0_5.index t (0 : Fin 2) = 0 ∧ win0_5.index t (1 : Fin 2) = 0 :=
  (by decide +kernel : ∀ t : Fin grid0.N, _)

theorem blk5 (t : Fin cfg0.N) (r : Fin 4096) (l : Fin 1024) :
    iblk m c 5 t (ix2 r l) = V m c main_v6 (ix2 r l) := by
  have e := idx5 t
  refine congrArg (V m c main_v6) (funext fun a => Fin.ext ?_)
  match a with
  | ⟨0, _⟩ => show win0_5.index t (0 : Fin 2) * 4096 + 1 * r.val = r.val; omega
  | ⟨1, _⟩ => show win0_5.index t (1 : Fin 2) * 1024 + 1 * l.val = l.val; omega

theorem arr0 (i : Fin 32768) (l : Fin 1024) : V m c main_v0 (ix2 i l) = A0 m c (ix3 ⟨i.val / 4096, by omega⟩ ⟨i.val % 4096, by omega⟩ l) := by
  unfold V hostOps0
  after_reads_at

theorem arr1 (i : Fin 32768) (l : Fin 1024) : V m c main_v2 (ix2 i l) = A1 m c (ix3 ⟨i.val / 4096, by omega⟩ ⟨i.val % 4096, by omega⟩ l) := by
  unfold V hostOps0
  after_reads_at

theorem arr2 (r : Fin 1024) (l : Fin 1024) : V m c main_v3 (ix2 r l) = A2 m c (ix2 r l) := by
  unfold V hostOps0
  after_reads_at

theorem arr3 (l : Fin 1024) : V m c main_v4 (ix2 0 l) = A3 m c (ix1 l) := by
  unfold V hostOps0
  after_reads_at

theorem arr4 (r : Fin 1024) (l : Fin 4096) : V m c main_v5 (ix2 r l) = A4 m c (ix2 r l) := by
  unfold V hostOps0
  after_reads_at

theorem arr5 (r : Fin 4096) (l : Fin 1024) : V m c main_v6 (ix2 r l) = A5 m c (ix2 r l) := by
  unfold V hostOps0
  after_reads_at

/-- The call's whole output. -/
theorem out_apply (i : Fin 32768) (l : Fin 1024) :
    (dats m 0 c).arrAt 6 cfg0.N (ix2 i l)
      = rows (residual1 (A0 m c) (A1 m c) (A2 m c)) (A3 m c) (A4 m c) (A5 m c) i l := by
  have ht : i.val / 1024 < cfg0.N := lt_of_lt_of_eq (by omega) N_0.symm
  have hf : ∀ t : Fin cfg0.N, (cfg0.win 6).flush t = true := (by decide +kernel : ∀ t : Fin grid0.N, _)
  have hi : ∀ t : Fin cfg0.N, win0_6.index t (0 : Fin 2) = t.val ∧ win0_6.index t (1 : Fin 2) = 0 := (by decide +kernel : ∀ t : Fin grid0.N, _)
  have b := congrFun (blocks6 m c ⟨i.val / 1024, ht⟩ (hf _)) (ix2 (⟨i.val % 1024, Nat.mod_lt _ (by decide)⟩ : Fin 1024) l)
  rw [flushed6] at b
  have e := hi ⟨i.val / 1024, ht⟩
  have ea : (ix2 i l : S32768x1024.Idx) = ((cfg0.win 6).blk ⟨i.val / 1024, ht⟩).view.emb (ix2 (⟨i.val % 1024, Nat.mod_lt _ (by decide)⟩ : Fin 1024) l) := by
    funext a
    apply Fin.ext
    match a with
    | ⟨0, _⟩ => show i.val = win0_6.index ⟨i.val / 1024, ht⟩ (0 : Fin 2) * 1024 + 1 * (i.val % 1024); rw [e.1]; simp only; omega
    | ⟨1, _⟩ => show l.val = win0_6.index ⟨i.val / 1024, ht⟩ (1 : Fin 2) * 1024 + 1 * l.val; omega
  rw [ea]
  refine b.trans ?_
  refine (show _ = outsAt0 m c ⟨i.val / 1024, ht⟩ (ix2 (⟨i.val % 1024, Nat.mod_lt _ (by decide)⟩ : Fin 1024) l) from rfl).trans ?_
  rw [outsAt0, out_point]
  have er : 1024 * (i.val / 1024) + i.val % 1024 = i.val := by omega
  simp only [blk0, blk1, blk2, blk3, blk4, blk5, er]
  exact row_congr (fun l => congrArg₂ (fun x y : EReal => x + y) (arr0 m c i l) (Finset.sum_congr rfl fun k _ => congrArg₂ (fun x y : EReal => x * y) (arr1 m c i k) (arr2 m c k l))) (fun l => arr3 m c l) (fun l f => arr4 m c l f) (fun f l => arr5 m c f l) l

end Cert.Kernel2Ideal.Post

end
-- ==== Proof.Post2Reference.lean ====
/-
  The plain layer after its mixer: its run's output, read at an index.
-/
module

public import proofs.«01_k».proof.Proof.PostSpec
public import proofs.«01_k».proof.Proof.Gen.Reference2Ideal
public import proofs.«01_k».proof.Proof.Gen.Reference2Ideal.Run

@[expose] public section

set_option maxRecDepth 16384

noncomputable section

open Idealize.ShloMosaic Idealize.ShloMosaic.TcCoe Idealize.SL.Sem

namespace Cert.Reference2Ideal.Post

open Cert.Reference2Ideal Cert.Reference2Ideal.Gen Cert.Post

/-- The residual stream after the mixer. -/
def residOf (x mx : FVec Ideal S8x4096x1024 .f32) (wo : FVec Ideal S1024x1024 .f32) : FVec Ideal S8x4096x1024 .f32 :=
  addf x (Host.dotGeneral dot_S8x4096x1024_S1024x1024_S8x4096x1024_2_0_01_1_n_n none mx wo)

/-- The normed rows. -/
def normedOf (u : FVec Ideal S8x4096x1024 .f32) (g : FVec Ideal S1024 .f32) : FVec Ideal S8x4096x1024 .f32 :=
  mulf (mulf u (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf u u) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The hidden units. -/
def hiddenOf (h : FVec Ideal S8x4096x1024 .f32) (w1 : FVec Ideal S1024x4096 .f32) : FVec Ideal S8x4096x4096 .f32 :=
  maximumf (Host.dotGeneral dot_S8x4096x1024_S1024x4096_S8x4096x4096_2_0_01_1_n_n none h w1)
    (broadcastInDim S8x4096x4096 ![] bcast_S_S8x4096x4096 (constant S_ .f32 0x00000000#32))

/-- The layer's output. -/
def rowsOf (u : FVec Ideal S8x4096x1024 .f32) (g : FVec Ideal S1024 .f32) (w1 : FVec Ideal S1024x4096 .f32) (w2 : FVec Ideal S4096x1024 .f32) :
    FVec Ideal S32768x1024 .f32 :=
  shapeCast S32768x1024 (addf u (Host.dotGeneral dot_S8x4096x4096_S4096x1024_S8x4096x1024_2_0_01_1_n_n none
    (mulf (hiddenOf (normedOf u g) w1) (hiddenOf (normedOf u g) w1)) w2)) shapeCasts_S8x4096x1024_S32768x1024

theorem normedOf_apply (u : FVec Ideal S8x4096x1024 .f32) (g : FVec Ideal S1024 .f32) (B : Fin 8) (n : Fin 4096) (l : Fin 1024) :
    normedOf u g (ix3 B n l) = normed (fun l => u (ix3 B n l)) (fun l => g (ix1 l)) l := by
  pointwise [normedOf]
  rfl

theorem hiddenOf_apply (u : FVec Ideal S8x4096x1024 .f32) (g : FVec Ideal S1024 .f32) (w1 : FVec Ideal S1024x4096 .f32) (B : Fin 8) (n f : Fin 4096) :
    hiddenOf (normedOf u g) w1 (ix3 B n f) = hidden (fun l => u (ix3 B n l)) (fun l => g (ix1 l)) (fun l f => w1 (ix2 l f)) f := by
  pointwise [hiddenOf]
  simp only [normedOf_apply]
  rfl

theorem rowsOf_apply (u : FVec Ideal S8x4096x1024 .f32) (g : FVec Ideal S1024 .f32) (w1 : FVec Ideal S1024x4096 .f32) (w2 : FVec Ideal S4096x1024 .f32)
    (i : Fin 32768) (l : Fin 1024) :
    rowsOf u g w1 w2 (ix2 i l) = row (fun l => u (ix3 ⟨i.val / 4096, by omega⟩ ⟨i.val % 4096, by omega⟩ l)) (fun l => g (ix1 l))
      (fun l f => w1 (ix2 l f)) (fun f l => w2 (ix2 f l)) l := by
  pointwise [rowsOf]
  simp only [hiddenOf_apply]
  rfl

variable (m : (ℓ : Loc nD τ sig) → Buf (Elt Ideal) ℓ) (c : Dev nD)

/-- The arguments: the residual stream. -/
abbrev A0 : (⟨3, ![8, 4096, 1024]⟩ : Shape).Idx → EReal := m ((c.tc : Thread nD τ).loc main_arg0)

/-- The arguments: the mixer's output. -/
abbrev A1 : (⟨3, ![8, 4096, 1024]⟩ : Shape).Idx → EReal := m ((c.tc : Thread nD τ).loc main_arg1)

/-- The arguments: the projection. -/
abbrev A2 : (⟨2, ![1024, 1024]⟩ : Shape).Idx → EReal := m ((c.tc : Thread nD τ).loc main_arg2)

/-- The arguments: the norm's weight. -/
abbrev A3 : (⟨1, ![1024]⟩ : Shape).Idx → EReal := m ((c.tc : Thread nD τ).loc main_arg3)

/-- The arguments: the hidden layer's weight. -/
abbrev A4 : (⟨2, ![1024, 4096]⟩ : Shape).Idx → EReal := m ((c.tc : Thread nD τ).loc main_arg4)

/-- The arguments: the output layer's weight. -/
abbrev A5 : (⟨2, ![4096, 1024]⟩ : Shape).Idx → EReal := m ((c.tc : Thread nD τ).loc main_arg5)

/-- The mixer's output. -/
def mixOf : FVec Ideal S8x4096x1024 .f32 :=
  m ((c.tc : Thread nD τ).loc main_arg1)

theorem residOf_apply (B : Fin 8) (n : Fin 4096) (l : Fin 1024) :
    residOf (m ((c.tc : Thread nD τ).loc main_arg0)) (mixOf m c) (m ((c.tc : Thread nD τ).loc main_arg2)) (ix3 B n l) = residual1 (A0 m c) (A1 m c) (A2 m c) B n l := by
  unfold residual1
  pointwise [residOf]
  rfl

/-- The output of the run. -/
def outR : FVec Ideal S32768x1024 .f32 :=
  rowsOf (residOf (m ((c.tc : Thread nD τ).loc main_arg0)) (mixOf m c) (m ((c.tc : Thread nD τ).loc main_arg2))) (m ((c.tc : Thread nD τ).loc main_arg3)) (m ((c.tc : Thread nD τ).loc main_arg4)) (m ((c.tc : Thread nD τ).loc main_arg5))

theorem out_apply (i : Fin 32768) (l : Fin 1024) :
    outR m c (ix2 i l) = rows (residual1 (A0 m c) (A1 m c) (A2 m c)) (A3 m c) (A4 m c) (A5 m c) i l := by
  unfold outR
  rw [rowsOf_apply]
  exact row_congr (fun l => residOf_apply m c _ _ l) (fun _ => rfl) (fun _ _ => rfl) (fun _ _ => rfl) l

/-- Every execution ends with that output and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v20) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2⟩) (Cert.Reference2Ideal.Value.run m ρ)

end Cert.Reference2Ideal.Post

end
-- ==== Proof.Post3Body.lean ====
/-
  One run of the body: the arrays it loads, the values it computes from them, and its stores — eight column
  blocks of squared hidden units in the scratch, then the output's block.
-/
module

public import proofs.«01_k».proof.Proof.Gen.Kernel3Ideal.Frame

@[expose] public section

set_option maxRecDepth 16384

noncomputable section

open Idealize.ShloMosaic Idealize.ShloMosaic.TcCoe Idealize.SL.Sem

namespace Cert.Kernel3Ideal.Post

open Cert.Kernel3Ideal Cert.Kernel3Ideal.Gen

variable {F : FTy → Type} [FloatOps F]

/-- What one run of the body loads of its arguments. -/
structure Loads (F : FTy → Type) [FloatOps F] where
  x : Vec F S1024x1024 .f32
  oa : Vec F S1024x512 .bf16
  ob : Vec F S1024x512 .bf16
  wa : Vec F S512x1024 .bf16
  wb : Vec F S512x1024 .bf16
  gn : Vec F S1x1024 .f32
  w1 : Fin 8 → Vec F S1024x512 .bf16
  w2 : Vec F S4096x1024 .bf16

/-- The residual stream with the mixer's output projected and added. -/
def res (L : Loads F) : FVec F S1024x1024 .f32 :=
  addf (addf (shapeCast S1024x1024 L.x shapeCasts_S1024x1024_S1024x1024)
      (matmul dot_S1024x512_S512x1024_S1024x1024_1_0_0_1_n_n none (shapeCast S1024x512 L.oa shapeCasts_S1024x512_S1024x512 : FVec F S1024x512 .bf16)
        (shapeCast S512x1024 L.wa shapeCasts_S512x1024_S512x1024) (constant S1024x1024 .f32 0x00000000#32)))
    (matmul dot_S1024x512_S512x1024_S1024x1024_1_0_0_1_n_n none (shapeCast S1024x512 L.ob shapeCasts_S1024x512_S1024x512 : FVec F S1024x512 .bf16)
      (shapeCast S512x1024 L.wb shapeCasts_S512x1024_S512x1024) (constant S1024x1024 .f32 0x00000000#32))

/-- The mean square of each row, and the small constant. -/
def meanOf (u : FVec F S1024x1024 .f32) : FVec F S1024x1 .f32 :=
  addf (divf (shapeCast S1024x1 (multiReduction .add [1] S1024 (mulf u u) 0x00000000#32 reduces_S1024x1024_S1024 (.inl rfl) rfl : FVec F S1024 .f32)
      shapeCasts_S1024_S1024x1) (broadcast S1024x1 (Scalar.ofBits .f32 0x44800000#32)))
    (broadcast S1024x1 (Scalar.ofBits .f32 0x358637BD#32))

/-- The normed rows. -/
def normedOf (u : FVec F S1024x1024 .f32) (g : Vec F S1x1024 .f32) : FVec F S1024x1024 .bf16 :=
  truncf .bf16 (mulf (mulf u (broadcastTo S1024x1024 (rsqrt (meanOf u)) broadcasts_S1024x1_S1024x1024))
    (broadcastTo S1024x1024 (shapeCast S1x1024 g shapeCasts_S1x1024_S1x1024 : FVec F S1x1024 .f32) broadcasts_S1x1024_S1024x1024)) bitsLt_bf16_f32

/-- A column block of hidden units. -/
def hidOf (h : FVec F S1024x1024 .bf16) (w : Vec F S1024x512 .bf16) : FVec F S1024x512 .f32 :=
  maximumf (matmul dot_S1024x1024_S1024x512_S1024x512_1_0_0_1_n_n none h (shapeCast S1024x512 w shapeCasts_S1024x512_S1024x512 : FVec F S1024x512 .bf16)
    (constant S1024x512 .f32 0x00000000#32)) (broadcast S1024x512 (Scalar.ofBits .f32 0x00000000#32))

/-- A column block of squared hidden units. -/
def sqOf (h : FVec F S1024x1024 .bf16) (w : Vec F S1024x512 .bf16) : FVec F S1024x512 .bf16 :=
  shapeCast S1024x512 (truncf .bf16 (mulf (hidOf h w) (hidOf h w)) bitsLt_bf16_f32 : FVec F S1024x512 .bf16) shapeCasts_S1024x512_S1024x512

/-- The output's block, from the squared hidden units. -/
def outOf (L : Loads F) (a : Vec F S1024x4096 .bf16) : FVec F S1024x1024 .f32 :=
  addf (res L) (matmul dot_S1024x4096_S4096x1024_S1024x1024_1_0_0_1_n_n none a (shapeCast S4096x1024 L.w2 shapeCasts_S4096x1024_S4096x1024 : FVec F S4096x1024 .bf16)
    (constant S1024x1024 .f32 0x00000000#32))

theorem in_cols (j : Fin 8) : ∀ a, (![0, 512 * j.val] : Fin 2 → Nat) a + S1024x512.size a ≤ S1024x4096.size a := by
  revert j; decide

/-- The loads of a run of the body on the blocks `x0 … x6`. -/
def loads (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole)
    (x0 : Vec F S1024x1024 .f32) (x1 : Vec F S1024x512 .bf16) (x2 : Vec F S1024x512 .bf16) (x3 : Vec F S1024x1024 .bf16) (x4 : Vec F S1x1024 .f32) (x5 : Vec F S1024x4096 .bf16) (x6 : Vec F S4096x1024 .bf16) : Loads F where
  x := View.readAt (Elt F) arg1.view (Rect.unit (s := S1024x1024) ![0, 0] S1024x1024.size inb_S1024x1024_S1024x1024_0_0).toLoadRect (harg1.unread x0)
  oa := View.readAt (Elt F) arg2.view (Rect.unit (s := S1024x512) ![0, 0] S1024x512.size inb_S1024x512_S1024x512_0_0).toLoadRect (harg2.unread x1)
  ob := View.readAt (Elt F) arg3.view (Rect.unit (s := S1024x512) ![0, 0] S1024x512.size inb_S1024x512_S1024x512_0_0).toLoadRect (harg3.unread x2)
  wa := View.readAt (Elt F) arg4.view (Rect.unit (s := S1024x1024) ![0, 0] S512x1024.size inb_S1024x1024_S512x1024_0_0).toLoadRect (harg4.unread x3)
  wb := View.readAt (Elt F) arg4.view (Rect.unit (s := S1024x1024) ![512, 0] S512x1024.size inb_S1024x1024_S512x1024_512_0).toLoadRect (harg4.unread x3)
  gn := View.readAt (Elt F) arg5.view (Rect.unit (s := S1x1024) ![0, 0] S1x1024.size inb_S1x1024_S1x1024_0_0).toLoadRect (harg5.unread x4)
  w1 j := View.readAt (Elt F) arg6.view (Rect.unit (s := S1024x4096) ![0, 512 * j.val] S1024x512.size (in_cols j)).toLoadRect (harg6.unread x5)
  w2 := View.readAt (Elt F) arg7.view (Rect.unit (s := S4096x1024) ![0, 0] S4096x1024.size inb_S4096x1024_S4096x1024_0_0).toLoadRect (harg7.unread x6)

/-- The store of column block `j`. -/
def hidPiece (L : Loads F) (j : Fin 8) : View.Piece (Elt F) S1024x4096 .bf16 :=
  ⟨Rect.unit ![0, 512 * j.val] S1024x512.size (in_cols j), sqOf (normedOf (res L) L.gn) (L.w1 j)⟩

/-- The eight stores of the scratch, last first. -/
def hidPieces (L : Loads F) : List (View.Piece (Elt F) S1024x4096 .bf16) :=
  [hidPiece L 7,
   hidPiece L 6,
   hidPiece L 5,
   hidPiece L 4,
   hidPiece L 3,
   hidPiece L 2,
   hidPiece L 1,
   hidPiece L 0]

/-- The scratch loaded after its eight stores. -/
def scratch (L : Loads F) (arg9 : Memref sig .tc .vmem S1024x4096 .bf16) : Vec F S1024x4096 .bf16 :=
  arg9.view.readCov (hidPieces L) (Rect.unit (s := S1024x4096) ![0, 0] S1024x4096.size inb_S1024x4096_S1024x4096_0_0).toLoadRect

/-- The one store of the output's block. -/
def outPieces (L : Loads F) (arg9 : Memref sig .tc .vmem S1024x4096 .bf16) : List (View.Piece (Elt F) S1024x1024 .f32) :=
  [⟨Rect.unit ![0, 0] S1024x1024.size inb_S1024x1024_S1024x1024_0_0, outOf L (scratch L arg9)⟩]

theorem pieces (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1024x1024 .f32) (harg8 : arg8.IsWhole) (arg9 : Memref sig .tc .vmem S1024x4096 .bf16) (harg9 : arg9.IsWhole)
    (x0 : Vec F S1024x1024 .f32) (x1 : Vec F S1024x512 .bf16) (x2 : Vec F S1024x512 .bf16) (x3 : Vec F S1024x1024 .bf16) (x4 : Vec F S1x1024 .f32) (x5 : Vec F S1024x4096 .bf16) (x6 : Vec F S4096x1024 .bf16) :
    (kernelRun0_A c i arg1 harg1 arg2 harg2 arg3 harg3 arg4 harg4 arg5 harg5 arg6 harg6 arg7 harg7 arg8 harg8 arg9 harg9 x0 x1 x2 x3 x4 x5 x6).1 = outPieces (loads arg1 harg1 arg2 harg2 arg3 harg3 arg4 harg4 arg5 harg5 arg6 harg6 arg7 harg7 x0 x1 x2 x3 x4 x5 x6) arg9 := by
  sl_kernel_rfl

end Cert.Kernel3Ideal.Post

end
-- ==== Proof.Post3Array.lean ====
/-
  The whole output of the call that follows the mixer: at every row the squared-relu layer of the normed
  residual row, added to it.
-/
module

public import proofs.«01_k».proof.Proof.Post3Body
public import proofs.«01_k».proof.Proof.PostSpec
public import proofs.«01_k».proof.Proof.Gen.Kernel3Ideal.Value
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.Kernel3Ideal.Post

open Cert.Kernel3Ideal Cert.Kernel3Ideal.Gen

open Cert.Kernel3Ideal.Value Cert.Post

/-! ## The body's values at an index -/

theorem res_apply (L : Loads Ideal) (i l : Fin 1024) :
    res L (ix2 i l) = (fun l => L.x (ix2 i l) + ∑ k : Fin 512, L.oa (ix2 i k) * L.wa (ix2 k l) + ∑ k : Fin 512, L.ob (ix2 i k) * L.wb (ix2 k l) : Fin 1024 → EReal) l := by
  pointwise [res]

theorem normedOf_apply (u : FVec Ideal S1024x1024 .f32) (g : Vec Ideal S1x1024 .f32) (i l : Fin 1024) :
    normedOf u g (ix2 i l) = normed (fun l => u (ix2 i l)) (fun l => g (ix2 0 l)) l := by
  pointwise [normedOf, meanOf]
  rfl

theorem sqOf_apply (u : FVec Ideal S1024x1024 .f32) (g : Vec Ideal S1x1024 .f32) (w : Vec Ideal S1024x512 .bf16) (i : Fin 1024) (f : Fin 512)
    (w1 : Fin 1024 → Fin 4096 → EReal) (f' : Fin 4096) (hw : ∀ l, w (ix2 l f) = w1 l f') :
    sqOf (normedOf u g) w (ix2 i f) = hidden (fun l => u (ix2 i l)) (fun l => g (ix2 0 l)) w1 f'
      * hidden (fun l => u (ix2 i l)) (fun l => g (ix2 0 l)) w1 f' := by
  pointwise [sqOf, hidOf]
  simp only [normedOf_apply, hw]
  rfl

/-- The eight stores cover the scratch. -/
theorem hid_cover (L : Loads Ideal) (y : S1024x4096.Idx) : ∃ p ∈ hidPieces L, y ∈ p.1.set :=
  View.cover_of_tiledL (hidPieces L) S1024x512.size (by sl_kernel_rfl) y

/-- The scratch loaded after the stores holds every squared hidden unit. -/
theorem scratch_apply (L : Loads Ideal) (arg9 : Memref sig .tc .vmem S1024x4096 .bf16) (w1 : Fin 1024 → Fin 4096 → EReal)
    (hw : ∀ (j : Fin 8) (l : Fin 1024) (f : Fin 512), L.w1 j (ix2 l f) = w1 l ⟨512 * j.val + f.val, by omega⟩) (i : Fin 1024) (f : Fin 4096) :
    scratch L arg9 (ix2 i f) = hidden (fun l => res L (ix2 i l)) (fun l => L.gn (ix2 0 l)) w1 f
      * hidden (fun l => res L (ix2 i l)) (fun l => L.gn (ix2 0 l)) w1 f := by
  have hp : View.PiecesOf (fun y : S1024x4096.Idx => hidden (fun l => res L (ix2 (y 0) l)) (fun l => L.gn (ix2 0 l)) w1 (y 1)
      * hidden (fun l => res L (ix2 (y 0) l)) (fun l => L.gn (ix2 0 l)) w1 (y 1)) (hidPieces L) := by
    have key : ∀ (j : Fin 8) (x : S1024x512.Idx) (y : S1024x4096.Idx), (y 0).val = (x 0).val → (y 1).val = 512 * j.val + (x 1).val →
        sqOf (normedOf (res L) L.gn) (L.w1 j) x
          = hidden (fun l => res L (ix2 (y 0) l)) (fun l => L.gn (ix2 0 l)) w1 (y 1)
            * hidden (fun l => res L (ix2 (y 0) l)) (fun l => L.gn (ix2 0 l)) w1 (y 1) := by
      intro j x y h0 h1
      idx_vars x
      idx_vars y
      obtain rfl : y0 = x0 := Fin.ext h0
      have hx : x1.val < 512 := x1.isLt
      have hj := j.isLt
      have hb : 512 * j.val + x1.val < 4096 := by clear h1; omega
      obtain rfl : y1 = (⟨512 * j.val + x1.val, hb⟩ : Fin 4096) := Fin.ext h1
      exact sqOf_apply _ _ _ _ _ w1 _ fun l => hw j l x1
    have z : ∀ n : ℕ, 0 + 1 * n = n := fun n => by omega
    have z' : ∀ o n : ℕ, o + 1 * n = o + n := fun o n => by omega
    exact ⟨fun x => key 7 x _ (z _) (z' _ _), fun x => key 6 x _ (z _) (z' _ _), fun x => key 5 x _ (z _) (z' _ _), fun x => key 4 x _ (z _) (z' _ _),
      fun x => key 3 x _ (z _) (z' _ _), fun x => key 2 x _ (z _) (z' _ _), fun x => key 1 x _ (z _) (z' _ _), fun x => key 0 x _ (z _) (z' _ _), trivial⟩
  rw [scratch, View.readCov_eq_canon' ]
  refine (View.canon_apply_of_pieces (fun y : S1024x4096.Idx => hidden (fun l => res L (ix2 (y 0) l)) (fun l => L.gn (ix2 0 l)) w1 (y 1)
      * hidden (fun l => res L (ix2 (y 0) l)) (fun l => L.gn (ix2 0 l)) w1 (y 1)) _ hp.mem _ (hid_cover L _)).trans ?_
  have e : (Rect.unit (s := S1024x4096) ![0, 0] S1024x4096.size inb_S1024x4096_S1024x4096_0_0).toLoadRect.idx (ix2 i f) = ix2 i f := by
    funext a
    match a with
    | ⟨0, _⟩ => exact Fin.ext (show 0 + 1 * i.val = i.val by omega)
    | ⟨1, _⟩ => exact Fin.ext (show 0 + 1 * f.val = f.val by omega)
  rw [e]
  rfl

theorem outOf_apply (L : Loads Ideal) (arg9 : Memref sig .tc .vmem S1024x4096 .bf16) (w1 : Fin 1024 → Fin 4096 → EReal)
    (hw : ∀ (j : Fin 8) (l : Fin 1024) (f : Fin 512), L.w1 j (ix2 l f) = w1 l ⟨512 * j.val + f.val, by omega⟩) (i l : Fin 1024) :
    outOf L (scratch L arg9) (ix2 i l)
      = row (fun l => res L (ix2 i l)) (fun l => L.gn (ix2 0 l)) w1 (fun f l => L.w2 (ix2 f l)) l := by
  pointwise [outOf]
  simp only [scratch_apply L arg9 w1 hw]
  rfl

/-! ## One grid point -/

section
variable (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole)
  (x0 : Vec Ideal S1024x1024 .f32) (x1 : Vec Ideal S1024x512 .bf16) (x2 : Vec Ideal S1024x512 .bf16) (x3 : Vec Ideal S1024x1024 .bf16) (x4 : Vec Ideal S1x1024 .f32) (x5 : Vec Ideal S1024x4096 .bf16) (x6 : Vec Ideal S4096x1024 .bf16)

theorem out_point (c : Dev nD) (i' : grid0.Coords) (arg8 : Memref sig .tc .vmem S1024x1024 .f32) (harg8 : arg8.IsWhole) (arg9 : Memref sig .tc .vmem S1024x4096 .bf16) (harg9 : arg9.IsWhole) (i l : Fin 1024) :
    out0_A_7 c i' arg1 harg1 arg2 harg2 arg3 harg3 arg4 harg4 arg5 harg5 arg6 harg6 arg7 harg7 arg8 harg8 arg9 harg9 x0 x1 x2 x3 x4 x5 x6 (ix2 i l)
      = row (fun l => x0 (ix2 i l) + ∑ k : Fin 512, x1 (ix2 i k) * x3 (ix2 ⟨k.val, by omega⟩ l) + ∑ k : Fin 512, x2 (ix2 i k) * x3 (ix2 ⟨512 + k.val, by omega⟩ l)) (fun l => x4 (ix2 0 l)) (fun l f => x5 (ix2 l f)) (fun f l => x6 (ix2 f l)) l := by
  rw [out0_A_7, View.read_writes_junk_eq_canon, pieces]
  have hp : View.PiecesOf (outOf (loads arg1 harg1 arg2 harg2 arg3 harg3 arg4 harg4 arg5 harg5 arg6 harg6 arg7 harg7 x0 x1 x2 x3 x4 x5 x6) (scratch (loads arg1 harg1 arg2 harg2 arg3 harg3 arg4 harg4 arg5 harg5 arg6 harg6 arg7 harg7 x0 x1 x2 x3 x4 x5 x6) arg9))
      (outPieces (loads arg1 harg1 arg2 harg2 arg3 harg3 arg4 harg4 arg5 harg5 arg6 harg6 arg7 harg7 x0 x1 x2 x3 x4 x5 x6) arg9) := by
    refine ⟨fun x => congrArg _ (funext fun a => Fin.ext ?_), trivial⟩
    match a with
    | ⟨0, _⟩ => exact (show (x 0).val = 0 + 1 * (x 0).val by omega)
    | ⟨1, _⟩ => exact (show (x 1).val = 0 + 1 * (x 1).val by omega)
  refine (View.canon_apply_of_pieces _ _ hp.mem _ (View.cover_of_tiledL _ S1024x1024.size (by sl_kernel_rfl) _)).trans ?_
  refine (outOf_apply _ _ (fun l f => x5 (ix2 l f)) (fun j l f => ?_) i l).trans ?_
  · simp only [loads, View.readAt_eq_ld, harg1.read_unread, harg2.read_unread, harg3.read_unread, harg4.read_unread, harg5.read_unread, harg6.read_unread, harg7.read_unread]
    pointwise []
  · simp only [res_apply]
    simp only [loads, View.readAt_eq_ld, harg1.read_unread, harg2.read_unread, harg3.read_unread, harg4.read_unread, harg5.read_unread, harg6.read_unread, harg7.read_unread]
    pointwise []
end

/-! ## The arrays -/

variable (m : (ℓ : Loc nD τ sig) → Buf (Elt Ideal) ℓ) (c : Dev nD)

/-- The call's arguments: the residual stream. -/
abbrev A0 : (⟨3, ![8, 4096, 1024]⟩ : Shape).Idx → EReal := m ((c : Thread nD τ).loc main_arg0)

/-- The call's arguments: the first mixer's output. -/
abbrev A1 : (⟨3, ![8, 4096, 512]⟩ : Shape).Idx → EReal := m ((c : Thread nD τ).loc main_arg1)

/-- The call's arguments: the second mixer's output. -/
abbrev A2 : (⟨3, ![8, 4096, 512]⟩ : Shape).Idx → EReal := m ((c : Thread nD τ).loc main_arg2)

/-- The call's arguments: the projection. -/
abbrev A3 : (⟨2, ![1024, 1024]⟩ : Shape).Idx → EReal := m ((c : Thread nD τ).loc main_arg3)

/-- The call's arguments: the norm's weight. -/
abbrev A4 : (⟨1, ![1024]⟩ : Shape).Idx → EReal := m ((c : Thread nD τ).loc main_arg4)

/-- The call's arguments: the hidden layer's weight. -/
abbrev A5 : (⟨2, ![1024, 4096]⟩ : Shape).Idx → EReal := m ((c : Thread nD τ).loc main_arg5)

/-- The call's arguments: the output layer's weight. -/
abbrev A6 : (⟨2, ![4096, 1024]⟩ : Shape).Idx → EReal := m ((c : Thread nD τ).loc main_arg6)

theorem idx0 : ∀ t : Fin cfg0.N, win0_0.index t (0 : Fin 2) = t.val ∧ win0_0.index t (1 : Fin 2) = 0 :=
  (by decide +kernel : ∀ t : Fin grid0.N, _)

theorem blk0 (t : Fin cfg0.N) (r : Fin 1024) (l : Fin 1024) :
    iblk m c 0 t (ix2 r l) = V m c main_v4 (ix2 ⟨1024 * t.val + r.val, by have := lt_of_lt_of_eq t.isLt N_0; omega⟩ l) := by
  have e := idx0 t
  refine congrArg (V m c main_v4) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * l.val = l.val; omega

theorem idx1 : ∀ t : Fin cfg0.N, win0_1.index t (0 : Fin 2) = t.val ∧ win0_1.index t (1 : Fin 2) = 0 :=
  (by decide +kernel : ∀ t : Fin grid0.N, _)

theorem blk1 (t : Fin cfg0.N) (r : Fin 1024) (l : Fin 512) :
    iblk m c 1 t (ix2 r l) = V m c main_v1 (ix2 ⟨1024 * t.val + r.val, by have := lt_of_lt_of_eq t.isLt N_0; omega⟩ l) := by
  have e := idx1 t
  refine congrArg (V m c main_v1) (funext fun a => Fin.ext ?_)
  match a with
  | ⟨0, _⟩ => show win0_1.index t (0 : Fin 2) * 1024 + 1 * r.val = 1024 * t.val + r.val; omega
  | ⟨1, _⟩ => show win0_1.index t (1 : Fin 2) * 512 + 1 * l.val = l.val; omega

theorem idx2 : ∀ t : Fin cfg0.N, win0_2.index t (0 : Fin 2) = t.val ∧ win0_2.index t (1 : Fin 2) = 0 :=
  (by decide +kernel : ∀ t : Fin grid0.N, _)

theorem blk2 (t : Fin cfg0.N) (r : Fin 1024) (l : Fin 512) :
    iblk m c 2 t (ix2 r l) = V m c main_v3 (ix2 ⟨1024 * t.val + r.val, by have := lt_of_lt_of_eq t.isLt N_0; omega⟩ l) := by
  have e := idx2 t
  refine congrArg (V m c main_v3) (funext fun a => Fin.ext ?_)
  match a with
  | ⟨0, _⟩ => show win0_2.index t (0 : Fin 2) * 1024 + 1 * r.val = 1024 * t.val + r.val; omega
  | ⟨1, _⟩ => show win0_2.index t (1 : Fin 2) * 512 + 1 * l.val = l.val; omega

theorem idx3 : ∀ t : Fin cfg0.N, win0_3.index t (0 : Fin 2) = 0 ∧ win0_3.index t (1 : Fin 2) = 0 :=
  (by decide +kernel : ∀ t : Fin grid0.N, _)

theorem blk3 (t : Fin cfg0.N) (r : Fin 1024) (l : Fin 1024) :
    iblk m c 3 t (ix2 r l) = V m c main_v5 (ix2 r l) := by
  have e := idx3 t
  refine congrArg (V m c main_v5) (funext fun a => Fin.ext ?_)
  match a with
  | ⟨0, _⟩ => show win0_3.index t (0 : Fin 2) * 1024 + 1 * r.val = r.val; omega
  | ⟨1, _⟩ => show win0_3.index t (1 : Fin 2) * 1024 + 1 * l.val = l.val; omega

theorem idx4 : ∀ t : Fin cfg0.N, win0_4.index t (0 : Fin 2) = 0 ∧ win0_4.index t (1 : Fin 2) = 0 :=
  (by decide +kernel : ∀ t : Fin grid0.N, _)

theorem blk4 (t : Fin cfg0.N) (r : Fin 1) (l : Fin 1024) :
    iblk m c 4 t (ix2 r l) = V m c main_v6 (ix2 r l) := by
  have e := idx4 t
  refine congrArg (V m c main_v6) (funext fun a => Fin.ext ?_)
  match a with
  | ⟨0, _⟩ => show win0_4.index t (0 : Fin 2) * 1 + 1 * r.val = r.val; omega
  | ⟨1, _⟩ => show win0_4.index t (1 : Fin 2) * 1024 + 1 * l.val = l.val; omega

theorem idx5 : ∀ t : Fin cfg0.N, win0_5.index t (0 : Fin 2) = 0 ∧ win0_5.index t (1 : Fin 2) = 0 :=
  (by decide +kernel : ∀ t : Fin grid0.N, _)

theorem blk5 (t : Fin cfg0.N) (r : Fin 1024) (l : Fin 4096) :
    iblk m c 5 t (ix2 r l) = V m c main_v7 (ix2 r l) := by
  have e := idx5 t
  refine congrArg (V m c main_v7) (funext fun a => Fin.ext ?_)
  match a with
  | ⟨0, _⟩ => show win0_5.index t (0 : Fin 2) * 1024 + 1 * r.val = r.val; omega
  | ⟨1, _⟩ => show win0_5.index t (1 : Fin 2) * 4096 + 1 * l.val = l.val; omega

theorem idx6 : ∀ t : Fin cfg0.N, win0_6.index t (0 : Fin 2) = 0 ∧ win0_6.index t (1 : Fin 2) = 0 :=
  (by decide +kernel : ∀ t : Fin grid0.N, _)

theorem blk6 (t : Fin cfg0.N) (r : Fin 4096) (l : Fin 1024) :
    iblk m c 6 t (ix2 r l) = V m c main_v8 (ix2 r l) := by
  have e := idx6 t
  refine congrArg (V m c main_v8) (funext fun a => Fin.ext ?_)
  match a with
  | ⟨0, _⟩ => show win0_6.index t (0 : Fin 2) * 4096 + 1 * r.val = r.val; omega
  | ⟨1, _⟩ => show win0_6.index t (1 : Fin 2) * 1024 + 1 * l.val = l.val; omega

theorem arr0 (i : Fin 32768) (l : Fin 1024) : V m c main_v4 (ix2 i l) = A0 m c (ix3 ⟨i.val / 4096, by omega⟩ ⟨i.val % 4096, by omega⟩ l) := by
  unfold V hostOps0
  after_reads_at

theorem arr1 (i : Fin 32768) (l : Fin 512) : V m c main_v1 (ix2 i l) = A1 m c (ix3 ⟨i.val / 4096, by omega⟩ ⟨i.val % 4096, by omega⟩ l) := by
  unfold V hostOps0
  after_reads_at

theorem arr2 (i : Fin 32768) (l : Fin 512) : V m c main_v3 (ix2 i l) = A2 m c (ix3 ⟨i.val / 4096, by omega⟩ ⟨i.val % 4096, by omega⟩ l) := by
  unfold V hostOps0
  after_reads_at

theorem arr3 (r : Fin 1024) (l : Fin 1024) : V m c main_v5 (ix2 r l) = A3 m c (ix2 r l) := by
  unfold V hostOps0
  after_reads_at

theorem arr4 (l : Fin 1024) : V m c main_v6 (ix2 0 l) = A4 m c (ix1 l) := by
  unfold V hostOps0
  after_reads_at

theorem arr5 (r : Fin 1024) (l : Fin 4096) : V m c main_v7 (ix2 r l) = A5 m c (ix2 r l) := by
  unfold V hostOps0
  after_reads_at

theorem arr6 (r : Fin 4096) (l : Fin 1024) : V m c main_v8 (ix2 r l) = A6 m c (ix2 r l) := by
  unfold V hostOps0
  after_reads_at

/-- The call's whole output. -/
theorem out_apply (i : Fin 32768) (l : Fin 1024) :
    (dats m 0 c).arrAt 7 cfg0.N (ix2 i l)
      = rows (residual2 (A0 m c) (A1 m c) (A2 m c) (A3 m c)) (A4 m c) (A5 m c) (A6 m c) i l := by
  have ht : i.val / 1024 < cfg0.N := lt_of_lt_of_eq (by omega) N_0.symm
  have hf : ∀ t : Fin cfg0.N, (cfg0.win 7).flush t = true := (by decide +kernel : ∀ t : Fin grid0.N, _)
  have hi : ∀ t : Fin cfg0.N, win0_7.index t (0 : Fin 2) = t.val ∧ win0_7.index t (1 : Fin 2) = 0 := (by decide +kernel : ∀ t : Fin grid0.N, _)
  have b := congrFun (blocks7 m c ⟨i.val / 1024, ht⟩ (hf _)) (ix2 (⟨i.val % 1024, Nat.mod_lt _ (by decide)⟩ : Fin 1024) l)
  rw [flushed7] at b
  have e := hi ⟨i.val / 1024, ht⟩
  have ea : (ix2 i l : S32768x1024.Idx) = ((cfg0.win 7).blk ⟨i.val / 1024, ht⟩).view.emb (ix2 (⟨i.val % 1024, Nat.mod_lt _ (by decide)⟩ : Fin 1024) l) := by
    funext a
    apply Fin.ext
    match a with
    | ⟨0, _⟩ => show i.val = win0_7.index ⟨i.val / 1024, ht⟩ (0 : Fin 2) * 1024 + 1 * (i.val % 1024); rw [e.1]; simp only; omega
    | ⟨1, _⟩ => show l.val = win0_7.index ⟨i.val / 1024, ht⟩ (1 : Fin 2) * 1024 + 1 * l.val; omega
  rw [ea]
  refine b.trans ?_
  refine (show _ = outsAt0 m c ⟨i.val / 1024, ht⟩ (ix2 (⟨i.val % 1024, Nat.mod_lt _ (by decide)⟩ : Fin 1024) l) from rfl).trans ?_
  rw [outsAt0, out_point]
  have er : 1024 * (i.val / 1024) + i.val % 1024 = i.val := by omega
  simp only [blk0, blk1, blk2, blk3, blk4, blk5, blk6, er]
  exact row_congr (fun l => congrArg₂ (fun x y : EReal => x + y) (congrArg₂ (fun x y : EReal => x + y) (arr0 m c i l)
    (Finset.sum_congr rfl fun k _ => congrArg₂ (fun x y : EReal => x * y) (arr1 m c i k) (arr3 m c ⟨k.val, by omega⟩ l)))
    (Finset.sum_congr rfl fun k _ => congrArg₂ (fun x y : EReal => x * y) (arr2 m c i k) (arr3 m c ⟨512 + k.val, by omega⟩ l))) (fun l => arr4 m c l) (fun l f => arr5 m c l f) (fun f l => arr6 m c f l) l

end Cert.Kernel3Ideal.Post

end
-- ==== Proof.Post3Reference.lean ====
/-
  The plain layer after its mixer: its run's output, read at an index.
-/
module

public import proofs.«01_k».proof.Proof.PostSpec
public import proofs.«01_k».proof.Proof.Gen.Reference3Ideal
public import proofs.«01_k».proof.Proof.Gen.Reference3Ideal.Run

@[expose] public section

set_option maxRecDepth 16384

noncomputable section

open Idealize.ShloMosaic Idealize.ShloMosaic.TcCoe Idealize.SL.Sem

namespace Cert.Reference3Ideal.Post

open Cert.Reference3Ideal Cert.Reference3Ideal.Gen Cert.Post

/-- An array's value at an index. -/
abbrev rd (s : Shape) (x : s.Idx → EReal) (i : s.Idx) : EReal := x i

/-- The residual stream after the mixer. -/
def residOf (x mx : FVec Ideal S8x4096x1024 .f32) (wo : FVec Ideal S1024x1024 .f32) : FVec Ideal S8x4096x1024 .f32 :=
  addf x (Host.dotGeneral dot_S8x4096x1024_S1024x1024_S8x4096x1024_2_0_01_1_n_n none mx wo)

/-- The normed rows. -/
def normedOf (u : FVec Ideal S8x4096x1024 .f32) (g : FVec Ideal S1024 .f32) : FVec Ideal S8x4096x1024 .f32 :=
  mulf (mulf u (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf u u) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The hidden units. -/
def hiddenOf (h : FVec Ideal S8x4096x1024 .f32) (w1 : FVec Ideal S1024x4096 .f32) : FVec Ideal S8x4096x4096 .f32 :=
  maximumf (Host.dotGeneral dot_S8x4096x1024_S1024x4096_S8x4096x4096_2_0_01_1_n_n none h w1)
    (broadcastInDim S8x4096x4096 ![] bcast_S_S8x4096x4096 (constant S_ .f32 0x00000000#32))

/-- The layer's output. -/
def rowsOf (u : FVec Ideal S8x4096x1024 .f32) (g : FVec Ideal S1024 .f32) (w1 : FVec Ideal S1024x4096 .f32) (w2 : FVec Ideal S4096x1024 .f32) :
    FVec Ideal S32768x1024 .f32 :=
  shapeCast S32768x1024 (addf u (Host.dotGeneral dot_S8x4096x4096_S4096x1024_S8x4096x1024_2_0_01_1_n_n none
    (mulf (hiddenOf (normedOf u g) w1) (hiddenOf (normedOf u g) w1)) w2)) shapeCasts_S8x4096x1024_S32768x1024

theorem normedOf_apply (u : FVec Ideal S8x4096x1024 .f32) (g : FVec Ideal S1024 .f32) (B : Fin 8) (n : Fin 4096) (l : Fin 1024) :
    normedOf u g (ix3 B n l) = normed (fun l => u (ix3 B n l)) (fun l => g (ix1 l)) l := by
  pointwise [normedOf]
  rfl

theorem hiddenOf_apply (u : FVec Ideal S8x4096x1024 .f32) (g : FVec Ideal S1024 .f32) (w1 : FVec Ideal S1024x4096 .f32) (B : Fin 8) (n f : Fin 4096) :
    hiddenOf (normedOf u g) w1 (ix3 B n f) = hidden (fun l => u (ix3 B n l)) (fun l => g (ix1 l)) (fun l f => w1 (ix2 l f)) f := by
  pointwise [hiddenOf]
  simp only [normedOf_apply]
  rfl

theorem rowsOf_apply (u : FVec Ideal S8x4096x1024 .f32) (g : FVec Ideal S1024 .f32) (w1 : FVec Ideal S1024x4096 .f32) (w2 : FVec Ideal S4096x1024 .f32)
    (i : Fin 32768) (l : Fin 1024) :
    rowsOf u g w1 w2 (ix2 i l) = row (fun l => u (ix3 ⟨i.val / 4096, by omega⟩ ⟨i.val % 4096, by omega⟩ l)) (fun l => g (ix1 l))
      (fun l f => w1 (ix2 l f)) (fun f l => w2 (ix2 f l)) l := by
  pointwise [rowsOf]
  simp only [hiddenOf_apply]
  rfl

variable (m : (ℓ : Loc nD τ sig) → Buf (Elt Ideal) ℓ) (c : Dev nD)

/-- The arguments: the residual stream. -/
abbrev A0 : (⟨3, ![8, 4096, 1024]⟩ : Shape).Idx → EReal := m ((c.tc : Thread nD τ).loc main_arg0)

/-- The arguments: the first mixer's output. -/
abbrev A1 : (⟨3, ![8, 4096, 512]⟩ : Shape).Idx → EReal := m ((c.tc : Thread nD τ).loc main_arg1)

/-- The arguments: the second mixer's output. -/
abbrev A2 : (⟨3, ![8, 4096, 512]⟩ : Shape).Idx → EReal := m ((c.tc : Thread nD τ).loc main_arg2)

/-- The arguments: the projection. -/
abbrev A3 : (⟨2, ![1024, 1024]⟩ : Shape).Idx → EReal := m ((c.tc : Thread nD τ).loc main_arg3)

/-- The arguments: the norm's weight. -/
abbrev A4 : (⟨1, ![1024]⟩ : Shape).Idx → EReal := m ((c.tc : Thread nD τ).loc main_arg4)

/-- The arguments: the hidden layer's weight. -/
abbrev A5 : (⟨2, ![1024, 4096]⟩ : Shape).Idx → EReal := m ((c.tc : Thread nD τ).loc main_arg5)

/-- The arguments: the output layer's weight. -/
abbrev A6 : (⟨2, ![4096, 1024]⟩ : Shape).Idx → EReal := m ((c.tc : Thread nD τ).loc main_arg6)

/-- The mixer's output. -/
def mixOf : FVec Ideal S8x4096x1024 .f32 :=
  concatenate S8x4096x1024 2 [⟨S8x4096x512, m ((c.tc : Thread nD τ).loc main_arg1)⟩, ⟨S8x4096x512, m ((c.tc : Thread nD τ).loc main_arg2)⟩] concatenates_S8x4096x512_S8x4096x512_S8x4096x1024_d2

theorem residOf_apply (B : Fin 8) (n : Fin 4096) (l : Fin 1024) :
    residOf (m ((c.tc : Thread nD τ).loc main_arg0)) (mixOf m c) (m ((c.tc : Thread nD τ).loc main_arg3)) (ix3 B n l) = residual2 (A0 m c) (A1 m c) (A2 m c) (A3 m c) B n l := by
  unfold residual2
  have e : ∀ k : Fin 1024, rd S8x4096x1024 (mixOf m c) (ix3 B n k)
      = if h : k.val < 512 then A1 m c (ix3 B n ⟨k.val, h⟩) else A2 m c (ix3 B n ⟨k.val - 512, by omega⟩) := by
    intro k
    pointwise [rd, mixOf]
  have e' : residOf (A0 m c) (mixOf m c) (A3 m c) (ix3 B n l)
      = A0 m c (ix3 B n l) + ∑ k : Fin 1024, rd S8x4096x1024 (mixOf m c) (ix3 B n k) * A3 m c (ix2 k l) := by
    pointwise [residOf]
  rw [e', add_assoc]
  refine congrArg (A0 m c (ix3 B n l) + ·) ?_
  rw [show (∑ k : Fin 1024, rd S8x4096x1024 (mixOf m c) (ix3 B n k) * A3 m c (ix2 k l))
      = ∑ k : Fin (512 + 512), rd S8x4096x1024 (mixOf m c) (ix3 B n k) * A3 m c (ix2 k l) from rfl, Fin.sum_univ_add]
  refine congrArg₂ (· + ·) (Finset.sum_congr rfl fun k _ => ?_) (Finset.sum_congr rfl fun k _ => ?_)
  · rw [e, dif_pos (show (Fin.castAdd 512 k).val < 512 from k.isLt)]
    rfl
  · rw [e, dif_neg (show ¬(Fin.natAdd 512 k).val < 512 by simp)]
    refine congrArg₂ (· * ·) (congrArg (A2 m c) (congrArg (ix3 B n) (Fin.ext ?_))) rfl
    simp

/-- The output of the run. -/
def outR : FVec Ideal S32768x1024 .f32 :=
  rowsOf (residOf (m ((c.tc : Thread nD τ).loc main_arg0)) (mixOf m c) (m ((c.tc : Thread nD τ).loc main_arg3))) (m ((c.tc : Thread nD τ).loc main_arg4)) (m ((c.tc : Thread nD τ).loc main_arg5)) (m ((c.tc : Thread nD τ).loc main_arg6))

theorem out_apply (i : Fin 32768) (l : Fin 1024) :
    outR m c (ix2 i l) = rows (residual2 (A0 m c) (A1 m c) (A2 m c) (A3 m c)) (A4 m c) (A5 m c) (A6 m c) i l := by
  unfold outR
  rw [rowsOf_apply]
  exact row_congr (fun l => residOf_apply m c _ _ l) (fun _ => rfl) (fun _ _ => rfl) (fun _ _ => rfl) l

/-- Every execution ends with that output and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v21) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans rfl, (h c).2⟩) (Cert.Reference3Ideal.Value.run m ρ)

end Cert.Reference3Ideal.Post

end
-- ==== Proof.ProjPoint.lean ====
/-
  What one grid point of the input projection's call writes to its five blocks, read at an index.
-/
module

public import proofs.«01_k».proof.Proof.ProjSpec
public import proofs.«01_k».proof.Proof.Gen.Kernel4Ideal.Value
public import Idealize.ShloMosaic.Lib.Pipeline.ReadBack

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen

open Cert.Post Cert.Proj

/-! ## The values a half block stores -/

theorem normed_lo (a : Vec Ideal S512x1024 .f32) (b : Vec Ideal S1x1024 .f32) (i : Fin 512) (l : Fin 1024) :
    k0_pay4 a b (ix2 i l) = normed (fun l => a (ix2 i l)) (fun l => b (ix2 0 l)) l := by
  pointwise [k0_pay4]
  rfl

theorem normed_hi (a : Vec Ideal S512x1024 .f32) (b : Vec Ideal S1x1024 .f32) (i : Fin 512) (l : Fin 1024) :
    k0_pay12 a b (ix2 i l) = normed (fun l => a (ix2 i l)) (fun l => b (ix2 0 l)) l := by
  pointwise [k0_pay12]
  rfl

section
variable (a : Vec Ideal S512x1024 .f32) (b : Vec Ideal S1x1024 .f32) (w : Vec Ideal S1024x512 .bf16) (v : Vec Ideal S1024x1152 .bf16) (i l : Fin 512) (j : Fin 1152)

/-- The row's product with a column of the narrow block. -/
abbrev ent : EReal := entry (fun l => a (ix2 i l)) (fun l => b (ix2 0 l)) fun k => w (ix2 k l)

theorem in_lo : k0_pay7 a b v (ix2 i j) = entry (fun l => a (ix2 i l)) (fun l => b (ix2 0 l)) fun k => v (ix2 k j) := by
  pointwise [k0_pay7]
  simp only [normed_lo]
  rfl

theorem in_hi : k0_pay15 a b v (ix2 i j) = entry (fun l => a (ix2 i l)) (fun l => b (ix2 0 l)) fun k => v (ix2 k j) := by
  pointwise [k0_pay15]
  simp only [normed_hi]
  rfl

theorem va_lo : k0_pay8 a b w (ix2 i l) = ent a b w i l := by
  pointwise [k0_pay8]
  simp only [normed_lo]
  rfl

theorem va_hi : k0_pay16 a b w (ix2 i l) = ent a b w i l := by
  pointwise [k0_pay16]
  simp only [normed_hi]
  rfl

theorem vb_lo : k0_pay9 (k0_pay4 a b) w (ix2 i l) = ent a b w i l := by
  pointwise [k0_pay9]
  simp only [normed_lo]
  rfl

theorem vb_hi : k0_pay1 (k0_pay17 a b w) (ix2 i l) = ent a b w i l := by
  pointwise [k0_pay1, k0_pay17]
  simp only [normed_hi]
  rfl

theorem q_lo : k0_pay5 a b w (ix2 i l) = ent a b w i l := by
  pointwise [k0_pay5]
  simp only [normed_lo]
  rfl

theorem q_hi : k0_pay13 a b w (ix2 i l) = ent a b w i l := by
  pointwise [k0_pay13]
  simp only [normed_hi]
  rfl

theorem k_lo : k0_pay6 a b w (ix2 i l) = ent a b w i l := by
  pointwise [k0_pay6]
  simp only [normed_lo]
  rfl

theorem k_hi : k0_pay14 a b w (ix2 i l) = ent a b w i l := by
  pointwise [k0_pay14]
  simp only [normed_hi]
  rfl
end

section
variable (y : FVec Ideal S512x512 .f32) (gn : Vec Ideal S1x512 .f32) (tb : Vec Ideal S512x512 .bf16) (i l : Fin 512)

/-- A lane of a row, normed by the table's means. -/
def tabled (y : Fin 512 → EReal) (tb : Fin 512 → Fin 512 → EReal) (gn : Fin 512 → EReal) (l : Fin 512) : EReal :=
  y l * Ideal.rsqrt ((∑ k, y k * y k * tb k l) + eps) * gn l

theorem norm2 : k0_pay2 y gn tb (ix2 i l) = tabled (fun l => y (ix2 i l)) (fun k l => tb (ix2 k l)) (fun l => gn (ix2 0 l)) l := by
  pointwise [k0_pay2]
  rfl

theorem norm3 : k0_pay3 y gn tb (ix2 i l) = tabled (fun l => y (ix2 i l)) (fun k l => tb (ix2 k l)) (fun l => gn (ix2 0 l)) l := by
  pointwise [k0_pay3]
  rfl

theorem norm10 : k0_pay10 y gn tb (ix2 i l) = tabled (fun l => y (ix2 i l)) (fun k l => tb (ix2 k l)) (fun l => gn (ix2 0 l)) l := by
  pointwise [k0_pay10]
  rfl

theorem norm11 : k0_pay11 y gn tb (ix2 i l) = tabled (fun l => y (ix2 i l)) (fun k l => tb (ix2 k l)) (fun l => gn (ix2 0 l)) l := by
  pointwise [k0_pay11]
  rfl
end

/-! ## The five blocks of a grid point -/

section
variable (b0 : Vec Ideal S1024x1024 .f32) (b1 : Vec Ideal S1x1024 .f32) (b2 : Vec Ideal S1024x3200 .bf16) (b3 : Vec Ideal S1x512 .f32) (b4 : Vec Ideal S1x512 .f32) (b5 : Vec Ideal S512x512 .bf16)

/-- Row `i`'s product with column `j` of the weight. -/
def prodAt (i : Fin 1024) (j : Fin 3200) : EReal := entry (fun l => b0 (ix2 i l)) (fun l => b1 (ix2 0 l)) fun k => b2 (ix2 k j)

/-- Row `i`'s products with the 512 columns from `o`. -/
def prods (o : ℕ) (ho : o + 512 ≤ 3200) (i : Fin 1024) (l : Fin 512) : EReal := prodAt b0 b1 b2 i ⟨o + l.val, by omega⟩

/-- Pieces that are blocks of one function and cover an index leave that function's value there. -/
theorem canon_pieces {s : Shape} {e : EltTy} {G : s.Idx → Elt Ideal e} {L : List (View.Piece (Elt Ideal) s e)} (hp : View.PiecesOf G L) (y : s.Idx)
    (hc : ∃ p ∈ L, y ∈ p.1.set) : View.canon L y = G y :=
  View.canon_apply_of_pieces G L hp.mem y hc

theorem z1 (n : ℕ) : 0 + 1 * n = n := by omega

theorem z2 (o n : ℕ) : o + 1 * n = o + n := by omega

theorem point6 (i : Fin 1024) (j : Fin 1152) : out0_6 b0 b1 b2 b3 b4 b5 (ix2 i j) = prodAt b0 b1 b2 i ⟨j.val, by omega⟩ := by
  have hi : ∀ (x : S512x1152.Idx) (y : S1024x1152.Idx), (y 0).val = 512 + (x 0).val → (y 1).val = (x 1).val →
      k0_pay15 (View.ld b0 r0_11) (View.ld b1 r0_1) (View.ld b2 r0_4) x = prodAt b0 b1 b2 (y 0) ⟨(y 1).val, lt_of_lt_of_le (y 1).isLt (by decide)⟩ := by
    intro x y h0 h1
    idx_vars x
    idx_vars y
    have hx : x0.val < 512 := x0.isLt
    obtain rfl : y1 = x1 := Fin.ext h1
    have hb : 512 + x0.val < 1024 := by clear h0; omega
    obtain rfl : y0 = (⟨512 + x0.val, hb⟩ : Fin 1024) := Fin.ext h0
    refine (in_hi _ _ _ _ _).trans ?_
    unfold prodAt
    pointwise []
  have lo : ∀ (x : S512x1152.Idx) (y : S1024x1152.Idx), (y 0).val = (x 0).val → (y 1).val = (x 1).val →
      k0_pay7 (View.ld b0 r0_0) (View.ld b1 r0_1) (View.ld b2 r0_4) x = prodAt b0 b1 b2 (y 0) ⟨(y 1).val, lt_of_lt_of_le (y 1).isLt (by decide)⟩ := by
    intro x y h0 h1
    idx_vars x
    idx_vars y
    have hx : x0.val < 512 := x0.isLt
    obtain rfl : y1 = x1 := Fin.ext h1
    have hb : x0.val < 1024 := by clear h0; omega
    obtain rfl : y0 = (⟨x0.val, hb⟩ : Fin 1024) := Fin.ext h0
    refine (in_lo _ _ _ _ _).trans ?_
    unfold prodAt
    pointwise []
  have hp : View.PiecesOf (fun y : S1024x1152.Idx => prodAt b0 b1 b2 (y 0) ⟨(y 1).val, lt_of_lt_of_le (y 1).isLt (by decide)⟩) ([⟨r0_12, k0_pay15 (View.ld b0 r0_11) (View.ld b1 r0_1) (View.ld b2 r0_4)⟩, ⟨r0_5, k0_pay7 (View.ld b0 r0_0) (View.ld b1 r0_1) (View.ld b2 r0_4)⟩] : List (View.Piece (Elt Ideal) S1024x1152 .f32)) := by
    exact ⟨fun x => hi x _ (z2 _ _) (z1 _), fun x => lo x _ (z1 _) (z1 _), trivial⟩
  exact canon_pieces hp _ (cover0_6 _ _ _)

theorem point7 (i : Fin 1024) (j : Fin 512) : out0_7 b0 b1 b2 b3 b4 b5 (ix2 i j) = prods b0 b1 b2 1152 (by decide) i j := by
  have hi : ∀ (x : S512x512.Idx) (y : S1024x512.Idx), (y 0).val = 512 + (x 0).val → (y 1).val = (x 1).val →
      k0_pay16 (View.ld b0 r0_11) (View.ld b1 r0_1) (View.ld b2 r0_6) x = prods b0 b1 b2 1152 (by decide) (y 0) (y 1) := by
    intro x y h0 h1
    idx_vars x
    idx_vars y
    have hx : x0.val < 512 := x0.isLt
    obtain rfl : y1 = x1 := Fin.ext h1
    have hb : 512 + x0.val < 1024 := by clear h0; omega
    obtain rfl : y0 = (⟨512 + x0.val, hb⟩ : Fin 1024) := Fin.ext h0
    refine (va_hi _ _ _ _ _).trans ?_
    unfold ent prods prodAt
    pointwise []
  have lo : ∀ (x : S512x512.Idx) (y : S1024x512.Idx), (y 0).val = (x 0).val → (y 1).val = (x 1).val →
      k0_pay8 (View.ld b0 r0_0) (View.ld b1 r0_1) (View.ld b2 r0_6) x = prods b0 b1 b2 1152 (by decide) (y 0) (y 1) := by
    intro x y h0 h1
    idx_vars x
    idx_vars y
    have hx : x0.val < 512 := x0.isLt
    obtain rfl : y1 = x1 := Fin.ext h1
    have hb : x0.val < 1024 := by clear h0; omega
    obtain rfl : y0 = (⟨x0.val, hb⟩ : Fin 1024) := Fin.ext h0
    refine (va_lo _ _ _ _ _).trans ?_
    unfold ent prods prodAt
    pointwise []
  have hp : View.PiecesOf (fun y : S1024x512.Idx => prods b0 b1 b2 1152 (by decide) (y 0) (y 1)) ([⟨r0_13, k0_pay16 (View.ld b0 r0_11) (View.ld b1 r0_1) (View.ld b2 r0_6)⟩, ⟨r0_7, k0_pay8 (View.ld b0 r0_0) (View.ld b1 r0_1) (View.ld b2 r0_6)⟩] : List (View.Piece (Elt Ideal) S1024x512 .bf16)) := by
    exact ⟨fun x => hi x _ (z2 _ _) (z1 _), fun x => lo x _ (z1 _) (z1 _), trivial⟩
  exact canon_pieces hp _ (cover0_7 _ _ _)

theorem point10 (i : Fin 1024) (j : Fin 512) : out0_10 b0 b1 b2 b3 b4 b5 (ix2 i j) = prods b0 b1 b2 2688 (by decide) i j := by
  have hi : ∀ (x : S512x512.Idx) (y : S1024x512.Idx), (y 0).val = 512 + (x 0).val → (y 1).val = (x 1).val →
      k0_pay1 (k0_pay17 (View.ld b0 r0_11) (View.ld b1 r0_1) (View.ld b2 r0_8)) x = prods b0 b1 b2 2688 (by decide) (y 0) (y 1) := by
    intro x y h0 h1
    idx_vars x
    idx_vars y
    have hx : x0.val < 512 := x0.isLt
    obtain rfl : y1 = x1 := Fin.ext h1
    have hb : 512 + x0.val < 1024 := by clear h0; omega
    obtain rfl : y0 = (⟨512 + x0.val, hb⟩ : Fin 1024) := Fin.ext h0
    refine (vb_hi _ _ _ _ _).trans ?_
    unfold ent prods prodAt
    pointwise []
  have lo : ∀ (x : S512x512.Idx) (y : S1024x512.Idx), (y 0).val = (x 0).val → (y 1).val = (x 1).val →
      k0_pay9 (k0_pay4 (View.ld b0 r0_0) (View.ld b1 r0_1)) (View.ld b2 r0_8) x = prods b0 b1 b2 2688 (by decide) (y 0) (y 1) := by
    intro x y h0 h1
    idx_vars x
    idx_vars y
    have hx : x0.val < 512 := x0.isLt
    obtain rfl : y1 = x1 := Fin.ext h1
    have hb : x0.val < 1024 := by clear h0; omega
    obtain rfl : y0 = (⟨x0.val, hb⟩ : Fin 1024) := Fin.ext h0
    refine (vb_lo _ _ _ _ _).trans ?_
    unfold ent prods prodAt
    pointwise []
  have hp : View.PiecesOf (fun y : S1024x512.Idx => prods b0 b1 b2 2688 (by decide) (y 0) (y 1)) ([⟨r0_13, k0_pay1 (k0_pay17 (View.ld b0 r0_11) (View.ld b1 r0_1) (View.ld b2 r0_8))⟩, ⟨r0_7, k0_pay9 (k0_pay4 (View.ld b0 r0_0) (View.ld b1 r0_1)) (View.ld b2 r0_8)⟩] : List (View.Piece (Elt Ideal) S1024x512 .bf16)) := by
    exact ⟨fun x => hi x _ (z2 _ _) (z1 _), fun x => lo x _ (z1 _) (z1 _), trivial⟩
  exact canon_pieces hp _ (cover0_10 _ _ _)

/-- Equal lanes, tables and gains give equal normed lanes. -/
theorem tabled_congr {y y' : Fin 512 → EReal} {tb tb' : Fin 512 → Fin 512 → EReal} {gn gn' : Fin 512 → EReal} (hy : ∀ l, y l = y' l)
    (ht : ∀ k l, tb k l = tb' k l) (hg : ∀ l, gn l = gn' l) (l : Fin 512) : tabled y tb gn l = tabled y' tb' gn' l := by
  rw [show y = y' from funext hy, show tb = tb' from funext fun k => funext (ht k), show gn = gn' from funext hg]

theorem point8 (i : Fin 1024) (j : Fin 512) : out0_8 b0 b1 b2 b3 b4 b5 (ix2 i j) = tabled (prods b0 b1 b2 1664 (by decide) i) (fun k l => b5 (ix2 k l)) (fun l => b3 (ix2 0 l)) j := by
  have hi : ∀ (x : S512x512.Idx) (y : S1024x512.Idx), (y 0).val = 512 + (x 0).val → (y 1).val = (x 1).val →
      k0_pay2 (k0_pay13 (View.ld b0 r0_11) (View.ld b1 r0_1) (View.ld b2 r0_2)) (View.ld b3 r0_9) (View.ld b5 r0_10) x = tabled (prods b0 b1 b2 1664 (by decide) (y 0)) (fun k l => b5 (ix2 k l)) (fun l => b3 (ix2 0 l)) (y 1) := by
    intro x y h0 h1
    idx_vars x
    idx_vars y
    have hx : x0.val < 512 := x0.isLt
    obtain rfl : y1 = x1 := Fin.ext h1
    have hb : 512 + x0.val < 1024 := by clear h0; omega
    obtain rfl : y0 = (⟨512 + x0.val, hb⟩ : Fin 1024) := Fin.ext h0
    refine (norm2 _ _ _ _ _).trans ?_
    refine tabled_congr (fun l => (q_hi _ _ _ _ _).trans ?_) (fun k l => ?_) (fun l => ?_) _
    · unfold ent prods prodAt
      pointwise []
    · pointwise []
    · pointwise []
  have lo : ∀ (x : S512x512.Idx) (y : S1024x512.Idx), (y 0).val = (x 0).val → (y 1).val = (x 1).val →
      k0_pay10 (k0_pay5 (View.ld b0 r0_0) (View.ld b1 r0_1) (View.ld b2 r0_2)) (View.ld b3 r0_9) (View.ld b5 r0_10) x = tabled (prods b0 b1 b2 1664 (by decide) (y 0)) (fun k l => b5 (ix2 k l)) (fun l => b3 (ix2 0 l)) (y 1) := by
    intro x y h0 h1
    idx_vars x
    idx_vars y
    have hx : x0.val < 512 := x0.isLt
    obtain rfl : y1 = x1 := Fin.ext h1
    have hb : x0.val < 1024 := by clear h0; omega
    obtain rfl : y0 = (⟨x0.val, hb⟩ : Fin 1024) := Fin.ext h0
    refine (norm10 _ _ _ _ _).trans ?_
    refine tabled_congr (fun l => (q_lo _ _ _ _ _).trans ?_) (fun k l => ?_) (fun l => ?_) _
    · unfold ent prods prodAt
      pointwise []
    · pointwise []
    · pointwise []
  have hp : View.PiecesOf (fun y : S1024x512.Idx => tabled (prods b0 b1 b2 1664 (by decide) (y 0)) (fun k l => b5 (ix2 k l)) (fun l => b3 (ix2 0 l)) (y 1)) ([⟨r0_13, k0_pay2 (k0_pay13 (View.ld b0 r0_11) (View.ld b1 r0_1) (View.ld b2 r0_2)) (View.ld b3 r0_9) (View.ld b5 r0_10)⟩, ⟨r0_7, k0_pay10 (k0_pay5 (View.ld b0 r0_0) (View.ld b1 r0_1) (View.ld b2 r0_2)) (View.ld b3 r0_9) (View.ld b5 r0_10)⟩] : List (View.Piece (Elt Ideal) S1024x512 .bf16)) := by
    exact ⟨fun x => hi x _ (z2 _ _) (z1 _), fun x => lo x _ (z1 _) (z1 _), trivial⟩
  exact canon_pieces hp _ (cover0_8 _ _ _)

theorem point9 (i : Fin 1024) (j : Fin 512) : out0_9 b0 b1 b2 b3 b4 b5 (ix2 i j) = tabled (prods b0 b1 b2 2176 (by decide) i) (fun k l => b5 (ix2 k l)) (fun l => b4 (ix2 0 l)) j := by
  have hi : ∀ (x : S512x512.Idx) (y : S1024x512.Idx), (y 0).val = 512 + (x 0).val → (y 1).val = (x 1).val →
      k0_pay3 (k0_pay14 (View.ld b0 r0_11) (View.ld b1 r0_1) (View.ld b2 r0_3)) (View.ld b4 r0_9) (View.ld b5 r0_10) x = tabled (prods b0 b1 b2 2176 (by decide) (y 0)) (fun k l => b5 (ix2 k l)) (fun l => b4 (ix2 0 l)) (y 1) := by
    intro x y h0 h1
    idx_vars x
    idx_vars y
    have hx : x0.val < 512 := x0.isLt
    obtain rfl : y1 = x1 := Fin.ext h1
    have hb : 512 + x0.val < 1024 := by clear h0; omega
    obtain rfl : y0 = (⟨512 + x0.val, hb⟩ : Fin 1024) := Fin.ext h0
    refine (norm3 _ _ _ _ _).trans ?_
    refine tabled_congr (fun l => (k_hi _ _ _ _ _).trans ?_) (fun k l => ?_) (fun l => ?_) _
    · unfold ent prods prodAt
      pointwise []
    · pointwise []
    · pointwise []
  have lo : ∀ (x : S512x512.Idx) (y : S1024x512.Idx), (y 0).val = (x 0).val → (y 1).val = (x 1).val →
      k0_pay11 (k0_pay6 (View.ld b0 r0_0) (View.ld b1 r0_1) (View.ld b2 r0_3)) (View.ld b4 r0_9) (View.ld b5 r0_10) x = tabled (prods b0 b1 b2 2176 (by decide) (y 0)) (fun k l => b5 (ix2 k l)) (fun l => b4 (ix2 0 l)) (y 1) := by
    intro x y h0 h1
    idx_vars x
    idx_vars y
    have hx : x0.val < 512 := x0.isLt
    obtain rfl : y1 = x1 := Fin.ext h1
    have hb : x0.val < 1024 := by clear h0; omega
    obtain rfl : y0 = (⟨x0.val, hb⟩ : Fin 1024) := Fin.ext h0
    refine (norm11 _ _ _ _ _).trans ?_
    refine tabled_congr (fun l => (k_lo _ _ _ _ _).trans ?_) (fun k l => ?_) (fun l => ?_) _
    · unfold ent prods prodAt
      pointwise []
    · pointwise []
    · pointwise []
  have hp : View.PiecesOf (fun y : S1024x512.Idx => tabled (prods b0 b1 b2 2176 (by decide) (y 0)) (fun k l => b5 (ix2 k l)) (fun l => b4 (ix2 0 l)) (y 1)) ([⟨r0_13, k0_pay3 (k0_pay14 (View.ld b0 r0_11) (View.ld b1 r0_1) (View.ld b2 r0_3)) (View.ld b4 r0_9) (View.ld b5 r0_10)⟩, ⟨r0_7, k0_pay11 (k0_pay6 (View.ld b0 r0_0) (View.ld b1 r0_1) (View.ld b2 r0_3)) (View.ld b4 r0_9) (View.ld b5 r0_10)⟩] : List (View.Piece (Elt Ideal) S1024x512 .bf16)) := by
    exact ⟨fun x => hi x _ (z2 _ _) (z1 _), fun x => lo x _ (z1 _) (z1 _), trivial⟩
  exact canon_pieces hp _ (cover0_9 _ _ _)

end

end Cert.Kernel4Ideal.Proj

end
-- ==== Proof.ProjEntry.lean ====
/-
  The arrays the input projection's call is entered with, from the arguments.
-/
module

public import proofs.«01_k».proof.Proof.ProjPoint
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Post Cert.Proj

variable (m : (ℓ : Loc nD τ sig) → Buf (Elt Ideal) ℓ) (c : Dev nD)

/-- The call's arguments: the residual stream. -/
abbrev A0 : (⟨3, ![8, 4096, 1024]⟩ : Shape).Idx → EReal := m ((c : Thread nD τ).loc main_arg0)

/-- The call's arguments: the norm's weight. -/
abbrev A1 : (⟨1, ![1024]⟩ : Shape).Idx → EReal := m ((c : Thread nD τ).loc main_arg1)

/-- The call's arguments: the projection. -/
abbrev A2 : (⟨2, ![1024, 3088]⟩ : Shape).Idx → EReal := m ((c : Thread nD τ).loc main_arg2)

/-- The call's arguments: the gain of the queries' norm. -/
abbrev A3 : (⟨1, ![64]⟩ : Shape).Idx → EReal := m ((c : Thread nD τ).loc main_arg3)

/-- The call's arguments: the gain of the keys' norm. -/
abbrev A4 : (⟨1, ![64]⟩ : Shape).Idx → EReal := m ((c : Thread nD τ).loc main_arg4)

theorem arr0 (i : Fin 32768) (l : Fin 1024) : V m c main_v8 (ix2 i l) = rowOf (A0 m c) i l := by
  unfold V hostOps0 hostOps0_1 hostOps0_2
  after_reads_at
  rfl

theorem arr1 (l : Fin 1024) : V m c main_v9 (ix2 0 l) = A1 m c (ix1 l) := by
  unfold V hostOps0 hostOps0_1 hostOps0_2
  after_reads_at

theorem arr3 (l : Fin 512) : V m c main_v3 (ix2 0 l) = A3 m c (ix1 ⟨l.val % 64, by omega⟩) := by
  unfold V hostOps0 hostOps0_1 hostOps0_2
  after_reads_at

theorem arr4 (l : Fin 512) : V m c main_v7 (ix2 0 l) = A4 m c (ix1 ⟨l.val % 64, by omega⟩) := by
  unfold V hostOps0 hostOps0_1 hostOps0_2
  after_reads_at

/-- The head a row or column of the table is in, as the host computes it. -/
theorem head_word : ∀ i : Fin 512, IntOp.divsi ArithUnit.host (BitVec.ofNat 32 i.val) 64#32 = BitVec.ofNat 32 (i.val / 64) := by
  decide +kernel

theorem bit_word (p : Prop) [Decidable p] : FloatOps.uitofp (F := Ideal) FTy.f32 (BitVec.ofBool (decide p)) = if p then (1 : EReal) else 0 := by
  by_cases hp : p <;> simp [hp, FloatOps.uitofp]

theorem zero_word : FloatOps.sitofp (F := Ideal) FTy.f32 (0#32) = (0 : EReal) := by
  show (((0#32 : BitVec 32).toInt : ℝ) : EReal) = 0
  simp

theorem arr5 (k l : Fin 512) : V m c main_v31 (ix2 k l) = Ideal.div (if k.val / 64 = l.val / 64 then (1 : EReal) else 0) width := by
  unfold V hostOps0 hostOps0_1 hostOps0_2
  after_reads_at
  rw [head_word, head_word, WordCmp.cmpi_eq_ofNat (by omega) (by omega), bit_word]
  rfl

/-- Column `l` of the weight as the call takes it. -/
def wideOf (w : (⟨2, ![1024, 3088]⟩ : Shape).Idx → EReal) (k : Fin 1024) (l : Fin 3200) : EReal :=
  if h : l.val < 256 then w (ix2 k ⟨l.val, by omega⟩)
  else if h : l.val - 256 < 256 then w (ix2 k ⟨256 + (l.val - 256), by omega⟩)
  else if h : l.val - 256 - 256 < 512 then w (ix2 k ⟨1024 + (l.val - 256 - 256), by omega⟩)
  else if h : l.val - 256 - 256 - 512 < 128 then
    if h' : l.val - 256 - 256 - 512 < 16 then w (ix2 k ⟨1536 + (l.val - 256 - 256 - 512), by omega⟩)
    else FloatOps.sitofp (F := Ideal) FTy.f32 (0#32)
  else if h : l.val - 256 - 256 - 512 - 128 < 512 then w (ix2 k ⟨512 + (l.val - 256 - 256 - 512 - 128), by omega⟩)
  else if h : l.val - 256 - 256 - 512 - 128 - 512 < 512 then w (ix2 k ⟨1552 + (l.val - 256 - 256 - 512 - 128 - 512), by omega⟩)
  else if h : l.val - 256 - 256 - 512 - 128 - 512 - 512 < 512 then w (ix2 k ⟨2064 + (l.val - 256 - 256 - 512 - 128 - 512 - 512), by omega⟩)
  else w (ix2 k ⟨2576 + (l.val - 256 - 256 - 512 - 128 - 512 - 512 - 512), by omega⟩)

theorem arr2 (k : Fin 1024) (l : Fin 3200) : V m c main_v20 (ix2 k l) = wideOf (A2 m c) k l := by
  unfold V hostOps0 hostOps0_1 hostOps0_2
  simp only [List.flatten_cons, List.flatten_nil, List.append_nil, List.cons_append, List.nil_append]
  after_reads_at
  after_reads_at
  rfl

section
variable (w : (⟨2, ![1024, 3088]⟩ : Shape).Idx → EReal) (k : Fin 1024)

theorem wide_in (l : Fin 1152) : wideOf w k ⟨l.val, by omega⟩ = packed w l k := by
  have hl := l.isLt
  unfold wideOf packed
  simp only [zero_word]
  split_ifs <;> first | omega | exact congrArg (fun z => w (ix2 k z)) (Fin.ext (by simp only; omega)) | rfl

theorem wide_va (l : Fin 512) : wideOf w k ⟨1152 + l.val, by omega⟩ = w (ix2 k ⟨512 + l.val, by omega⟩) := by
  have hl := l.isLt
  unfold wideOf
  simp only
  split_ifs <;> first | omega | exact congrArg (fun z => w (ix2 k z)) (Fin.ext (by simp only; omega))

theorem wide_q (l : Fin 512) : wideOf w k ⟨1664 + l.val, by omega⟩ = w (ix2 k ⟨1552 + l.val, by omega⟩) := by
  have hl := l.isLt
  unfold wideOf
  simp only
  split_ifs <;> first | omega | exact congrArg (fun z => w (ix2 k z)) (Fin.ext (by simp only; omega))

theorem wide_k (l : Fin 512) : wideOf w k ⟨2176 + l.val, by omega⟩ = w (ix2 k ⟨2064 + l.val, by omega⟩) := by
  have hl := l.isLt
  unfold wideOf
  simp only
  split_ifs <;> first | omega | exact congrArg (fun z => w (ix2 k z)) (Fin.ext (by simp only; omega))

theorem wide_vb (l : Fin 512) : wideOf w k ⟨2688 + l.val, by omega⟩ = w (ix2 k ⟨2576 + l.val, by omega⟩) := by
  have hl := l.isLt
  unfold wideOf
  simp only
  split_ifs <;> first | omega | exact congrArg (fun z => w (ix2 k z)) (Fin.ext (by simp only; omega))
end

end Cert.Kernel4Ideal.Proj

end
-- ==== Proof.ProjArray.lean ====
/-
  The five outputs of the input projection's call, read at an index.
-/
module

public import proofs.«01_k».proof.Proof.ProjEntry
public import proofs.«01_k».proof.Proof.Gen.Kernel4Ideal.Value

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Kernel4Ideal.Value Cert.Post Cert.Proj

variable (m : (ℓ : Loc nD τ sig) → Buf (Elt Ideal) ℓ) (c : Dev nD)

/-! ## The blocks a grid point is entered with -/

theorem idx0 : ∀ t : Fin cfg0.N, win0_0.index t (0 : Fin 2) = t.val ∧ win0_0.index t (1 : Fin 2) = 0 :=
  (by decide +kernel : ∀ t : Fin grid0.N, _)

theorem blk0 (t : Fin cfg0.N) (r : Fin 1024) (l : Fin 1024) : iblk m c 0 t (ix2 r l) = V m c main_v8 (ix2 ⟨1024 * t.val + r.val, by have := lt_of_lt_of_eq t.isLt N_0; omega⟩ l) := by
  have e := idx0 t
  refine congrArg (V m c main_v8) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * l.val = l.val; omega

theorem idx1 : ∀ t : Fin cfg0.N, win0_1.index t (0 : Fin 2) = 0 ∧ win0_1.index t (1 : Fin 2) = 0 :=
  (by decide +kernel : ∀ t : Fin grid0.N, _)

theorem blk1 (t : Fin cfg0.N) (r : Fin 1) (l : Fin 1024) : iblk m c 1 t (ix2 r l) = V m c main_v9 (ix2 r l) := by
  have e := idx1 t
  refine congrArg (V m c main_v9) (funext fun a => Fin.ext ?_)
  match a with
  | ⟨0, _⟩ => show win0_1.index t (0 : Fin 2) * 1 + 1 * r.val = r.val; omega
  | ⟨1, _⟩ => show win0_1.index t (1 : Fin 2) * 1024 + 1 * l.val = l.val; omega

theorem idx2 : ∀ t : Fin cfg0.N, win0_2.index t (0 : Fin 2) = 0 ∧ win0_2.index t (1 : Fin 2) = 0 :=
  (by decide +kernel : ∀ t : Fin grid0.N, _)

theorem blk2 (t : Fin cfg0.N) (r : Fin 1024) (l : Fin 3200) : iblk m c 2 t (ix2 r l) = V m c main_v20 (ix2 r l) := by
  have e := idx2 t
  refine congrArg (V m c main_v20) (funext fun a => Fin.ext ?_)
  match a with
  | ⟨0, _⟩ => show win0_2.index t (0 : Fin 2) * 1024 + 1 * r.val = r.val; omega
  | ⟨1, _⟩ => show win0_2.index t (1 : Fin 2) * 3200 + 1 * l.val = l.val; omega

theorem idx3 : ∀ t : Fin cfg0.N, win0_3.index t (0 : Fin 2) = 0 ∧ win0_3.index t (1 : Fin 2) = 0 :=
  (by decide +kernel : ∀ t : Fin grid0.N, _)

theorem blk3 (t : Fin cfg0.N) (r : Fin 1) (l : Fin 512) : iblk m c 3 t (ix2 r l) = V m c main_v3 (ix2 r l) := by
  have e := idx3 t
  refine congrArg (V m c main_v3) (funext fun a => Fin.ext ?_)
  match a with
  | ⟨0, _⟩ => show win0_3.index t (0 : Fin 2) * 1 + 1 * r.val = r.val; omega
  | ⟨1, _⟩ => show win0_3.index t (1 : Fin 2) * 512 + 1 * l.val = l.val; omega

theorem idx4 : ∀ t : Fin cfg0.N, win0_4.index t (0 : Fin 2) = 0 ∧ win0_4.index t (1 : Fin 2) = 0 :=
  (by decide +kernel : ∀ t : Fin grid0.N, _)

theorem blk4 (t : Fin cfg0.N) (r : Fin 1) (l : Fin 512) : iblk m c 4 t (ix2 r l) = V m c main_v7 (ix2 r l) := by
  have e := idx4 t
  refine congrArg (V m c main_v7) (funext fun a => Fin.ext ?_)
  match a with
  | ⟨0, _⟩ => show win0_4.index t (0 : Fin 2) * 1 + 1 * r.val = r.val; omega
  | ⟨1, _⟩ => show win0_4.index t (1 : Fin 2) * 512 + 1 * l.val = l.val; omega

theorem idx5 : ∀ t : Fin cfg0.N, win0_5.index t (0 : Fin 2) = 0 ∧ win0_5.index t (1 : Fin 2) = 0 :=
  (by decide +kernel : ∀ t : Fin grid0.N, _)

theorem blk5 (t : Fin cfg0.N) (r : Fin 512) (l : Fin 512) : iblk m c 5 t (ix2 r l) = V m c main_v31 (ix2 r l) := by
  have e := idx5 t
  refine congrArg (V m c main_v31) (funext fun a => Fin.ext ?_)
  match a with
  | ⟨0, _⟩ => show win0_5.index t (0 : Fin 2) * 512 + 1 * r.val = r.val; omega
  | ⟨1, _⟩ => show win0_5.index t (1 : Fin 2) * 512 + 1 * l.val = l.val; omega

/-! ## The outputs -/

/-- Equal rows, weights and columns give equal products. -/
theorem entry_congr {u u' g g' w w' : Fin 1024 → EReal} (hu : ∀ l, u l = u' l) (hg : ∀ l, g l = g' l) (hw : ∀ l, w l = w' l) :
    entry u g w = entry u' g' w' := by
  rw [show u = u' from funext hu, show g = g' from funext hg, show w = w' from funext hw]

/-- The products of a grid point, from the arguments: column `j` of the wide weight. -/
theorem prod_eq (t : Fin cfg0.N) (r : Fin 1024) (i : Fin 32768) (hi : 1024 * t.val + r.val = i.val) (j : Fin 3200) :
    prodAt (iblk m c 0 t) (iblk m c 1 t) (iblk m c 2 t) r j
      = entry (rowOf (A0 m c) i) (fun l => A1 m c (ix1 l)) fun k => wideOf (A2 m c) k j := by
  unfold prodAt
  refine entry_congr (fun l => ?_) (fun l => ?_) (fun k => ?_)
  · refine (blk0 m c t r l).trans ?_
    rw [show (⟨1024 * t.val + r.val, by have := lt_of_lt_of_eq t.isLt N_0; omega⟩ : Fin 32768) = i from Fin.ext hi]
    exact arr0 m c i l
  · exact (blk1 m c t 0 l).trans (arr1 m c l)
  · exact (blk2 m c t k j).trans (arr2 m c k j)

theorem prods_eq (t : Fin cfg0.N) (r : Fin 1024) (i : Fin 32768) (hi : 1024 * t.val + r.val = i.val) (o o' : ℕ) (ho : o + 512 ≤ 3200) (ho' : o' + 512 ≤ 3088)
    (hw : ∀ (k : Fin 1024) (l : Fin 512), wideOf (A2 m c) k ⟨o + l.val, by omega⟩ = A2 m c (ix2 k ⟨o' + l.val, by omega⟩)) (l : Fin 512) :
    prods (iblk m c 0 t) (iblk m c 1 t) (iblk m c 2 t) o ho r l = outAt o' ho' (A0 m c) (A1 m c) (A2 m c) i l := by
  unfold prods outAt
  exact (prod_eq m c t r i hi _).trans (entry_congr (fun _ => rfl) (fun _ => rfl) fun k => hw k l)

/-- A normed head, from the arguments. -/
theorem tabled_eq (y : Fin 512 → EReal) (gain : Fin 64 → EReal) (l : Fin 512) :
    tabled y (fun k l => Ideal.div (if k.val / 64 = l.val / 64 then (1 : EReal) else 0) width) (fun l => gain ⟨l.val % 64, by omega⟩) l = headNorm y gain l := by
  unfold tabled headNorm
  rw [table_mean]

theorem table_eq (t : Fin cfg0.N) (k l : Fin 512) : iblk m c 5 t (ix2 k l) = Ideal.div (if k.val / 64 = l.val / 64 then (1 : EReal) else 0) width :=
  (blk5 m c t k l).trans (arr5 m c k l)

theorem out6 (i : Fin 32768) (l : Fin 1152) :
    (dats m 0 c).arrAt 6 cfg0.N (ix2 i l) = outIn (A0 m c) (A1 m c) (A2 m c) i l := by
  have ht : i.val / 1024 < cfg0.N := lt_of_lt_of_eq (by omega) N_0.symm
  have hf : ∀ t : Fin cfg0.N, (cfg0.win 6).flush t = true := (by decide +kernel : ∀ t : Fin grid0.N, _)
  have hi : ∀ t : Fin cfg0.N, win0_6.index t (0 : Fin 2) = t.val ∧ win0_6.index t (1 : Fin 2) = 0 := (by decide +kernel : ∀ t : Fin grid0.N, _)
  have b := congrFun (blocks6 m c ⟨i.val / 1024, ht⟩ (hf _)) (ix2 (⟨i.val % 1024, Nat.mod_lt _ (by decide)⟩ : Fin 1024) l)
  rw [flushed6] at b
  have e := hi ⟨i.val / 1024, ht⟩
  have ea : (ix2 i l : S32768x1152.Idx) = ((cfg0.win 6).blk ⟨i.val / 1024, ht⟩).view.emb (ix2 (⟨i.val % 1024, Nat.mod_lt _ (by decide)⟩ : Fin 1024) l) := by
    funext a
    apply Fin.ext
    match a with
    | ⟨0, _⟩ => show i.val = win0_6.index ⟨i.val / 1024, ht⟩ (0 : Fin 2) * 1024 + 1 * (i.val % 1024); rw [e.1]; simp only; omega
    | ⟨1, _⟩ => show l.val = win0_6.index ⟨i.val / 1024, ht⟩ (1 : Fin 2) * 1152 + 1 * l.val; omega
  have er : 1024 * (i.val / 1024) + i.val % 1024 = i.val := by omega
  rw [ea]
  refine b.trans ((point6 (iblk m c 0 ⟨i.val / 1024, ht⟩) (iblk m c 1 ⟨i.val / 1024, ht⟩) (iblk m c 2 ⟨i.val / 1024, ht⟩) (iblk m c 3 ⟨i.val / 1024, ht⟩)
    (iblk m c 4 ⟨i.val / 1024, ht⟩) (iblk m c 5 ⟨i.val / 1024, ht⟩) ⟨i.val % 1024, Nat.mod_lt _ (by decide)⟩ l).trans ?_)
  exact (prod_eq m c _ _ i er _).trans (entry_congr (fun _ => rfl) (fun _ => rfl) fun k => wide_in _ k l)

theorem out7 (i : Fin 32768) (l : Fin 512) :
    (dats m 0 c).arrAt 7 cfg0.N (ix2 i l) = outAt 512 (by decide) (A0 m c) (A1 m c) (A2 m c) i l := by
  have ht : i.val / 1024 < cfg0.N := lt_of_lt_of_eq (by omega) N_0.symm
  have hf : ∀ t : Fin cfg0.N, (cfg0.win 7).flush t = true := (by decide +kernel : ∀ t : Fin grid0.N, _)
  have hi : ∀ t : Fin cfg0.N, win0_7.index t (0 : Fin 2) = t.val ∧ win0_7.index t (1 : Fin 2) = 0 := (by decide +kernel : ∀ t : Fin grid0.N, _)
  have b := congrFun (blocks7 m c ⟨i.val / 1024, ht⟩ (hf _)) (ix2 (⟨i.val % 1024, Nat.mod_lt _ (by decide)⟩ : Fin 1024) l)
  rw [flushed7] at b
  have e := hi ⟨i.val / 1024, ht⟩
  have ea : (ix2 i l : S32768x512.Idx) = ((cfg0.win 7).blk ⟨i.val / 1024, ht⟩).view.emb (ix2 (⟨i.val % 1024, Nat.mod_lt _ (by decide)⟩ : Fin 1024) l) := by
    funext a
    apply Fin.ext
    match a with
    | ⟨0, _⟩ => show i.val = win0_7.index ⟨i.val / 1024, ht⟩ (0 : Fin 2) * 1024 + 1 * (i.val % 1024); rw [e.1]; simp only; omega
    | ⟨1, _⟩ => show l.val = win0_7.index ⟨i.val / 1024, ht⟩ (1 : Fin 2) * 512 + 1 * l.val; omega
  have er : 1024 * (i.val / 1024) + i.val % 1024 = i.val := by omega
  rw [ea]
  refine b.trans ((point7 (iblk m c 0 ⟨i.val / 1024, ht⟩) (iblk m c 1 ⟨i.val / 1024, ht⟩) (iblk m c 2 ⟨i.val / 1024, ht⟩) (iblk m c 3 ⟨i.val / 1024, ht⟩)
    (iblk m c 4 ⟨i.val / 1024, ht⟩) (iblk m c 5 ⟨i.val / 1024, ht⟩) ⟨i.val % 1024, Nat.mod_lt _ (by decide)⟩ l).trans ?_)
  exact prods_eq m c _ _ i er 1152 512 (by decide) (by decide) (wide_va _) l

theorem out8 (i : Fin 32768) (l : Fin 512) :
    (dats m 0 c).arrAt 8 cfg0.N (ix2 i l) = outHead 1552 (by decide) (A0 m c) (A1 m c) (A2 m c) (A3 m c) i l := by
  have ht : i.val / 1024 < cfg0.N := lt_of_lt_of_eq (by omega) N_0.symm
  have hf : ∀ t : Fin cfg0.N, (cfg0.win 8).flush t = true := (by decide +kernel : ∀ t : Fin grid0.N, _)
  have hi : ∀ t : Fin cfg0.N, win0_8.index t (0 : Fin 2) = t.val ∧ win0_8.index t (1 : Fin 2) = 0 := (by decide +kernel : ∀ t : Fin grid0.N, _)
  have b := congrFun (blocks8 m c ⟨i.val / 1024, ht⟩ (hf _)) (ix2 (⟨i.val % 1024, Nat.mod_lt _ (by decide)⟩ : Fin 1024) l)
  rw [flushed8] at b
  have e := hi ⟨i.val / 1024, ht⟩
  have ea : (ix2 i l : S32768x512.Idx) = ((cfg0.win 8).blk ⟨i.val / 1024, ht⟩).view.emb (ix2 (⟨i.val % 1024, Nat.mod_lt _ (by decide)⟩ : Fin 1024) l) := by
    funext a
    apply Fin.ext
    match a with
    | ⟨0, _⟩ => show i.val = win0_8.index ⟨i.val / 1024, ht⟩ (0 : Fin 2) * 1024 + 1 * (i.val % 1024); rw [e.1]; simp only; omega
    | ⟨1, _⟩ => show l.val = win0_8.index ⟨i.val / 1024, ht⟩ (1 : Fin 2) * 512 + 1 * l.val; omega
  have er : 1024 * (i.val / 1024) + i.val % 1024 = i.val := by omega
  rw [ea]
  refine b.trans ((point8 (iblk m c 0 ⟨i.val / 1024, ht⟩) (iblk m c 1 ⟨i.val / 1024, ht⟩) (iblk m c 2 ⟨i.val / 1024, ht⟩) (iblk m c 3 ⟨i.val / 1024, ht⟩)
    (iblk m c 4 ⟨i.val / 1024, ht⟩) (iblk m c 5 ⟨i.val / 1024, ht⟩) ⟨i.val % 1024, Nat.mod_lt _ (by decide)⟩ l).trans ?_)
  refine (tabled_congr (fun l => prods_eq m c _ _ i er 1664 1552 (by decide) (by decide) (wide_q _) l) (fun k l => table_eq m c _ k l)
    (fun l => (blk3 m c _ 0 l).trans (arr3 m c l)) l).trans ?_
  exact tabled_eq _ (fun d => A3 m c (ix1 d)) l

theorem out9 (i : Fin 32768) (l : Fin 512) :
    (dats m 0 c).arrAt 9 cfg0.N (ix2 i l) = outHead 2064 (by decide) (A0 m c) (A1 m c) (A2 m c) (A4 m c) i l := by
  have ht : i.val / 1024 < cfg0.N := lt_of_lt_of_eq (by omega) N_0.symm
  have hf : ∀ t : Fin cfg0.N, (cfg0.win 9).flush t = true := (by decide +kernel : ∀ t : Fin grid0.N, _)
  have hi : ∀ t : Fin cfg0.N, win0_9.index t (0 : Fin 2) = t.val ∧ win0_9.index t (1 : Fin 2) = 0 := (by decide +kernel : ∀ t : Fin grid0.N, _)
  have b := congrFun (blocks9 m c ⟨i.val / 1024, ht⟩ (hf _)) (ix2 (⟨i.val % 1024, Nat.mod_lt _ (by decide)⟩ : Fin 1024) l)
  rw [flushed9] at b
  have e := hi ⟨i.val / 1024, ht⟩
  have ea : (ix2 i l : S32768x512.Idx) = ((cfg0.win 9).blk ⟨i.val / 1024, ht⟩).view.emb (ix2 (⟨i.val % 1024, Nat.mod_lt _ (by decide)⟩ : Fin 1024) l) := by
    funext a
    apply Fin.ext
    match a with
    | ⟨0, _⟩ => show i.val = win0_9.index ⟨i.val / 1024, ht⟩ (0 : Fin 2) * 1024 + 1 * (i.val % 1024); rw [e.1]; simp only; omega
    | ⟨1, _⟩ => show l.val = win0_9.index ⟨i.val / 1024, ht⟩ (1 : Fin 2) * 512 + 1 * l.val; omega
  have er : 1024 * (i.val / 1024) + i.val % 1024 = i.val := by omega
  rw [ea]
  refine b.trans ((point9 (iblk m c 0 ⟨i.val / 1024, ht⟩) (iblk m c 1 ⟨i.val / 1024, ht⟩) (iblk m c 2 ⟨i.val / 1024, ht⟩) (iblk m c 3 ⟨i.val / 1024, ht⟩)
    (iblk m c 4 ⟨i.val / 1024, ht⟩) (iblk m c 5 ⟨i.val / 1024, ht⟩) ⟨i.val % 1024, Nat.mod_lt _ (by decide)⟩ l).trans ?_)
  refine (tabled_congr (fun l => prods_eq m c _ _ i er 2176 2064 (by decide) (by decide) (wide_k _) l) (fun k l => table_eq m c _ k l)
    (fun l => (blk4 m c _ 0 l).trans (arr4 m c l)) l).trans ?_
  exact tabled_eq _ (fun d => A4 m c (ix1 d)) l

theorem out10 (i : Fin 32768) (l : Fin 512) :
    (dats m 0 c).arrAt 10 cfg0.N (ix2 i l) = outAt 2576 (by decide) (A0 m c) (A1 m c) (A2 m c) i l := by
  have ht : i.val / 1024 < cfg0.N := lt_of_lt_of_eq (by omega) N_0.symm
  have hf : ∀ t : Fin cfg0.N, (cfg0.win 10).flush t = true := (by decide +kernel : ∀ t : Fin grid0.N, _)
  have hi : ∀ t : Fin cfg0.N, win0_10.index t (0 : Fin 2) = t.val ∧ win0_10.index t (1 : Fin 2) = 0 := (by decide +kernel : ∀ t : Fin grid0.N, _)
  have b := congrFun (blocks10 m c ⟨i.val / 1024, ht⟩ (hf _)) (ix2 (⟨i.val % 1024, Nat.mod_lt _ (by decide)⟩ : Fin 1024) l)
  rw [flushed10] at b
  have e := hi ⟨i.val / 1024, ht⟩
  have ea : (ix2 i l : S32768x512.Idx) = ((cfg0.win 10).blk ⟨i.val / 1024, ht⟩).view.emb (ix2 (⟨i.val % 1024, Nat.mod_lt _ (by decide)⟩ : Fin 1024) l) := by
    funext a
    apply Fin.ext
    match a with
    | ⟨0, _⟩ => show i.val = win0_10.index ⟨i.val / 1024, ht⟩ (0 : Fin 2) * 1024 + 1 * (i.val % 1024); rw [e.1]; simp only; omega
    | ⟨1, _⟩ => show l.val = win0_10.index ⟨i.val / 1024, ht⟩ (1 : Fin 2) * 512 + 1 * l.val; omega
  have er : 1024 * (i.val / 1024) + i.val % 1024 = i.val := by omega
  rw [ea]
  refine b.trans ((point10 (iblk m c 0 ⟨i.val / 1024, ht⟩) (iblk m c 1 ⟨i.val / 1024, ht⟩) (iblk m c 2 ⟨i.val / 1024, ht⟩) (iblk m c 3 ⟨i.val / 1024, ht⟩)
    (iblk m c 4 ⟨i.val / 1024, ht⟩) (iblk m c 5 ⟨i.val / 1024, ht⟩) ⟨i.val % 1024, Nat.mod_lt _ (by decide)⟩ l).trans ?_)
  exact prods_eq m c _ _ i er 2688 2576 (by decide) (by decide) (wide_vb _) l

end Cert.Kernel4Ideal.Proj

end
-- ==== Proof.ProjReference.lean ====
/-
  The plain input projection of an even layer: its run's outputs, read at an index.
-/
module

public import proofs.«01_k».proof.Proof.ProjSpec
public import proofs.«01_k».proof.Proof.Gen.Reference4Ideal
public import proofs.«01_k».proof.Proof.Gen.Reference4Ideal.Run

@[expose] public section

set_option maxRecDepth 16384

noncomputable section

open Idealize.ShloMosaic Idealize.ShloMosaic.TcCoe Idealize.SL.Sem

namespace Cert.Reference4Ideal.Proj

open Cert.Reference4Ideal Cert.Reference4Ideal.Gen Cert.Post Cert.Proj

/-- The normed rows. -/
def normedOf (u : FVec Ideal S8x4096x1024 .f32) (g : FVec Ideal S1024 .f32) : FVec Ideal S8x4096x1024 .f32 :=
  mulf (mulf u (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf u u) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The projection. -/
def projOf (u : FVec Ideal S8x4096x1024 .f32) (g : FVec Ideal S1024 .f32) (w : FVec Ideal S1024x3088 .f32) : FVec Ideal S8x4096x3088 .f32 :=
  Host.dotGeneral dot_S8x4096x1024_S1024x3088_S8x4096x3088_2_0_01_1_n_n none (normedOf u g) w

/-- The heads of 512 columns, each normed. -/
def headOf (p : FVec Ideal S8x4096x512 .f32) (g : FVec Ideal S64 .f32) : FVec Ideal S8x4096x8x64 .f32 :=
  mulf (mulf (shapeCast _ p shapeCasts_S8x4096x512_S8x4096x8x64) (broadcastInDim S8x4096x8x64 ![0, 1, 2, 3] bcast_S8x4096x8x1_S8x4096x8x64_0_1_2_3
      (Host.rsqrt (addf (Host.divf (broadcastInDim S8x4096x8x1 ![0, 1, 2] bcast_S8x4096x8_S8x4096x8x1_0_1_2
          (Host.reduceAdd (mulf (shapeCast _ p shapeCasts_S8x4096x512_S8x4096x8x64) (shapeCast _ p shapeCasts_S8x4096x512_S8x4096x8x64))
            (constant S_ .f32 0x00000000#32) reducesTo_S8x4096x8x64_S8x4096x8_d3 h_S_))
        (broadcastInDim S8x4096x8x1 ![] bcast_S_S8x4096x8x1 (constant S_ .f32 0x42800000#32)))
        (broadcastInDim S8x4096x8x1 ![] bcast_S_S8x4096x8x1 (constant S_ .f32 0x358637BD#32))))))
    (broadcastInDim S8x4096x8x64 ![0, 1, 2, 3] bcast_S1x1x1x64_S8x4096x8x64_0_1_2_3 (broadcastInDim S1x1x1x64 ![3] bcast_S64_S1x1x1x64_3 g))

/-- The columns the linear attention takes, one after another. -/
def catOf (p : FVec Ideal S8x4096x3088 .f32) : FVec Ideal S8x4096x1040 .f32 :=
  concatenate S8x4096x1040 2 [⟨S8x4096x256, extractStridedSlice S8x4096x256 ![0, 0, 0] p slices_S8x4096x3088_S8x4096x256_0_0_0⟩,
    ⟨S8x4096x256, extractStridedSlice S8x4096x256 ![0, 0, 256] p slices_S8x4096x3088_S8x4096x256_0_0_256⟩,
    ⟨S8x4096x512, extractStridedSlice S8x4096x512 ![0, 0, 1024] p slices_S8x4096x3088_S8x4096x512_0_0_1024⟩,
    ⟨S8x4096x16, extractStridedSlice S8x4096x16 ![0, 0, 1536] p slices_S8x4096x3088_S8x4096x16_0_0_1536⟩]
    concatenates_S8x4096x256_S8x4096x256_S8x4096x512_S8x4096x16_S8x4096x1040_d2

/-- The first output. -/
def inOf (p : FVec Ideal S8x4096x3088 .f32) : FVec Ideal S32768x1152 .f32 :=
  shapeCast _ (pad S8x4096x1152 ![0, 0, 0] ![0, 0, 112] ![0, 0, 0] (catOf p) (sitofp .f32 (constantI S_ 32 0#32))
    pads_S8x4096x1040_S8x4096x1152_000_000_01120 h_S_) shapeCasts_S8x4096x1152_S32768x1152

/-- The values of the linear attention. -/
def vaOf (p : FVec Ideal S8x4096x3088 .f32) : FVec Ideal S32768x512 .bf16 :=
  truncf .bf16 (shapeCast _ (extractStridedSlice S8x4096x512 ![0, 0, 512] p slices_S8x4096x3088_S8x4096x512_0_0_512) shapeCasts_S8x4096x512_S32768x512) bitsLt_bf16_f32

/-- The queries of the block-sparse attention. -/
def qbOf (p : FVec Ideal S8x4096x3088 .f32) (g : FVec Ideal S64 .f32) : FVec Ideal S32768x512 .bf16 :=
  truncf .bf16 (shapeCast _ (headOf (extractStridedSlice S8x4096x512 ![0, 0, 1552] p slices_S8x4096x3088_S8x4096x512_0_0_1552) g) shapeCasts_S8x4096x8x64_S32768x512) bitsLt_bf16_f32

/-- The keys of the block-sparse attention. -/
def kbOf (p : FVec Ideal S8x4096x3088 .f32) (g : FVec Ideal S64 .f32) : FVec Ideal S32768x512 .bf16 :=
  truncf .bf16 (shapeCast _ (headOf (extractStridedSlice S8x4096x512 ![0, 0, 2064] p slices_S8x4096x3088_S8x4096x512_0_0_2064) g) shapeCasts_S8x4096x8x64_S32768x512) bitsLt_bf16_f32

/-- The values of the block-sparse attention. -/
def vbOf (p : FVec Ideal S8x4096x3088 .f32) : FVec Ideal S32768x512 .bf16 :=
  truncf .bf16 (shapeCast _ (extractStridedSlice S8x4096x512 ![0, 0, 2576] p slices_S8x4096x3088_S8x4096x512_0_0_2576) shapeCasts_S8x4096x512_S32768x512) bitsLt_bf16_f32

theorem normedOf_apply (u : FVec Ideal S8x4096x1024 .f32) (g : FVec Ideal S1024 .f32) (B : Fin 8) (n : Fin 4096) (l : Fin 1024) :
    normedOf u g (ix3 B n l) = normed (fun l => u (ix3 B n l)) (fun l => g (ix1 l)) l := by
  pointwise [normedOf]
  rfl

theorem projOf_apply (u : FVec Ideal S8x4096x1024 .f32) (g : FVec Ideal S1024 .f32) (w : FVec Ideal S1024x3088 .f32) (B : Fin 8) (n : Fin 4096) (l : Fin 3088) :
    projOf u g w (ix3 B n l) = entry (fun l => u (ix3 B n l)) (fun l => g (ix1 l)) fun k => w (ix2 k l) := by
  pointwise [projOf]
  simp only [normedOf_apply]
  rfl

theorem zero_word : FloatOps.sitofp (F := Ideal) FTy.f32 (0#32) = (0 : EReal) := by
  show (((0#32 : BitVec 32).toInt : ℝ) : EReal) = 0
  simp

/-- An array's value at an index. -/
abbrev rd (s : Shape) (x : s.Idx → EReal) (i : s.Idx) : EReal := x i

/-- A head's lane, normed. -/
theorem headOf_apply (p : FVec Ideal S8x4096x512 .f32) (g : FVec Ideal S64 .f32) (B : Fin 8) (n : Fin 4096) (l : Fin 512) :
    rd S8x4096x8x64 (headOf p g) (ix4 B n ⟨l.val / 64, by omega⟩ ⟨l.val % 64, by omega⟩)
      = headNorm (fun l => rd S8x4096x512 p (ix3 B n l)) (fun d => g (ix1 d)) l := by
  unfold headNorm
  pointwise [rd, headOf]
  rfl

/-- A row of the first output, its columns picked one part after another. -/
def pick (q : Fin 3088 → EReal) (i : Fin 32768) (l : Fin 1152) : EReal :=
  if h : i.val / 4096 < 8 ∧ i.val % 4096 < 4096 ∧ l.val < 1040 then
    if h1 : l.val < 256 then q ⟨l.val, by omega⟩
    else if h2 : l.val - 256 < 256 then q ⟨256 + (l.val - 256), by omega⟩
    else if h3 : l.val - 256 - 256 < 512 then q ⟨1024 + (l.val - 256 - 256), by omega⟩
    else q ⟨1536 + (l.val - 256 - 256 - 512), by omega⟩
  else FloatOps.sitofp (F := Ideal) FTy.f32 (0#32)

theorem pick_eq (q : Fin 3088 → EReal) (i : Fin 32768) (l : Fin 1152) :
    pick q i l = if h : l.val < 512 then q ⟨l.val, by omega⟩ else if h : l.val < 1040 then q ⟨l.val + 512, by omega⟩ else 0 := by
  have hi := i.isLt
  unfold pick
  simp only [zero_word]
  split_ifs <;> first | omega | exact congrArg q (Fin.ext (by simp only; omega)) | rfl

theorem inOf_apply (p : FVec Ideal S8x4096x3088 .f32) (i : Fin 32768) (l : Fin 1152) :
    rd S32768x1152 (inOf p) (ix2 i l) = pick (fun z => rd S8x4096x3088 p (ix3 ⟨i.val / 4096, by omega⟩ ⟨i.val % 4096, by omega⟩ z)) i l := by
  pointwise [rd, inOf, catOf]
  rfl

theorem vaOf_apply (p : FVec Ideal S8x4096x3088 .f32) (i : Fin 32768) (l : Fin 512) :
    rd S32768x512 (vaOf p) (ix2 i l) = rd S8x4096x3088 p (ix3 ⟨i.val / 4096, by omega⟩ ⟨i.val % 4096, by omega⟩ ⟨512 + l.val, by omega⟩) := by
  pointwise [rd, vaOf]

theorem vbOf_apply (p : FVec Ideal S8x4096x3088 .f32) (i : Fin 32768) (l : Fin 512) :
    rd S32768x512 (vbOf p) (ix2 i l) = rd S8x4096x3088 p (ix3 ⟨i.val / 4096, by omega⟩ ⟨i.val % 4096, by omega⟩ ⟨2576 + l.val, by omega⟩) := by
  pointwise [rd, vbOf]

theorem qbOf_apply (p : FVec Ideal S8x4096x3088 .f32) (g : FVec Ideal S64 .f32) (i : Fin 32768) (l : Fin 512) :
    rd S32768x512 (qbOf p g) (ix2 i l) = headNorm (fun l => rd S8x4096x3088 p (ix3 ⟨i.val / 4096, by omega⟩ ⟨i.val % 4096, by omega⟩ ⟨1552 + l.val, by omega⟩)) (fun d => g (ix1 d)) l := by
  pointwise [rd, qbOf]
  refine (headOf_apply _ g _ _ l).trans ?_
  refine congrArg (fun y => headNorm y _ l) (funext fun l => ?_)
  pointwise [rd]

theorem kbOf_apply (p : FVec Ideal S8x4096x3088 .f32) (g : FVec Ideal S64 .f32) (i : Fin 32768) (l : Fin 512) :
    rd S32768x512 (kbOf p g) (ix2 i l) = headNorm (fun l => rd S8x4096x3088 p (ix3 ⟨i.val / 4096, by omega⟩ ⟨i.val % 4096, by omega⟩ ⟨2064 + l.val, by omega⟩)) (fun d => g (ix1 d)) l := by
  pointwise [rd, kbOf]
  refine (headOf_apply _ g _ _ l).trans ?_
  refine congrArg (fun y => headNorm y _ l) (funext fun l => ?_)
  pointwise [rd]

variable (m : (ℓ : Loc nD τ sig) → Buf (Elt Ideal) ℓ) (c : Dev nD)

/-- The arguments: the residual stream. -/
abbrev A0 : (⟨3, ![8, 4096, 1024]⟩ : Shape).Idx → EReal := m ((c.tc : Thread nD τ).loc main_arg0)

/-- The arguments: the norm's weight. -/
abbrev A1 : (⟨1, ![1024]⟩ : Shape).Idx → EReal := m ((c.tc : Thread nD τ).loc main_arg1)

/-- The arguments: the projection. -/
abbrev A2 : (⟨2, ![1024, 3088]⟩ : Shape).Idx → EReal := m ((c.tc : Thread nD τ).loc main_arg2)

/-- The arguments: the gain of the queries' norm. -/
abbrev A3 : (⟨1, ![64]⟩ : Shape).Idx → EReal := m ((c.tc : Thread nD τ).loc main_arg3)

/-- The arguments: the gain of the keys' norm. -/
abbrev A4 : (⟨1, ![64]⟩ : Shape).Idx → EReal := m ((c.tc : Thread nD τ).loc main_arg4)

/-- The projection of the run. -/
def proj : FVec Ideal S8x4096x3088 .f32 :=
  projOf (m ((c.tc : Thread nD τ).loc main_arg0)) (m ((c.tc : Thread nD τ).loc main_arg1)) (m ((c.tc : Thread nD τ).loc main_arg2))

/-- An entry of the run's projection. -/
theorem proj_apply (i : Fin 32768) (l : Fin 3088) : rd S8x4096x3088 (proj m c) (ix3 ⟨i.val / 4096, by omega⟩ ⟨i.val % 4096, by omega⟩ l)
    = entry (rowOf (A0 m c) i) (fun l => A1 m c (ix1 l)) fun k => A2 m c (ix2 k l) :=
  projOf_apply _ _ _ _ _ _

/-- A product with a column of zeros. -/
theorem entry_zero (u g : Fin 1024 → EReal) : entry u g (fun _ => 0) = 0 := by
  simp [entry]

theorem out0 (i : Fin 32768) (l : Fin 1152) : rd S32768x1152 (inOf (proj m c)) (ix2 i l) = outIn (A0 m c) (A1 m c) (A2 m c) i l := by
  rw [inOf_apply, pick_eq]
  unfold outIn
  split_ifs with h h'
  · rw [proj_apply]
    refine congrArg (entry _ _) (funext fun k => ?_)
    rw [packed, if_pos h]
  · rw [proj_apply]
    refine congrArg (entry _ _) (funext fun k => ?_)
    rw [packed, if_neg h, dif_pos h']
  · rw [show packed (A2 m c) l = fun _ => 0 from funext fun k => by rw [packed, if_neg h, dif_neg h'], entry_zero]

theorem out1 (i : Fin 32768) (l : Fin 512) : rd S32768x512 (vaOf (proj m c)) (ix2 i l) = outAt 512 (by decide) (A0 m c) (A1 m c) (A2 m c) i l :=
  (vaOf_apply _ i l).trans (proj_apply m c i _)

theorem out2 (i : Fin 32768) (l : Fin 512) : rd S32768x512 (qbOf (proj m c) (m ((c.tc : Thread nD τ).loc main_arg3))) (ix2 i l) = outHead 1552 (by decide) (A0 m c) (A1 m c) (A2 m c) (A3 m c) i l :=
  (qbOf_apply _ _ i l).trans (congrArg (fun y => headNorm y _ l) (funext fun l => proj_apply m c i _))

theorem out3 (i : Fin 32768) (l : Fin 512) : rd S32768x512 (kbOf (proj m c) (m ((c.tc : Thread nD τ).loc main_arg4))) (ix2 i l) = outHead 2064 (by decide) (A0 m c) (A1 m c) (A2 m c) (A4 m c) i l :=
  (kbOf_apply _ _ i l).trans (congrArg (fun y => headNorm y _ l) (funext fun l => proj_apply m c i _))

theorem out4 (i : Fin 32768) (l : Fin 512) : rd S32768x512 (vbOf (proj m c)) (ix2 i l) = outAt 2576 (by decide) (A0 m c) (A1 m c) (A2 m c) i l :=
  (vbOf_apply _ i l).trans (proj_apply m c i _)

/-- Every execution ends with those outputs and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v52) = inOf (proj m c)
      ∧ r.2.mem ((c.tc : Thread nD τ).loc main_v54) = vaOf (proj m c)
      ∧ r.2.mem ((c.tc : Thread nD τ).loc main_v56) = qbOf (proj m c) (m ((c.tc : Thread nD τ).loc main_arg3))
      ∧ r.2.mem ((c.tc : Thread nD τ).loc main_v58) = kbOf (proj m c) (m ((c.tc : Thread nD τ).loc main_arg4))
      ∧ r.2.mem ((c.tc : Thread nD τ).loc main_v60) = vbOf (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2.1.trans rfl, (h c).2.2.2.2.1.trans rfl, (h c).2.2.2.2.2⟩)
    (Cert.Reference4Ideal.Value.run m ρ)

end Cert.Reference4Ideal.Proj

end
-- ==== Proof.lean ====
/-
  The claims about the gated linear attention call, about the call that follows a layer's mixer, in its
  forms for a mixer of one part and of two, about the input projection of an even layer and about the
  mixing of an odd layer: each program and its plain counterpart end with their arguments as they were and
  every counter at zero, and over exact extended reals they compute the same outputs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_inputs
public import proofs.«01_k».proof.Proof.OddArray
public import proofs.«01_k».proof.Proof.OddWindow
public import proofs.«01_k».proof.Proof.GlaArray
public import proofs.«01_k».proof.Proof.GlaReference
public import proofs.«01_k».proof.Proof.Post2Array
public import proofs.«01_k».proof.Proof.Post2Reference
public import proofs.«01_k».proof.Proof.Post3Array
public import proofs.«01_k».proof.Proof.Post3Reference
public import proofs.«01_k».proof.Proof.ProjArray
public import proofs.«01_k».proof.Proof.ProjReference
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference's frame. -/
theorem frameReference : Cert.quiescent_ReferenceIdeal (hReferenceIdeal := Cert.ReferenceIdeal.Gen.facts) := fun m ρ _ =>
  (θ_run Cert.ReferenceIdeal.defs _ _).mono (fun r h => ⟨fun c => (h.1 c).2, h.2⟩) (Cert.ReferenceIdeal.Gla.run m ρ)

/-- The two outputs, over arguments that agree. -/
theorem outputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : ∀ B : Fin 8, Cert.ReferenceIdeal.Gla.seqOf (Cert.ReferenceIdeal.Gla.launched m' c) B = Cert.KernelIdeal.Gla.seq m c B) :
    Cert.ReferenceIdeal.Gla.outR m' c = Cert.KernelIdeal.Value.G6 m c := by
  refine funext fun x => ?_
  obtain ⟨i, l, rfl⟩ : ∃ (i : Fin 32768) (l : Fin 512), x = ix2 i l :=
    ⟨x 0, x 1, funext fun a => by
      match a with
      | ⟨0, _⟩ => rfl
      | ⟨1, _⟩ => rfl⟩
  refine (Cert.ReferenceIdeal.Gla.out_apply m' c i l).trans ?_
  rw [h]
  exact (Cert.KernelIdeal.Gla.out_apply m c i l).symm

/-- Equal arrays make equal sequences. -/
theorem ofArrays_congr {q q' k k' : (⟨3, ![8, 4096, 256]⟩ : Shape).Idx → EReal} {v v' r r' : (⟨3, ![8, 4096, 512]⟩ : Shape).Idx → EReal}
    {g g' : (⟨3, ![8, 4096, 16]⟩ : Shape).Idx → EReal} {w w' : (⟨2, ![16, 256]⟩ : Shape).Idx → EReal} {b b' : (⟨1, ![256]⟩ : Shape).Idx → EReal}
    {n n' : (⟨1, ![128]⟩ : Shape).Idx → EReal} (hq : q = q') (hk : k = k') (hv : v = v') (hr : r = r') (hg : g = g') (hw : w = w') (hb : b = b')
    (hn : n = n') (B : Fin 8) : Cert.Gla.Seq.ofArrays q k v r g w b n B = Cert.Gla.Seq.ofArrays q' k' v' r' g' w' b' n' B := by
  subst hq hk hv hr hg hw hb hn
  rfl

/-- Both compute the same output. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G6 m c, Cert.KernelIdeal.Value.run m ρ,
    (θ_run Cert.ReferenceIdeal.defs _ _).mono (fun r h c => ⟨(h.1 c).1.trans (outputs_eq m m' c fun B => ?_), (h.1 c).2⟩) (Cert.ReferenceIdeal.Gla.run m' ρ')⟩
  obtain ⟨h0, h1, h2, h3, h4, h5, h6, h7⟩ := hagree c
  exact ofArrays_congr h0 h1 h2 h3 h4 h5 h6 h7 B

/-! ## The part of a layer after its mixer -/

/-- Equal arrays make equal rows, for a mixer of one part. -/
theorem rows2_congr {x xp : (⟨3, ![8, 4096, 1024]⟩ : Shape).Idx → EReal} {mx mxp : (⟨3, ![8, 4096, 1024]⟩ : Shape).Idx → EReal} {wo wop : (⟨2, ![1024, 1024]⟩ : Shape).Idx → EReal} {g gp : (⟨1, ![1024]⟩ : Shape).Idx → EReal} {w1 w1p : (⟨2, ![1024, 4096]⟩ : Shape).Idx → EReal} {w2 w2p : (⟨2, ![4096, 1024]⟩ : Shape).Idx → EReal}
    (h0 : x = xp) (h1 : mx = mxp) (h2 : wo = wop) (h3 : g = gp) (h4 : w1 = w1p) (h5 : w2 = w2p) (i : Fin 32768) (l : Fin 1024) :
    Cert.Post.rows (Cert.Post.residual1 x mx wo) g w1 w2 i l
      = Cert.Post.rows (Cert.Post.residual1 xp mxp wop) gp w1p w2p i l := by
  subst h0 h1 h2 h3 h4 h5
  rfl

/-- The reference's frame, for a mixer of one part. -/
theorem frameReference2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Post.run m ρ)

/-- Both compute the same output, for a mixer of one part. -/
theorem value2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 6 Cert.Kernel2Ideal.cfg0.N, Cert.Kernel2Ideal.Value.run_blocks m ρ,
    (θ_run Cert.Reference2Ideal.defs _ _).mono (fun r h c => ⟨(h c).1.trans ?_, (h c).2⟩) (Cert.Reference2Ideal.Post.run m' ρ')⟩
  refine funext fun x => ?_
  obtain ⟨i, l, rfl⟩ : ∃ (i : Fin 32768) (l : Fin 1024), x = ix2 i l :=
    ⟨x 0, x 1, funext fun a => by
      match a with
      | ⟨0, _⟩ => rfl
      | ⟨1, _⟩ => rfl⟩
  obtain ⟨h0, h1, h2, h3, h4, h5⟩ := hagree c
  refine (Cert.Reference2Ideal.Post.out_apply m' c i l).trans (Eq.trans ?_ (Cert.Kernel2Ideal.Post.out_apply m c i l).symm)
  exact rows2_congr h0 h1 h2 h3 h4 h5 i l

/-- Equal arrays make equal rows, for a mixer of two parts. -/
theorem rows3_congr {x xp : (⟨3, ![8, 4096, 1024]⟩ : Shape).Idx → EReal} {oa oap : (⟨3, ![8, 4096, 512]⟩ : Shape).Idx → EReal} {ob obp : (⟨3, ![8, 4096, 512]⟩ : Shape).Idx → EReal} {wo wop : (⟨2, ![1024, 1024]⟩ : Shape).Idx → EReal} {g gp : (⟨1, ![1024]⟩ : Shape).Idx → EReal} {w1 w1p : (⟨2, ![1024, 4096]⟩ : Shape).Idx → EReal} {w2 w2p : (⟨2, ![4096, 1024]⟩ : Shape).Idx → EReal}
    (h0 : x = xp) (h1 : oa = oap) (h2 : ob = obp) (h3 : wo = wop) (h4 : g = gp) (h5 : w1 = w1p) (h6 : w2 = w2p) (i : Fin 32768) (l : Fin 1024) :
    Cert.Post.rows (Cert.Post.residual2 x oa ob wo) g w1 w2 i l
      = Cert.Post.rows (Cert.Post.residual2 xp oap obp wop) gp w1p w2p i l := by
  subst h0 h1 h2 h3 h4 h5 h6
  rfl

/-- The reference's frame, for a mixer of two parts. -/
theorem frameReference3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Post.run m ρ)

/-- Both compute the same output, for a mixer of two parts. -/
theorem value3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 7 Cert.Kernel3Ideal.cfg0.N, Cert.Kernel3Ideal.Value.run_blocks m ρ,
    (θ_run Cert.Reference3Ideal.defs _ _).mono (fun r h c => ⟨(h c).1.trans ?_, (h c).2⟩) (Cert.Reference3Ideal.Post.run m' ρ')⟩
  refine funext fun x => ?_
  obtain ⟨i, l, rfl⟩ : ∃ (i : Fin 32768) (l : Fin 1024), x = ix2 i l :=
    ⟨x 0, x 1, funext fun a => by
      match a with
      | ⟨0, _⟩ => rfl
      | ⟨1, _⟩ => rfl⟩
  obtain ⟨h0, h1, h2, h3, h4, h5, h6⟩ := hagree c
  refine (Cert.Reference3Ideal.Post.out_apply m' c i l).trans (Eq.trans ?_ (Cert.Kernel3Ideal.Post.out_apply m c i l).symm)
  exact rows3_congr h0 h1 h2 h3 h4 h5 h6 i l

/-! ## The input projection of an even layer -/

/-- Equal arrays make equal first outputs. -/
theorem outIn_congr {x xp : (⟨3, ![8, 4096, 1024]⟩ : Shape).Idx → EReal} {g gp : (⟨1, ![1024]⟩ : Shape).Idx → EReal} {w wp : (⟨2, ![1024, 3088]⟩ : Shape).Idx → EReal}
    (h0 : x = xp) (h1 : g = gp) (h2 : w = wp) (i : Fin 32768) (l : Fin 1152) : Cert.Proj.outIn x g w i l = Cert.Proj.outIn xp gp wp i l := by
  subst h0 h1 h2
  rfl

/-- Equal arrays make equal columns. -/
theorem outAt_congr {x xp : (⟨3, ![8, 4096, 1024]⟩ : Shape).Idx → EReal} {g gp : (⟨1, ![1024]⟩ : Shape).Idx → EReal} {w wp : (⟨2, ![1024, 3088]⟩ : Shape).Idx → EReal}
    (h0 : x = xp) (h1 : g = gp) (h2 : w = wp) (o : ℕ) (ho : o + 512 ≤ 3088) (i : Fin 32768) (l : Fin 512) :
    Cert.Proj.outAt o ho x g w i l = Cert.Proj.outAt o ho xp gp wp i l := by
  subst h0 h1 h2
  rfl

/-- Equal arrays make equal normed heads. -/
theorem outHead_congr {x xp : (⟨3, ![8, 4096, 1024]⟩ : Shape).Idx → EReal} {g gp : (⟨1, ![1024]⟩ : Shape).Idx → EReal} {w wp : (⟨2, ![1024, 3088]⟩ : Shape).Idx → EReal}
    {n np : (⟨1, ![64]⟩ : Shape).Idx → EReal} (h0 : x = xp) (h1 : g = gp) (h2 : w = wp) (h3 : n = np) (o : ℕ) (ho : o + 512 ≤ 3088) (i : Fin 32768) (l : Fin 512) :
    Cert.Proj.outHead o ho x g w n i l = Cert.Proj.outHead o ho xp gp wp np i l := by
  subst h0 h1 h2 h3
  rfl

/-- The reference's frame, for the input projection. -/
theorem frameReference4 : Cert.quiescent_Reference4Ideal (hReference4Ideal := Cert.Reference4Ideal.Gen.facts) := fun m ρ _ =>
  (θ_run Cert.Reference4Ideal.defs _ _).mono (fun r h => ⟨fun c => (h c).2.2.2.2.2, Idealize.ShloMosaic.sem_eq_zero_of_no_sems (by decide) r.2⟩)
    (Cert.Reference4Ideal.Proj.run m ρ)

/-- An index of a matrix, by its two coordinates. -/
theorem ix2_eta {a b : ℕ} (x : (⟨2, ![a, b]⟩ : Shape).Idx) : x = ix2 (x 0) (x 1) := funext fun k => by
  match k with
  | ⟨0, _⟩ => rfl
  | ⟨1, _⟩ => rfl

/-- Both compute the same five outputs. -/
theorem value4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    fun c => (Cert.Kernel4Ideal.Gen.dats m 0 c).arrAt 8 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, Cert.Kernel4Ideal.Value.run_blocks m ρ,
    (θ_run Cert.Reference4Ideal.defs _ _).mono (fun r h c => ?_) (Cert.Reference4Ideal.Proj.run m' ρ')⟩
  obtain ⟨h0, h1, h2, h3, h4⟩ := hagree c
  refine ⟨(h c).1.trans ?_, (h c).2.1.trans ?_, (h c).2.2.1.trans ?_, (h c).2.2.2.1.trans ?_, (h c).2.2.2.2.1.trans ?_, (h c).2.2.2.2.2⟩
  · refine funext fun x => ?_
    obtain ⟨i, l, rfl⟩ : ∃ (i : Fin 32768) (l : Fin 1152), x = ix2 i l := ⟨x 0, x 1, ix2_eta x⟩
    exact (Cert.Reference4Ideal.Proj.out0 m' c i l).trans ((outIn_congr h0 h1 h2 i l).trans (Cert.Kernel4Ideal.Proj.out6 m c i l).symm)
  · refine funext fun x => ?_
    obtain ⟨i, l, rfl⟩ : ∃ (i : Fin 32768) (l : Fin 512), x = ix2 i l := ⟨x 0, x 1, ix2_eta x⟩
    exact (Cert.Reference4Ideal.Proj.out1 m' c i l).trans ((outAt_congr h0 h1 h2 _ _ i l).trans (Cert.Kernel4Ideal.Proj.out7 m c i l).symm)
  · refine funext fun x => ?_
    obtain ⟨i, l, rfl⟩ : ∃ (i : Fin 32768) (l : Fin 512), x = ix2 i l := ⟨x 0, x 1, ix2_eta x⟩
    exact (Cert.Reference4Ideal.Proj.out2 m' c i l).trans ((outHead_congr h0 h1 h2 h3 _ _ i l).trans (Cert.Kernel4Ideal.Proj.out8 m c i l).symm)
  · refine funext fun x => ?_
    obtain ⟨i, l, rfl⟩ : ∃ (i : Fin 32768) (l : Fin 512), x = ix2 i l := ⟨x 0, x 1, ix2_eta x⟩
    exact (Cert.Reference4Ideal.Proj.out3 m' c i l).trans ((outHead_congr h0 h1 h2 h4 _ _ i l).trans (Cert.Kernel4Ideal.Proj.out9 m c i l).symm)
  · refine funext fun x => ?_
    obtain ⟨i, l, rfl⟩ : ∃ (i : Fin 32768) (l : Fin 512), x = ix2 i l := ⟨x 0, x 1, ix2_eta x⟩
    exact (Cert.Reference4Ideal.Proj.out4 m' c i l).trans ((outAt_congr h0 h1 h2 _ _ i l).trans (Cert.Kernel4Ideal.Proj.out10 m c i l).symm)

/-! ## The odd layers' mixing -/

open Cert.Odd (Re)

theorem ofArrays_odd_congr {x xp : (⟨3, ![8, 4096, 1024]⟩ : Shape).Idx → EReal} {g gp : (⟨1, ![1024]⟩ : Shape).Idx → EReal} {w wp : (⟨2, ![1024, 2048]⟩ : Shape).Idx → EReal}
    {cw cwp : (⟨2, ![3, 512]⟩ : Shape).Idx → EReal} {pw pwp : (⟨3, ![4, 128, 128]⟩ : Shape).Idx → EReal} {ps psp : (⟨1, ![512]⟩ : Shape).Idx → EReal}
    (h0 : x = xp) (h1 : g = gp) (h2 : w = wp) (h3 : cw = cwp) (h4 : pw = pwp) (h5 : ps = psp) (B : Fin 8) (n l : ℕ) :
    (Cert.Odd.Seq.ofArrays x g w cw pw ps B).y n l = (Cert.Odd.Seq.ofArrays xp gp wp cwp pwp psp B).y n l := by
  subst h0 h1 h2 h3 h4 h5
  rfl

/-- A number below infinity in absolute value is real. -/
theorem re_of_lt (a : EReal) (h : Ideal.cmp .olt (max a (-a)) (Ideal.ofBits .f32 0x7F800000#32) = 1#1) : Re a := by
  have ht : Ideal.ofBits .f32 0x7F800000#32 = (⊤ : EReal) := by simp [Ideal.ofBits, Ideal.ieee]
  rw [ht] at h
  have hlt : max a (-a) < ⊤ := by
    by_contra hn
    simp [Ideal.cmp, hn] at h
  induction a with
  | bot => simp at hlt
  | coe r => exact ⟨r, rfl⟩
  | top => simp at hlt

/-- The plain mixing runs, and ends with its arguments as they were and every counter at zero. -/
theorem frameReference5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Odd.run m ρ)

theorem frameReference5Finite : Cert.quiescent_Reference5Ideal_pre_finite_inputs (hReference5Ideal := Cert.Reference5Ideal.Gen.facts)
    (hPre_finite_inputs := Cert.Pre_finite_inputs.Gen.facts) := fun m ρ _ =>
  (θ_run Cert.Reference5Ideal.defs _ _).mono (fun r h => ⟨fun c => (h c).2, Idealize.ShloMosaic.sem_eq_zero_of_no_sems (by decide) r.2⟩)
    (Cert.Reference5Ideal.Odd.run m ρ)

/-- Over the extended reals the kernel's mixing and the plain one agree, the norm's weight and the projection's columns for the pooling being finite. -/
theorem value5 : Cert.algebraic_Kernel5Ideal_Reference5Ideal_pre_finite_inputs (hKernel5Ideal := Cert.Kernel5Ideal.Gen.facts)
    (hReference5Ideal := Cert.Reference5Ideal.Gen.facts) (hPre_finite_inputs := Cert.Pre_finite_inputs.Gen.facts) := by
  intro m ρ m' ρ' hpre hagree
  refine ⟨fun c => Cert.Kernel5Ideal.Value.G6 m c, Cert.Kernel5Ideal.Value.run m ρ,
    (θ_run Cert.Reference5Ideal.defs _ _).mono (fun r h c => ⟨(h c).1.trans ?_, (h c).2⟩) (Cert.Reference5Ideal.Odd.run m' ρ')⟩
  obtain ⟨h0, h1, h2, h3, h4, h5⟩ := hagree c
  obtain ⟨p1, p2⟩ := hpre c
  refine funext fun x => ?_
  obtain ⟨i, l, rfl⟩ : ∃ (i : Fin 32768) (l : Fin 1024), x = ix2 i l := ⟨x 0, x 1, ix2_eta x⟩
  have r1 : ∀ i, Re (Cert.Reference5Ideal.Odd.A1 m' c i) := fun i => (congrArg Re (congrFun h1 i)).mpr (re_of_lt _ (congrFun p1 i))
  have r2 : ∀ (k : Fin 1024) (l : Fin 512), Re (Cert.Reference5Ideal.Odd.A2 m' c (ix2 k ⟨1536 + l.val, by omega⟩)) := fun k l => by
    refine (congrArg Re (congrFun h2 _)).mpr (re_of_lt _ (Eq.trans ?_ (congrFun p2 (ix2 k l))))
    pointwise [Cert.Pre_finite_inputs.fn]
    rfl
  exact (Cert.Reference5Ideal.Odd.result_apply m' c r1 r2 i l).trans
    ((ofArrays_odd_congr h0 h1 h2 h3 h4 h5 _ _ _).trans (Cert.Kernel5Ideal.Odd.out_apply m c i l).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_inputs.Gen.facts,
  fun m ρ _ => Cert.Kernel.Gen.frame m ρ, fun m ρ _ => Cert.KernelIdeal.Gen.frame m ρ, frameReference,
  fun m ρ _ => Cert.Kernel2.Gen.frame m ρ, fun m ρ _ => Cert.Kernel2Ideal.Gen.frame m ρ, frameReference2,
  fun m ρ _ => Cert.Kernel3.Gen.frame m ρ, fun m ρ _ => Cert.Kernel3Ideal.Gen.frame m ρ, frameReference3,
  fun m ρ _ => Cert.Kernel4.Gen.frame m ρ, fun m ρ _ => Cert.Kernel4Ideal.Gen.frame m ρ, frameReference4,
  fun m ρ _ => Cert.Kernel5.Gen.frame m ρ, fun m ρ _ => Cert.Kernel5Ideal.Gen.frame m ρ, fun m ρ _ => Cert.Kernel5Ideal.Gen.frame m ρ,
  frameReference5, frameReference5Finite,
  trivial, value, trivial, value2, trivial, value3, trivial, value4, trivial, value5⟩

end Cert.Proof

end
